-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2_2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S2x16384x512 : Shape := ⟨3, ![2, 16384, 512]⟩
abbrev S2x16384x2 : Shape := ⟨3, ![2, 16384, 2]⟩
abbrev S512x512 : Shape := ⟨2, ![512, 512]⟩
abbrev S512 : Shape := ⟨1, ![512]⟩
abbrev S4x8x512 : Shape := ⟨3, ![4, 8, 512]⟩
abbrev S512x256 : Shape := ⟨2, ![512, 256]⟩
abbrev S256 : Shape := ⟨1, ![256]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S2x16384x256 : Shape := ⟨3, ![2, 16384, 256]⟩
abbrev S1x1x256 : Shape := ⟨3, ![1, 1, 256]⟩
abbrev S2 : Shape := ⟨1, ![2]⟩
abbrev S2x1 : Shape := ⟨2, ![2, 1]⟩
abbrev S2x512 : Shape := ⟨2, ![2, 512]⟩

class Facts : Prop where
  bcast_S_S512 : S_.BroadcastsInDim S512 (![] : Fin 0 → Fin S512.rank)
  reducesTo_S512_S_d0 : S512.ReducesTo [0] S_
  h_S_ : 0 < S_.numel
  bcast_S_S256 : S_.BroadcastsInDim S256 (![] : Fin 0 → Fin S256.rank)
  reducesTo_S256_S_d0 : S256.ReducesTo [0] S_
  bcast_S_S4x8x512 : S_.BroadcastsInDim S4x8x512 (![] : Fin 0 → Fin S4x8x512.rank)
  reducesTo_S4x8x512_S_d0_1_2 : S4x8x512.ReducesTo [0, 1, 2] S_
  reducesTo_S2x16384x512_S2x16384_d2 : S2x16384x512.ReducesTo [2] S2x16384
  bcast_S2x16384_S2x16384x1_0_1 : S2x16384.BroadcastsInDim S2x16384x1 (![0, 1] : Fin 2 → Fin S2x16384x1.rank)
  bcast_S_S2x16384x1 : S_.BroadcastsInDim S2x16384x1 (![] : Fin 0 → Fin S2x16384x1.rank)
  bcast_S2x16384x1_S2x16384x512_0_1_2 : S2x16384x1.BroadcastsInDim S2x16384x512 (![0, 1, 2] : Fin 3 → Fin S2x16384x512.rank)
  bcast_S_S2x16384 : S_.BroadcastsInDim S2x16384 (![] : Fin 0 → Fin S2x16384.rank)
  reducesTo_S2x16384_S_d0_1 : S2x16384.ReducesTo [0, 1] S_
  bcast_S512_S1x1x512_2 : S512.BroadcastsInDim S1x1x512 (![2] : Fin 1 → Fin S1x1x512.rank)
  bcast_S1x1x512_S2x16384x512_0_1_2 : S1x1x512.BroadcastsInDim S2x16384x512 (![0, 1, 2] : Fin 3 → Fin S2x16384x512.rank)
  bcast_S256_S1x1x256_2 : S256.BroadcastsInDim S1x1x256 (![2] : Fin 1 → Fin S1x1x256.rank)
  bcast_S1x1x256_S2x16384x256_0_1_2 : S1x1x256.BroadcastsInDim S2x16384x256 (![0, 1, 2] : Fin 3 → Fin S2x16384x256.rank)
  bcast_S_S2x16384x256 : S_.BroadcastsInDim S2x16384x256 (![] : Fin 0 → Fin S2x16384x256.rank)
  reducesTo_S2x16384_S2_d1 : S2x16384.ReducesTo [1] S2
  bcast_S_S2 : S_.BroadcastsInDim S2 (![] : Fin 0 → Fin S2.rank)
  bcast_S2_S2x1_0 : S2.BroadcastsInDim S2x1 (![0] : Fin 1 → Fin S2x1.rank)
  bcast_S2x1_S2x16384_0_1 : S2x1.BroadcastsInDim S2x16384 (![0, 1] : Fin 2 → Fin S2x16384.rank)
  reducesTo_S2x512_S2_d1 : S2x512.ReducesTo [1] S2
  reducesTo_S2_S_d0 : S2.ReducesTo [0] S_
  dot_S2x16384x512_S512x512_S2x16384x512_2_0_01_1_n_n_wf : DotDims.WF S2x16384x512 S512x512 S2x16384x512 [2] [0] [0, 1] [1] [] []
  dot_S2x16384x512_S512x256_S2x16384x256_2_0_01_1_n_n_wf : DotDims.WF S2x16384x512 S512x256 S2x16384x256 [2] [0] [0, 1] [1] [] []
  dot_S2x16384x256_S256_S2x16384_2_0_01_n_n_n_wf : DotDims.WF S2x16384x256 S256 S2x16384 [2] [0] [0, 1] [] [] []
  dot_S2x16384_S2x16384x512_S2x512_1_1_n_2_0_0_wf : DotDims.WF S2x16384 S2x16384x512 S2x512 [1] [1] [] [2] [0] [0]

variable [Facts]

def dot_S2x16384x512_S512x512_S2x16384x512_2_0_01_1_n_n : DotDims S2x16384x512 S512x512 S2x16384x512 where
  lhsContracting := [2]
  rhsContracting := [0]
  lhsNonContracting := [0, 1]
  rhsNonContracting := [1]
  lhsBatch := []
  rhsBatch := []
  wf := dot_S2x16384x512_S512x512_S2x16384x512_2_0_01_1_n_n_wf
def dot_S2x16384x512_S512x256_S2x16384x256_2_0_01_1_n_n : DotDims S2x16384x512 S512x256 S2x16384x256 where
  lhsContracting := [2]
  rhsContracting := [0]
  lhsNonContracting := [0, 1]
  rhsNonContracting := [1]
  lhsBatch := []
  rhsBatch := []
  wf := dot_S2x16384x512_S512x256_S2x16384x256_2_0_01_1_n_n_wf
def dot_S2x16384x256_S256_S2x16384_2_0_01_n_n_n : DotDims S2x16384x256 S256 S2x16384 where
  lhsContracting := [2]
  rhsContracting := [0]
  lhsNonContracting := [0, 1]
  rhsNonContracting := []
  lhsBatch := []
  rhsBatch := []
  wf := dot_S2x16384x256_S256_S2x16384_2_0_01_n_n_n_wf
def dot_S2x16384_S2x16384x512_S2x512_1_1_n_2_0_0 : DotDims S2x16384 S2x16384x512 S2x512 where
  lhsContracting := [1]
  rhsContracting := [1]
  lhsNonContracting := []
  rhsNonContracting := [2]
  lhsBatch := [0]
  rhsBatch := [0]
  wf := dot_S2x16384_S2x16384x512_S2x512_1_1_n_2_0_0_wf
def fn_norm {F : FTy → Type} [FloatOps F] (arg0 : FVec F S2x16384x512 .f32) : FVec F S2x16384 .f32 :=
  let v0 : FVec F S2x16384x512 .f32 := mulf arg0 arg0
  let cst : FVec F S_ .f32 := constant S_ .f32 0x00000000#32
  let v1 : FVec F S2x16384 .f32 := (fun x v => Host.reduceAdd x v reducesTo_S2x16384x512_S2x16384_d2 h_S_) v0 cst
  let v2 : FVec F S2x16384 .f32 := Host.sqrt v1
  v2

def fn_norm_0 {F : FTy → Type} [FloatOps F] (arg0 : FVec F S2x16384x512 .f32) : FVec F S2x16384x1 .f32 :=
  let v0 : FVec F S2x16384x512 .f32 := mulf arg0 arg0
  let cst : FVec F S_ .f32 := constant S_ .f32 0x00000000#32
  let v1 : FVec F S2x16384 .f32 := (fun x v => Host.reduceAdd x v reducesTo_S2x16384x512_S2x16384_d2 h_S_) v0 cst
  let v2 : FVec F S2x16384x1 .f32 := broadcastInDim S2x16384x1 ![0, 1] bcast_S2x16384_S2x16384x1_0_1 v1
  let v3 : FVec F S2x16384x1 .f32 := Host.sqrt v2
  v3

def fn_clip {F : FTy → Type} [FloatOps F] (arg0 : FVec F S2x16384x1 .f32) (arg1 : FVec F S_ .f32) : FVec F S2x16384x1 .f32 :=
  let v0 : FVec F S_ .f32 := id arg1
  let v1 : FVec F S2x16384x1 .f32 := broadcastInDim S2x16384x1 ![] bcast_S_S2x16384x1 v0
  let v2 : FVec F S2x16384x1 .f32 := maximumf v1 arg0
  v2

def fn_norm_1 {F : FTy → Type} [FloatOps F] (arg0 : FVec F S2x16384x512 .f32) : FVec F S2x16384x1 .f32 :=
  let v0 : FVec F S2x16384x512 .f32 := mulf arg0 arg0
  let cst : FVec F S_ .f32 := constant S_ .f32 0x00000000#32
  let v1 : FVec F S2x16384 .f32 := (fun x v => Host.reduceAdd x v reducesTo_S2x16384x512_S2x16384_d2 h_S_) v0 cst
  let v2 : FVec F S2x16384x1 .f32 := broadcastInDim S2x16384x1 ![0, 1] bcast_S2x16384_S2x16384x1_0_1 v1
  let v3 : FVec F S2x16384x1 .f32 := Host.sqrt v2
  v3

def fn_norm_2 {F : FTy → Type} [FloatOps F] (arg0 : FVec F S2x512 .f32) : FVec F S2 .f32 :=
  let v0 : FVec F S2x512 .f32 := mulf arg0 arg0
  let cst : FVec F S_ .f32 := constant S_ .f32 0x00000000#32
  let v1 : FVec F S2 .f32 := (fun x v => Host.reduceAdd x v reducesTo_S2x512_S2_d1 h_S_) v0 cst
  let v2 : FVec F S2 .f32 := Host.sqrt v1
  v2

def fn_part8 {F : FTy → Type} [FloatOps F] (main_v117 : IVec S_ 1) (main_v129 : FVec F S2x16384x512 .f32) (main_v148 : FVec F S2x16384 .f32) (main_v152 : FVec F S2x1 .f32) : IVec S_ 1 :=
  let main_v153 : FVec F S2x16384 .f32 := broadcastInDim S2x16384 ![0, 1] bcast_S2x1_S2x16384_0_1 main_v152
  let main_v154 : FVec F S2x16384 .f32 := subf main_v148 main_v153
  let main_v155 : FVec F S2x16384 .f32 := Host.exp main_v154
  let main_cst_37 : FVec F S_ .f32 := constant S_ .f32 0x00000000#32
  let main_v156 : FVec F S2 .f32 := (fun x v => Host.reduceAdd x v reducesTo_S2x16384_S2_d1 h_S_) main_v155 main_cst_37
  let main_v157 : FVec F S2x1 .f32 := broadcastInDim S2x1 ![0] bcast_S2_S2x1_0 main_v156
  let main_v158 : FVec F S2x16384 .f32 := broadcastInDim S2x16384 ![0, 1] bcast_S2x1_S2x16384_0_1 main_v157
  let main_v159 : FVec F S2x16384 .f32 := Host.divf main_v155 main_v158
  let main_v160 : FVec F S2x512 .f32 := (fun l r => Host.dotGeneral dot_S2x16384_S2x16384x512_S2x512_1_1_n_2_0_0 none l r) main_v159 main_v129
  let main_v161 : FVec F S2 .f32 := fn_norm_2 (F := F) main_v160
  let main_cst_38 : FVec F S_ .f32 := constant S_ .f32 0x2B8CBCCC#32
  let main_v162 : FVec F S2 .f32 := broadcastInDim S2 ![] bcast_S_S2 main_cst_38
  let main_v163 : IVec S2 1 := cmpf .oge main_v161 main_v162
  let main_cst_39 : FVec F S_ .f32 := constant S_ .f32 0x00000000#32
  let main_v164 : FVec F S2 .f32 := broadcastInDim S2 ![] bcast_S_S2 main_cst_39
  let main_v165 : IVec S2 1 := cmpf .oeq main_v161 main_v164
  let main_v166 : IVec S2 1 := ori main_v163 main_v165
  let main_c_40 : IVec S_ 1 := constantI S_ 1 1#1
  let main_v167 : IVec S_ 1 := (fun x v => Host.reduce IntOp.andi x v reducesTo_S2_S_d0 h_S_) main_v166 main_c_40
  let main_v168 : IVec S_ 1 := andi main_v117 main_v167
  main_v168

def fn_part7 {F : FTy → Type} [FloatOps F] (main_arg9 : FVec F S512x256 .f32) (main_arg10 : FVec F S256 .f32) (main_arg11 : FVec F S256 .f32) (main_arg12 : FVec F S_ .f32) (main_v117 : IVec S_ 1) (main_v129 : FVec F S2x16384x512 .f32) (main_v130 : FVec F S2x16384x256 .f32) (main_v132 : FVec F S2x16384x256 .f32) : IVec S_ 1 :=
  let main_v133 : FVec F S2x16384x256 .f32 := addf main_v130 main_v132
  let main_v134 : FVec F S2x16384x256 .f32 := Host.tanh main_v133
  let main_v135 : FVec F S2x16384x256 .f32 := (fun l r => Host.dotGeneral dot_S2x16384x512_S512x256_S2x16384x256_2_0_01_1_n_n none l r) main_v129 main_arg9
  let main_v136 : FVec F S1x1x256 .f32 := broadcastInDim S1x1x256 ![2] bcast_S256_S1x1x256_2 main_arg10
  let main_v137 : FVec F S2x16384x256 .f32 := broadcastInDim S2x16384x256 ![0, 1, 2] bcast_S1x1x256_S2x16384x256_0_1_2 main_v136
  let main_v138 : FVec F S2x16384x256 .f32 := addf main_v135 main_v137
  let main_v139 : FVec F S2x16384x256 .f32 := Host.negf main_v138
  let main_v140 : FVec F S2x16384x256 .f32 := Host.exp main_v139
  let main_cst_33 : FVec F S_ .f32 := constant S_ .f32 0x3F800000#32
  let main_v141 : FVec F S2x16384x256 .f32 := broadcastInDim S2x16384x256 ![] bcast_S_S2x16384x256 main_cst_33
  let main_v142 : FVec F S2x16384x256 .f32 := addf main_v141 main_v140
  let main_cst_34 : FVec F S_ .f32 := constant S_ .f32 0x3F800000#32
  let main_v143 : FVec F S2x16384x256 .f32 := broadcastInDim S2x16384x256 ![] bcast_S_S2x16384x256 main_cst_34
  let main_v144 : FVec F S2x16384x256 .f32 := Host.divf main_v143 main_v142
  let main_v145 : FVec F S2x16384x256 .f32 := mulf main_v134 main_v144
  let main_v146 : FVec F S2x16384 .f32 := (fun l r => Host.dotGeneral dot_S2x16384x256_S256_S2x16384_2_0_01_n_n_n none l r) main_v145 main_arg11
  let main_v147 : FVec F S2x16384 .f32 := broadcastInDim S2x16384 ![] bcast_S_S2x16384 main_arg12
  let main_v148 : FVec F S2x16384 .f32 := addf main_v146 main_v147
  let main_cst_35 : FVec F S_ .f32 := constant S_ .f32 0xFF800000#32
  let main_v149 : FVec F S2 .f32 := (fun x v => Host.reduce FloatOps.maximumf x v reducesTo_S2x16384_S2_d1 h_S_) main_v148 main_cst_35
  let main_cst_36 : FVec F S_ .f32 := constant S_ .f32 0xFF800000#32
  let main_v150 : FVec F S2 .f32 := broadcastInDim S2 ![] bcast_S_S2 main_cst_36
  let main_v151 : FVec F S2 .f32 := maximumf main_v150 main_v149
  let main_v152 : FVec F S2x1 .f32 := broadcastInDim S2x1 ![0] bcast_S2_S2x1_0 main_v151
  fn_part8 (F := F) main_v117 main_v129 main_v148 main_v152

def fn_part6 {F : FTy → Type} [FloatOps F] (main_arg2 : FVec F S2x16384x512 .f32) (main_arg4 : FVec F S512x512 .f32) (main_arg5 : FVec F S512 .f32) (main_arg7 : FVec F S512x256 .f32) (main_arg8 : FVec F S256 .f32) (main_arg9 : FVec F S512x256 .f32) (main_arg10 : FVec F S256 .f32) (main_arg11 : FVec F S256 .f32) (main_arg12 : FVec F S_ .f32) (main_v66 : IVec S_ 1) (main_v110 : FVec F S2 .f32) (main_v112 : IVec S2 1) : IVec S_ 1 :=
  let main_cst_29 : FVec F S_ .f32 := constant S_ .f32 0x00000000#32
  let main_v113 : FVec F S2 .f32 := broadcastInDim S2 ![] bcast_S_S2 main_cst_29
  let main_v114 : IVec S2 1 := cmpf .oeq main_v110 main_v113
  let main_v115 : IVec S2 1 := ori main_v112 main_v114
  let main_c_30 : IVec S_ 1 := constantI S_ 1 1#1
  let main_v116 : IVec S_ 1 := (fun x v => Host.reduce IntOp.andi x v reducesTo_S2_S_d0 h_S_) main_v115 main_c_30
  let main_v117 : IVec S_ 1 := andi main_v66 main_v116
  let main_v118 : FVec F S2x16384x1 .f32 := fn_norm_0 (F := F) main_arg2
  let main_cst_31 : FVec F S_ .f32 := constant S_ .f32 0x2B8CBCCC#32
  let main_v119 : FVec F S2x16384x1 .f32 := fn_clip (F := F) main_v118 main_cst_31
  let main_v120 : FVec F S2x16384x512 .f32 := broadcastInDim S2x16384x512 ![0, 1, 2] bcast_S2x16384x1_S2x16384x512_0_1_2 main_v119
  let main_v121 : FVec F S2x16384x512 .f32 := Host.divf main_arg2 main_v120
  let main_v122 : FVec F S2x16384x512 .f32 := (fun l r => Host.dotGeneral dot_S2x16384x512_S512x512_S2x16384x512_2_0_01_1_n_n none l r) main_v121 main_arg4
  let main_v123 : FVec F S1x1x512 .f32 := broadcastInDim S1x1x512 ![2] bcast_S512_S1x1x512_2 main_arg5
  let main_v124 : FVec F S2x16384x512 .f32 := broadcastInDim S2x16384x512 ![0, 1, 2] bcast_S1x1x512_S2x16384x512_0_1_2 main_v123
  let main_v125 : FVec F S2x16384x512 .f32 := addf main_v122 main_v124
  let main_v126 : FVec F S2x16384x1 .f32 := fn_norm_1 (F := F) main_v125
  let main_cst_32 : FVec F S_ .f32 := constant S_ .f32 0x2B8CBCCC#32
  let main_v127 : FVec F S2x16384x1 .f32 := fn_clip (F := F) main_v126 main_cst_32
  let main_v128 : FVec F S2x16384x512 .f32 := broadcastInDim S2x16384x512 ![0, 1, 2] bcast_S2x16384x1_S2x16384x512_0_1_2 main_v127
  let main_v129 : FVec F S2x16384x512 .f32 := Host.divf main_v125 main_v128
  let main_v130 : FVec F S2x16384x256 .f32 := (fun l r => Host.dotGeneral dot_S2x16384x512_S512x256_S2x16384x256_2_0_01_1_n_n none l r) main_v129 main_arg7
  let main_v131 : FVec F S1x1x256 .f32 := broadcastInDim S1x1x256 ![2] bcast_S256_S1x1x256_2 main_arg8
  let main_v132 : FVec F S2x16384x256 .f32 := broadcastInDim S2x16384x256 ![0, 1, 2] bcast_S1x1x256_S2x16384x256_0_1_2 main_v131
  fn_part7 (F := F) main_arg9 main_arg10 main_arg11 main_arg12 main_v117 main_v129 main_v130 main_v132

def fn_part5 {F : FTy → Type} [FloatOps F] (main_arg2 : FVec F S2x16384x512 .f32) (main_arg4 : FVec F S512x512 .f32) (main_arg5 : FVec F S512 .f32) (main_arg7 : FVec F S512x256 .f32) (main_arg8 : FVec F S256 .f32) (main_arg9 : FVec F S512x256 .f32) (main_arg10 : FVec F S256 .f32) (main_arg11 : FVec F S256 .f32) (main_arg12 : FVec F S_ .f32) (main_v66 : IVec S_ 1) (main_v78 : FVec F S2x16384x512 .f32) (main_v83 : FVec F S2x16384x256 .f32) (main_v91 : FVec F S2x16384x256 .f32) (main_v92 : FVec F S2x16384x256 .f32) : IVec S_ 1 :=
  let main_v93 : FVec F S2x16384x256 .f32 := Host.divf main_v92 main_v91
  let main_v94 : FVec F S2x16384x256 .f32 := mulf main_v83 main_v93
  let main_v95 : FVec F S2x16384 .f32 := (fun l r => Host.dotGeneral dot_S2x16384x256_S256_S2x16384_2_0_01_n_n_n none l r) main_v94 main_arg11
  let main_v96 : FVec F S2x16384 .f32 := broadcastInDim S2x16384 ![] bcast_S_S2x16384 main_arg12
  let main_v97 : FVec F S2x16384 .f32 := addf main_v95 main_v96
  let main_cst_25 : FVec F S_ .f32 := constant S_ .f32 0xFF800000#32
  let main_v98 : FVec F S2 .f32 := (fun x v => Host.reduce FloatOps.maximumf x v reducesTo_S2x16384_S2_d1 h_S_) main_v97 main_cst_25
  let main_cst_26 : FVec F S_ .f32 := constant S_ .f32 0xFF800000#32
  let main_v99 : FVec F S2 .f32 := broadcastInDim S2 ![] bcast_S_S2 main_cst_26
  let main_v100 : FVec F S2 .f32 := maximumf main_v99 main_v98
  let main_v101 : FVec F S2x1 .f32 := broadcastInDim S2x1 ![0] bcast_S2_S2x1_0 main_v100
  let main_v102 : FVec F S2x16384 .f32 := broadcastInDim S2x16384 ![0, 1] bcast_S2x1_S2x16384_0_1 main_v101
  let main_v103 : FVec F S2x16384 .f32 := subf main_v97 main_v102
  let main_v104 : FVec F S2x16384 .f32 := Host.exp main_v103
  let main_cst_27 : FVec F S_ .f32 := constant S_ .f32 0x00000000#32
  let main_v105 : FVec F S2 .f32 := (fun x v => Host.reduceAdd x v reducesTo_S2x16384_S2_d1 h_S_) main_v104 main_cst_27
  let main_v106 : FVec F S2x1 .f32 := broadcastInDim S2x1 ![0] bcast_S2_S2x1_0 main_v105
  let main_v107 : FVec F S2x16384 .f32 := broadcastInDim S2x16384 ![0, 1] bcast_S2x1_S2x16384_0_1 main_v106
  let main_v108 : FVec F S2x16384 .f32 := Host.divf main_v104 main_v107
  let main_v109 : FVec F S2x512 .f32 := (fun l r => Host.dotGeneral dot_S2x16384_S2x16384x512_S2x512_1_1_n_2_0_0 none l r) main_v108 main_v78
  let main_v110 : FVec F S2 .f32 := fn_norm_2 (F := F) main_v109
  let main_cst_28 : FVec F S_ .f32 := constant S_ .f32 0x2B8CBCCC#32
  let main_v111 : FVec F S2 .f32 := broadcastInDim S2 ![] bcast_S_S2 main_cst_28
  let main_v112 : IVec S2 1 := cmpf .oge main_v110 main_v111
  fn_part6 (F := F) main_arg2 main_arg4 main_arg5 main_arg7 main_arg8 main_arg9 main_arg10 main_arg11 main_arg12 main_v66 main_v110 main_v112

def fn_part4 {F : FTy → Type} [FloatOps F] (main_arg2 : FVec F S2x16384x512 .f32) (main_arg4 : FVec F S512x512 .f32) (main_arg5 : FVec F S512 .f32) (main_arg7 : FVec F S512x256 .f32) (main_arg8 : FVec F S256 .f32) (main_arg9 : FVec F S512x256 .f32) (main_arg10 : FVec F S256 .f32) (main_arg11 : FVec F S256 .f32) (main_arg12 : FVec F S_ .f32) (main_v66 : IVec S_ 1) (main_v71 : FVec F S2x16384x512 .f32) : IVec S_ 1 :=
  let main_v72 : FVec F S1x1x512 .f32 := broadcastInDim S1x1x512 ![2] bcast_S512_S1x1x512_2 main_arg5
  let main_v73 : FVec F S2x16384x512 .f32 := broadcastInDim S2x16384x512 ![0, 1, 2] bcast_S1x1x512_S2x16384x512_0_1_2 main_v72
  let main_v74 : FVec F S2x16384x512 .f32 := addf main_v71 main_v73
  let main_v75 : FVec F S2x16384x1 .f32 := fn_norm_1 (F := F) main_v74
  let main_cst_22 : FVec F S_ .f32 := constant S_ .f32 0x2B8CBCCC#32
  let main_v76 : FVec F S2x16384x1 .f32 := fn_clip (F := F) main_v75 main_cst_22
  let main_v77 : FVec F S2x16384x512 .f32 := broadcastInDim S2x16384x512 ![0, 1, 2] bcast_S2x16384x1_S2x16384x512_0_1_2 main_v76
  let main_v78 : FVec F S2x16384x512 .f32 := Host.divf main_v74 main_v77
  let main_v79 : FVec F S2x16384x256 .f32 := (fun l r => Host.dotGeneral dot_S2x16384x512_S512x256_S2x16384x256_2_0_01_1_n_n none l r) main_v78 main_arg7
  let main_v80 : FVec F S1x1x256 .f32 := broadcastInDim S1x1x256 ![2] bcast_S256_S1x1x256_2 main_arg8
  let main_v81 : FVec F S2x16384x256 .f32 := broadcastInDim S2x16384x256 ![0, 1, 2] bcast_S1x1x256_S2x16384x256_0_1_2 main_v80
  let main_v82 : FVec F S2x16384x256 .f32 := addf main_v79 main_v81
  let main_v83 : FVec F S2x16384x256 .f32 := Host.tanh main_v82
  let main_v84 : FVec F S2x16384x256 .f32 := (fun l r => Host.dotGeneral dot_S2x16384x512_S512x256_S2x16384x256_2_0_01_1_n_n none l r) main_v78 main_arg9
  let main_v85 : FVec F S1x1x256 .f32 := broadcastInDim S1x1x256 ![2] bcast_S256_S1x1x256_2 main_arg10
  let main_v86 : FVec F S2x16384x256 .f32 := broadcastInDim S2x16384x256 ![0, 1, 2] bcast_S1x1x256_S2x16384x256_0_1_2 main_v85
  let main_v87 : FVec F S2x16384x256 .f32 := addf main_v84 main_v86
  let main_v88 : FVec F S2x16384x256 .f32 := Host.negf main_v87
  let main_v89 : FVec F S2x16384x256 .f32 := Host.exp main_v88
  let main_cst_23 : FVec F S_ .f32 := constant S_ .f32 0x3F800000#32
  let main_v90 : FVec F S2x16384x256 .f32 := broadcastInDim S2x16384x256 ![] bcast_S_S2x16384x256 main_cst_23
  let main_v91 : FVec F S2x16384x256 .f32 := addf main_v90 main_v89
  let main_cst_24 : FVec F S_ .f32 := constant S_ .f32 0x3F800000#32
  let main_v92 : FVec F S2x16384x256 .f32 := broadcastInDim S2x16384x256 ![] bcast_S_S2x16384x256 main_cst_24
  fn_part5 (F := F) main_arg2 main_arg4 main_arg5 main_arg7 main_arg8 main_arg9 main_arg10 main_arg11 main_arg12 main_v66 main_v78 main_v83 main_v91 main_v92

def fn_part3 {F : FTy → Type} [FloatOps F] (main_arg0 : FVec F S2x16384x512 .f32) (main_arg2 : FVec F S2x16384x512 .f32) (main_arg4 : FVec F S512x512 .f32) (main_arg5 : FVec F S512 .f32) (main_arg7 : FVec F S512x256 .f32) (main_arg8 : FVec F S256 .f32) (main_arg9 : FVec F S512x256 .f32) (main_arg10 : FVec F S256 .f32) (main_arg11 : FVec F S256 .f32) (main_arg12 : FVec F S_ .f32) (main_v42 : IVec S_ 1) (main_v44 : FVec F S2x16384 .f32) (main_v50 : FVec F S2x16384 .f32) (main_v52 : IVec S2x16384 1) (main_cst_16 : FVec F S_ .f32) : IVec S_ 1 :=
  let main_v53 : FVec F S2x16384 .f32 := broadcastInDim S2x16384 ![] bcast_S_S2x16384 main_cst_16
  let main_v54 : IVec S2x16384 1 := cmpf .oge main_v50 main_v53
  let main_v55 : IVec S2x16384 1 := andi main_v52 main_v54
  let main_cst_17 : FVec F S_ .f32 := constant S_ .f32 0x00000000#32
  let main_v56 : FVec F S2x16384 .f32 := broadcastInDim S2x16384 ![] bcast_S_S2x16384 main_cst_17
  let main_v57 : IVec S2x16384 1 := cmpf .oeq main_v44 main_v56
  let main_cst_18 : FVec F S_ .f32 := constant S_ .f32 0x00000000#32
  let main_v58 : FVec F S2x16384 .f32 := broadcastInDim S2x16384 ![] bcast_S_S2x16384 main_cst_18
  let main_v59 : IVec S2x16384 1 := cmpf .oeq main_v50 main_v58
  let main_v60 : IVec S2x16384 1 := andi main_v57 main_v59
  let main_v61 : IVec S2x16384 1 := ori main_v55 main_v60
  let main_cst_19 : FVec F S_ .f32 := constant S_ .f32 0x7F800000#32
  let main_v62 : FVec F S2x16384 .f32 := broadcastInDim S2x16384 ![] bcast_S_S2x16384 main_cst_19
  let main_v63 : IVec S2x16384 1 := cmpf .oeq main_v44 main_v62
  let main_v64 : IVec S2x16384 1 := ori main_v61 main_v63
  let main_c_20 : IVec S_ 1 := constantI S_ 1 1#1
  let main_v65 : IVec S_ 1 := (fun x v => Host.reduce IntOp.andi x v reducesTo_S2x16384_S_d0_1 h_S_) main_v64 main_c_20
  let main_v66 : IVec S_ 1 := andi main_v42 main_v65
  let main_v67 : FVec F S2x16384x1 .f32 := fn_norm_0 (F := F) main_arg0
  let main_cst_21 : FVec F S_ .f32 := constant S_ .f32 0x2B8CBCCC#32
  let main_v68 : FVec F S2x16384x1 .f32 := fn_clip (F := F) main_v67 main_cst_21
  let main_v69 : FVec F S2x16384x512 .f32 := broadcastInDim S2x16384x512 ![0, 1, 2] bcast_S2x16384x1_S2x16384x512_0_1_2 main_v68
  let main_v70 : FVec F S2x16384x512 .f32 := Host.divf main_arg0 main_v69
  let main_v71 : FVec F S2x16384x512 .f32 := (fun l r => Host.dotGeneral dot_S2x16384x512_S512x512_S2x16384x512_2_0_01_1_n_n none l r) main_v70 main_arg4
  fn_part4 (F := F) main_arg2 main_arg4 main_arg5 main_arg7 main_arg8 main_arg9 main_arg10 main_arg11 main_arg12 main_v66 main_v71

def fn_part2 {F : FTy → Type} [FloatOps F] (main_arg0 : FVec F S2x16384x512 .f32) (main_arg2 : FVec F S2x16384x512 .f32) (main_arg4 : FVec F S512x512 .f32) (main_arg5 : FVec F S512 .f32) (main_arg7 : FVec F S512x256 .f32) (main_arg8 : FVec F S256 .f32) (main_arg9 : FVec F S512x256 .f32) (main_arg10 : FVec F S256 .f32) (main_arg11 : FVec F S256 .f32) (main_arg12 : FVec F S_ .f32) (main_v18 : IVec S_ 1) (main_v20 : FVec F S2x16384 .f32) (main_v26 : FVec F S2x16384 .f32) (main_v31 : IVec S2x16384 1) (main_v33 : IVec S2x16384 1) (main_cst_11 : FVec F S_ .f32) : IVec S_ 1 :=
  let main_v34 : FVec F S2x16384 .f32 := broadcastInDim S2x16384 ![] bcast_S_S2x16384 main_cst_11
  let main_v35 : IVec S2x16384 1 := cmpf .oeq main_v26 main_v34
  let main_v36 : IVec S2x16384 1 := andi main_v33 main_v35
  let main_v37 : IVec S2x16384 1 := ori main_v31 main_v36
  let main_cst_12 : FVec F S_ .f32 := constant S_ .f32 0x7F800000#32
  let main_v38 : FVec F S2x16384 .f32 := broadcastInDim S2x16384 ![] bcast_S_S2x16384 main_cst_12
  let main_v39 : IVec S2x16384 1 := cmpf .oeq main_v20 main_v38
  let main_v40 : IVec S2x16384 1 := ori main_v37 main_v39
  let main_c_13 : IVec S_ 1 := constantI S_ 1 1#1
  let main_v41 : IVec S_ 1 := (fun x v => Host.reduce IntOp.andi x v reducesTo_S2x16384_S_d0_1 h_S_) main_v40 main_c_13
  let main_v42 : IVec S_ 1 := andi main_v18 main_v41
  let main_v43 : FVec F S2x16384x512 .f32 := (fun l r => Host.dotGeneral dot_S2x16384x512_S512x512_S2x16384x512_2_0_01_1_n_n none l r) main_arg2 main_arg4
  let main_v44 : FVec F S2x16384 .f32 := fn_norm (F := F) main_v43
  let main_v45 : FVec F S2x16384x1 .f32 := fn_norm_0 (F := F) main_arg2
  let main_cst_14 : FVec F S_ .f32 := constant S_ .f32 0x2B8CBCCC#32
  let main_v46 : FVec F S2x16384x1 .f32 := fn_clip (F := F) main_v45 main_cst_14
  let main_v47 : FVec F S2x16384x512 .f32 := broadcastInDim S2x16384x512 ![0, 1, 2] bcast_S2x16384x1_S2x16384x512_0_1_2 main_v46
  let main_v48 : FVec F S2x16384x512 .f32 := Host.divf main_arg2 main_v47
  let main_v49 : FVec F S2x16384x512 .f32 := (fun l r => Host.dotGeneral dot_S2x16384x512_S512x512_S2x16384x512_2_0_01_1_n_n none l r) main_v48 main_arg4
  let main_v50 : FVec F S2x16384 .f32 := fn_norm (F := F) main_v49
  let main_cst_15 : FVec F S_ .f32 := constant S_ .f32 0x2B8CBCCC#32
  let main_v51 : FVec F S2x16384 .f32 := broadcastInDim S2x16384 ![] bcast_S_S2x16384 main_cst_15
  let main_v52 : IVec S2x16384 1 := cmpf .oge main_v44 main_v51
  let main_cst_16 : FVec F S_ .f32 := constant S_ .f32 0x2B8CBCCC#32
  fn_part3 (F := F) main_arg0 main_arg2 main_arg4 main_arg5 main_arg7 main_arg8 main_arg9 main_arg10 main_arg11 main_arg12 main_v42 main_v44 main_v50 main_v52 main_cst_16

def fn_part1 {F : FTy → Type} [FloatOps F] (main_arg0 : FVec F S2x16384x512 .f32) (main_arg2 : FVec F S2x16384x512 .f32) (main_arg4 : FVec F S512x512 .f32) (main_arg5 : FVec F S512 .f32) (main_arg7 : FVec F S512x256 .f32) (main_arg8 : FVec F S256 .f32) (main_arg9 : FVec F S512x256 .f32) (main_arg10 : FVec F S256 .f32) (main_arg11 : FVec F S256 .f32) (main_arg12 : FVec F S_ .f32) (main_v10 : IVec S_ 1) (main_v14 : IVec S_ 1) (main_v15 : FVec F S_ .f32) : IVec S_ 1 :=
  let main_cst_6 : FVec F S_ .f32 := constant S_ .f32 0x7F800000#32
  let main_v16 : IVec S_ 1 := cmpf .olt main_v15 main_cst_6
  let main_v17 : IVec S_ 1 := andi main_v14 main_v16
  let main_v18 : IVec S_ 1 := andi main_v10 main_v17
  let main_v19 : FVec F S2x16384x512 .f32 := (fun l r => Host.dotGeneral dot_S2x16384x512_S512x512_S2x16384x512_2_0_01_1_n_n none l r) main_arg0 main_arg4
  let main_v20 : FVec F S2x16384 .f32 := fn_norm (F := F) main_v19
  let main_v21 : FVec F S2x16384x1 .f32 := fn_norm_0 (F := F) main_arg0
  let main_cst_7 : FVec F S_ .f32 := constant S_ .f32 0x2B8CBCCC#32
  let main_v22 : FVec F S2x16384x1 .f32 := fn_clip (F := F) main_v21 main_cst_7
  let main_v23 : FVec F S2x16384x512 .f32 := broadcastInDim S2x16384x512 ![0, 1, 2] bcast_S2x16384x1_S2x16384x512_0_1_2 main_v22
  let main_v24 : FVec F S2x16384x512 .f32 := Host.divf main_arg0 main_v23
  let main_v25 : FVec F S2x16384x512 .f32 := (fun l r => Host.dotGeneral dot_S2x16384x512_S512x512_S2x16384x512_2_0_01_1_n_n none l r) main_v24 main_arg4
  let main_v26 : FVec F S2x16384 .f32 := fn_norm (F := F) main_v25
  let main_cst_8 : FVec F S_ .f32 := constant S_ .f32 0x2B8CBCCC#32
  let main_v27 : FVec F S2x16384 .f32 := broadcastInDim S2x16384 ![] bcast_S_S2x16384 main_cst_8
  let main_v28 : IVec S2x16384 1 := cmpf .oge main_v20 main_v27
  let main_cst_9 : FVec F S_ .f32 := constant S_ .f32 0x2B8CBCCC#32
  let main_v29 : FVec F S2x16384 .f32 := broadcastInDim S2x16384 ![] bcast_S_S2x16384 main_cst_9
  let main_v30 : IVec S2x16384 1 := cmpf .oge main_v26 main_v29
  let main_v31 : IVec S2x16384 1 := andi main_v28 main_v30
  let main_cst_10 : FVec F S_ .f32 := constant S_ .f32 0x00000000#32
  let main_v32 : FVec F S2x16384 .f32 := broadcastInDim S2x16384 ![] bcast_S_S2x16384 main_cst_10
  let main_v33 : IVec S2x16384 1 := cmpf .oeq main_v20 main_v32
  let main_cst_11 : FVec F S_ .f32 := constant S_ .f32 0x00000000#32
  fn_part2 (F := F) main_arg0 main_arg2 main_arg4 main_arg5 main_arg7 main_arg8 main_arg9 main_arg10 main_arg11 main_arg12 main_v18 main_v20 main_v26 main_v31 main_v33 main_cst_11

def fn {F : FTy → Type} [FloatOps F] (main_arg0 : FVec F S2x16384x512 .f32) (main_arg1 : FVec F S2x16384x2 .f32) (main_arg2 : FVec F S2x16384x512 .f32) (main_arg3 : FVec F S2x16384x2 .f32) (main_arg4 : FVec F S512x512 .f32) (main_arg5 : FVec F S512 .f32) (main_arg6 : FVec F S4x8x512 .f32) (main_arg7 : FVec F S512x256 .f32) (main_arg8 : FVec F S256 .f32) (main_arg9 : FVec F S512x256 .f32) (main_arg10 : FVec F S256 .f32) (main_arg11 : FVec F S256 .f32) (main_arg12 : FVec F S_ .f32) : IVec S_ 1 :=
  let main_cst : FVec F S_ .f32 := constant S_ .f32 0x00000000#32
  let main_v0 : FVec F S512 .f32 := broadcastInDim S512 ![] bcast_S_S512 main_cst
  let main_v1 : IVec S512 1 := cmpf .oeq main_arg5 main_v0
  let main_c : IVec S_ 1 := constantI S_ 1 1#1
  let main_v2 : IVec S_ 1 := (fun x v => Host.reduce IntOp.andi x v reducesTo_S512_S_d0 h_S_) main_v1 main_c
  let main_cst_0 : FVec F S_ .f32 := constant S_ .f32 0x00000000#32
  let main_v3 : FVec F S256 .f32 := broadcastInDim S256 ![] bcast_S_S256 main_cst_0
  let main_v4 : IVec S256 1 := cmpf .oeq main_arg8 main_v3
  let main_c_1 : IVec S_ 1 := constantI S_ 1 1#1
  let main_v5 : IVec S_ 1 := (fun x v => Host.reduce IntOp.andi x v reducesTo_S256_S_d0 h_S_) main_v4 main_c_1
  let main_v6 : IVec S_ 1 := andi main_v2 main_v5
  let main_cst_2 : FVec F S_ .f32 := constant S_ .f32 0x00000000#32
  let main_v7 : FVec F S256 .f32 := broadcastInDim S256 ![] bcast_S_S256 main_cst_2
  let main_v8 : IVec S256 1 := cmpf .oeq main_arg10 main_v7
  let main_c_3 : IVec S_ 1 := constantI S_ 1 1#1
  let main_v9 : IVec S_ 1 := (fun x v => Host.reduce IntOp.andi x v reducesTo_S256_S_d0 h_S_) main_v8 main_c_3
  let main_v10 : IVec S_ 1 := andi main_v6 main_v9
  let main_v11 : FVec F S4x8x512 .f32 := Host.absf main_arg6
  let main_cst_4 : FVec F S_ .f32 := constant S_ .f32 0x7F800000#32
  let main_v12 : FVec F S4x8x512 .f32 := broadcastInDim S4x8x512 ![] bcast_S_S4x8x512 main_cst_4
  let main_v13 : IVec S4x8x512 1 := cmpf .olt main_v11 main_v12
  let main_c_5 : IVec S_ 1 := constantI S_ 1 1#1
  let main_v14 : IVec S_ 1 := (fun x v => Host.reduce IntOp.andi x v reducesTo_S4x8x512_S_d0_1_2 h_S_) main_v13 main_c_5
  let main_v15 : FVec F S_ .f32 := Host.absf main_arg12
  fn_part1 (F := F) main_arg0 main_arg2 main_arg4 main_arg5 main_arg7 main_arg8 main_arg9 main_arg10 main_arg11 main_arg12 main_v10 main_v14 main_v15
-- ==== Kernel.lean ====
abbrev S2x16384x512 : Shape := ⟨3, ![2, 16384, 512]⟩
abbrev S2x16384x2 : Shape := ⟨3, ![2, 16384, 2]⟩
abbrev S512x512 : Shape := ⟨2, ![512, 512]⟩
abbrev S512 : Shape := ⟨1, ![512]⟩
abbrev S4x8x512 : Shape := ⟨3, ![4, 8, 512]⟩
abbrev S512x256 : Shape := ⟨2, ![512, 256]⟩
abbrev S256 : Shape := ⟨1, ![256]⟩
abbrev S_ : Shape := ⟨0, ![]⟩
abbrev S32x512 : Shape := ⟨2, ![32, 512]⟩
abbrev S1x256 : Shape := ⟨2, ![1, 256]⟩
abbrev S2x16384x4 : Shape := ⟨3, ![2, 16384, 4]⟩
abbrev S2x4 : Shape := ⟨2, ![2, 4]⟩
abbrev S2x2048x512 : Shape := ⟨3, ![2, 2048, 512]⟩
abbrev S2x2048x4 : Shape := ⟨3, ![2, 2048, 4]⟩
abbrev S512x544 : Shape := ⟨2, ![512, 544]⟩
abbrev S8x512 : Shape := ⟨2, ![8, 512]⟩
abbrev S4 : Shape := ⟨1, ![4]⟩
abbrev S512x32 : Shape := ⟨2, ![512, 32]⟩
abbrev S1x2048x512 : Shape := ⟨3, ![1, 2048, 512]⟩
abbrev S2048x512 : Shape := ⟨2, ![2048, 512]⟩
abbrev S2048 : Shape := ⟨1, ![2048]⟩
abbrev S2048x1 : Shape := ⟨2, ![2048, 1]⟩
abbrev S2048x544 : Shape := ⟨2, ![2048, 544]⟩
abbrev S2048x256 : Shape := ⟨2, ![2048, 256]⟩
abbrev S2048x32 : Shape := ⟨2, ![2048, 32]⟩
abbrev S32x4 : Shape := ⟨2, ![32, 4]⟩
abbrev S2048x4 : Shape := ⟨2, ![2048, 4]⟩
abbrev S1x2048x4 : Shape := ⟨3, ![1, 2048, 4]⟩
abbrev S1x2048x1 : Shape := ⟨3, ![1, 2048, 1]⟩
abbrev S1 : Shape := ⟨1, ![1]⟩
abbrev S1x1x1 : Shape := ⟨3, ![1, 1, 1]⟩
abbrev S256x8x512 : Shape := ⟨3, ![256, 8, 512]⟩
abbrev S1x8x512 : Shape := ⟨3, ![1, 8, 512]⟩
abbrev S1x512 : Shape := ⟨2, ![1, 512]⟩
abbrev S1x1 : Shape := ⟨2, ![1, 1]⟩
abbrev S2x512 : Shape := ⟨2, ![2, 512]⟩
abbrev S4x512 : Shape := ⟨2, ![4, 512]⟩
abbrev S4x1 : Shape := ⟨2, ![4, 1]⟩
abbrev S2 : Shape := ⟨1, ![2]⟩
abbrev S2x1 : Shape := ⟨2, ![2, 1]⟩

abbrev nBuf : Space → Nat
  | .hbm => 23
  | .vmem => 17
  | .smem => 1
  | _ => 0

abbrev bufTy : (tb : Table) → Fin (tcTables nBuf tb) → BufTy
  | .hbm, ⟨0, _⟩ => ⟨S2x16384x512, .f32⟩
  | .hbm, ⟨1, _⟩ => ⟨S2x16384x2, .f32⟩
  | .hbm, ⟨2, _⟩ => ⟨S2x16384x512, .f32⟩
  | .hbm, ⟨3, _⟩ => ⟨S2x16384x2, .f32⟩
  | .hbm, ⟨4, _⟩ => ⟨S512x512, .f32⟩
  | .hbm, ⟨5, _⟩ => ⟨S512, .f32⟩
  | .hbm, ⟨6, _⟩ => ⟨S4x8x512, .f32⟩
  | .hbm, ⟨7, _⟩ => ⟨S512x256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S256, .f32⟩
  | .hbm, ⟨12, _⟩ => ⟨S_, .f32⟩
  | .hbm, ⟨13, _⟩ => ⟨S32x512, .f32⟩
  | .hbm, ⟨14, _⟩ => ⟨S1x256, .f32⟩
  | .hbm, ⟨15, _⟩ => ⟨S2x16384x4, .f32⟩
  | .hbm, ⟨16, _⟩ => ⟨S2x16384x4, .f32⟩
  | .hbm, ⟨17, _⟩ => ⟨S2x4, .f32⟩
  | .hbm, ⟨18, _⟩ => ⟨S2x4, .i32⟩
  | .hbm, ⟨19, _⟩ => ⟨S_, .f32⟩
  | .hbm, ⟨20, _⟩ => ⟨S_, .i32⟩
  | .hbm, ⟨21, _⟩ => ⟨S2, .f32⟩
  | .hbm, ⟨22, _⟩ => ⟨S2, .i32⟩
  | .local _ .vmem, ⟨0, _⟩ => ⟨S2x2048x512, .f32⟩
  | .local _ .vmem, ⟨1, _⟩ => ⟨S2x2048x512, .f32⟩
  | .local _ .vmem, ⟨2, _⟩ => ⟨S2x2048x512, .f32⟩
  | .local _ .vmem, ⟨3, _⟩ => ⟨S2x2048x512, .f32⟩
  | .local _ .vmem, ⟨4, _⟩ => ⟨S512x512, .f32⟩
  | .local _ .vmem, ⟨5, _⟩ => ⟨S512x256, .f32⟩
  | .local _ .vmem, ⟨6, _⟩ => ⟨S512x256, .f32⟩
  | .local _ .vmem, ⟨7, _⟩ => ⟨S32x512, .f32⟩
  | .local _ .vmem, ⟨8, _⟩ => ⟨S1x256, .f32⟩
  | .local _ .vmem, ⟨9, _⟩ => ⟨S2x2048x4, .f32⟩
  | .local _ .vmem, ⟨10, _⟩ => ⟨S2x2048x4, .f32⟩
  | .local _ .vmem, ⟨11, _⟩ => ⟨S2x2048x4, .f32⟩
  | .local _ .vmem, ⟨12, _⟩ => ⟨S2x2048x4, .f32⟩
  | .local _ .vmem, ⟨13, _⟩ => ⟨S2x4, .f32⟩
  | .local _ .vmem, ⟨14, _⟩ => ⟨S512x544, .f32⟩
  | .local _ .vmem, ⟨15, _⟩ => ⟨S4x8x512, .f32⟩
  | .local _ .vmem, ⟨16, _⟩ => ⟨S8x512, .f32⟩
  | .local _ .smem, ⟨0, _⟩ => ⟨S4, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond14 (i : grid0.Coords) : BitVec 1 :=
  let arg0 : BitVec 32 := BitVec.ofNat 32 (i 0).val
  let c7_i32_127 : BitVec 32 := 7#32
  let v351 : BitVec 1 := Scalar.cmpi .eq arg0 c7_i32_127
  let v352 : BitVec 32 := Scalar.extui v351
  let c0_i32_128 : BitVec 32 := 0#32
  let v353 : BitVec 1 := Scalar.cmpi .ne v352 c0_i32_128
  v353

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x2048x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2048x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "eps_sq" => some ((5316911940649 / 5316911983139663491615228241121378304 : ℝ) : EReal)
  | _ => none
-- ==== ReferenceIdeal.lean ====
abbrev S2x16384x512 : Shape := ⟨3, ![2, 16384, 512]⟩
abbrev S2x16384x2 : Shape := ⟨3, ![2, 16384, 2]⟩
abbrev S512x512 : Shape := ⟨2, ![512, 512]⟩
abbrev S512 : Shape := ⟨1, ![512]⟩
abbrev S4x8x512 : Shape := ⟨3, ![4, 8, 512]⟩
abbrev S512x256 : Shape := ⟨2, ![512, 256]⟩
abbrev S256 : Shape := ⟨1, ![256]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S2x16384x4x8 : Shape := ⟨4, ![2, 16384, 4, 8]⟩
abbrev S2x16384x4 : Shape := ⟨3, ![2, 16384, 4]⟩
abbrev S2x16384x4x1 : Shape := ⟨4, ![2, 16384, 4, 1]⟩
abbrev S2x16384x256 : Shape := ⟨3, ![2, 16384, 256]⟩
abbrev S1x1x256 : Shape := ⟨3, ![1, 1, 256]⟩
abbrev S2 : Shape := ⟨1, ![2]⟩
abbrev S2x1 : Shape := ⟨2, ![2, 1]⟩
abbrev S2x512 : Shape := ⟨2, ![2, 512]⟩
abbrev S4x512 : Shape := ⟨2, ![4, 512]⟩
abbrev S4 : Shape := ⟨1, ![4]⟩
abbrev S4x1 : Shape := ⟨2, ![4, 1]⟩
abbrev S512x4 : Shape := ⟨2, ![512, 4]⟩
abbrev S2x4 : Shape := ⟨2, ![2, 4]⟩

abbrev nBuf : Space → Nat
  | .hbm => 236
  | .vmem => 0
  | .smem => 0
  | _ => 0

abbrev hbmTy0_0 (i : Nat) : BufTy := match i % 128 with
  | 0 => ⟨S2x16384x512, .f32⟩
  | 1 => ⟨S2x16384x2, .f32⟩
  | 2 => ⟨S2x16384x512, .f32⟩
  | 3 => ⟨S2x16384x2, .f32⟩
  | 4 => ⟨S512x512, .f32⟩
  | 5 => ⟨S512, .f32⟩
  | 6 => ⟨S4x8x512, .f32⟩
  | 7 => ⟨S512x256, .f32⟩
  | 8 => ⟨S256, .f32⟩
  | 9 => ⟨S512x256, .f32⟩
  | 10 => ⟨S256, .f32⟩
  | 11 => ⟨S256, .f32⟩
  | 12 => ⟨S_, .f32⟩
  | 13 => ⟨S2x16384x512, .f32⟩
  | 14 => ⟨S_, .f32⟩
  | 15 => ⟨S2x16384, .f32⟩
  | 16 => ⟨S2x16384x1, .f32⟩
  | 17 => ⟨S2x16384x1, .f32⟩
  | 18 => ⟨S_, .f32⟩
  | 19 => ⟨S_, .f32⟩
  | 20 => ⟨S2x16384x1, .f32⟩
  | 21 => ⟨S2x16384x1, .f32⟩
  | 22 => ⟨S2x16384x512, .f32⟩
  | 23 => ⟨S2x16384x512, .f32⟩
  | 24 => ⟨S2x16384x512, .f32⟩
  | 25 => ⟨S1x1x512, .f32⟩
  | 26 => ⟨S2x16384x512, .f32⟩
  | 27 => ⟨S2x16384x512, .f32⟩
  | 28 => ⟨S2x16384x512, .f32⟩
  | 29 => ⟨S_, .f32⟩
  | 30 => ⟨S2x16384, .f32⟩
  | 31 => ⟨S2x16384x1, .f32⟩
  | 32 => ⟨S2x16384x1, .f32⟩
  | 33 => ⟨S_, .f32⟩
  | 34 => ⟨S_, .f32⟩
  | 35 => ⟨S2x16384x1, .f32⟩
  | 36 => ⟨S2x16384x1, .f32⟩
  | 37 => ⟨S2x16384x512, .f32⟩
  | 38 => ⟨S2x16384x512, .f32⟩
  | 39 => ⟨S2x16384x512, .f32⟩
  | 40 => ⟨S_, .f32⟩
  | 41 => ⟨S2x16384, .f32⟩
  | 42 => ⟨S2x16384x1, .f32⟩
  | 43 => ⟨S2x16384x1, .f32⟩
  | 44 => ⟨S_, .f32⟩
  | 45 => ⟨S_, .f32⟩
  | 46 => ⟨S2x16384x1, .f32⟩
  | 47 => ⟨S2x16384x1, .f32⟩
  | 48 => ⟨S2x16384x512, .f32⟩
  | 49 => ⟨S2x16384x512, .f32⟩
  | 50 => ⟨S2x16384x512, .f32⟩
  | 51 => ⟨S1x1x512, .f32⟩
  | 52 => ⟨S2x16384x512, .f32⟩
  | 53 => ⟨S2x16384x512, .f32⟩
  | 54 => ⟨S2x16384x512, .f32⟩
  | 55 => ⟨S_, .f32⟩
  | 56 => ⟨S2x16384, .f32⟩
  | 57 => ⟨S2x16384x1, .f32⟩
  | 58 => ⟨S2x16384x1, .f32⟩
  | 59 => ⟨S_, .f32⟩
  | 60 => ⟨S_, .f32⟩
  | 61 => ⟨S2x16384x1, .f32⟩
  | 62 => ⟨S2x16384x1, .f32⟩
  | 63 => ⟨S2x16384x512, .f32⟩
  | 64 => ⟨S2x16384x512, .f32⟩
  | 65 => ⟨S2x16384x4x8, .f32⟩
  | 66 => ⟨S_, .f32⟩
  | 67 => ⟨S2x16384x4x8, .f32⟩
  | 68 => ⟨S2x16384x4x8, .f32⟩
  | 69 => ⟨S_, .f32⟩
  | 70 => ⟨S2x16384x4, .f32⟩
  | 71 => ⟨S_, .f32⟩
  | 72 => ⟨S2x16384x4, .f32⟩
  | 73 => ⟨S2x16384x4, .f32⟩
  | 74 => ⟨S2x16384x4x1, .f32⟩
  | 75 => ⟨S2x16384x4x8, .f32⟩
  | 76 => ⟨S2x16384x4x8, .f32⟩
  | 77 => ⟨S2x16384x4x8, .f32⟩
  | 78 => ⟨S_, .f32⟩
  | 79 => ⟨S2x16384x4, .f32⟩
  | 80 => ⟨S2x16384x4x1, .f32⟩
  | 81 => ⟨S2x16384x4x8, .f32⟩
  | 82 => ⟨S2x16384x4x8, .f32⟩
  | 83 => ⟨S2x16384x4x8, .f32⟩
  | 84 => ⟨S2x16384x4, .f32⟩
  | 85 => ⟨S2x16384x4x8, .f32⟩
  | 86 => ⟨S_, .f32⟩
  | 87 => ⟨S2x16384x4x8, .f32⟩
  | 88 => ⟨S2x16384x4x8, .f32⟩
  | 89 => ⟨S_, .f32⟩
  | 90 => ⟨S2x16384x4, .f32⟩
  | 91 => ⟨S_, .f32⟩
  | 92 => ⟨S2x16384x4, .f32⟩
  | 93 => ⟨S2x16384x4, .f32⟩
  | 94 => ⟨S2x16384x4x1, .f32⟩
  | 95 => ⟨S2x16384x4x8, .f32⟩
  | 96 => ⟨S2x16384x4x8, .f32⟩
  | 97 => ⟨S2x16384x4x8, .f32⟩
  | 98 => ⟨S_, .f32⟩
  | 99 => ⟨S2x16384x4, .f32⟩
  | 100 => ⟨S2x16384x4x1, .f32⟩
  | 101 => ⟨S2x16384x4x8, .f32⟩
  | 102 => ⟨S2x16384x4x8, .f32⟩
  | 103 => ⟨S2x16384x4x8, .f32⟩
  | 104 => ⟨S2x16384x4, .f32⟩
  | 105 => ⟨S2x16384x256, .f32⟩
  | 106 => ⟨S1x1x256, .f32⟩
  | 107 => ⟨S2x16384x256, .f32⟩
  | 108 => ⟨S2x16384x256, .f32⟩
  | 109 => ⟨S2x16384x256, .f32⟩
  | 110 => ⟨S2x16384x256, .f32⟩
  | 111 => ⟨S1x1x256, .f32⟩
  | 112 => ⟨S2x16384x256, .f32⟩
  | 113 => ⟨S2x16384x256, .f32⟩
  | 114 => ⟨S2x16384x256, .f32⟩
  | 115 => ⟨S2x16384x256, .f32⟩
  | 116 => ⟨S_, .f32⟩
  | 117 => ⟨S2x16384x256, .f32⟩
  | 118 => ⟨S2x16384x256, .f32⟩
  | 119 => ⟨S_, .f32⟩
  | 120 => ⟨S2x16384x256, .f32⟩
  | 121 => ⟨S2x16384x256, .f32⟩
  | 122 => ⟨S2x16384x256, .f32⟩
  | 123 => ⟨S2x16384, .f32⟩
  | 124 => ⟨S2x16384, .f32⟩
  | 125 => ⟨S2x16384, .f32⟩
  | 126 => ⟨S_, .f32⟩
  | 127 => ⟨S2, .f32⟩
  | _ => ⟨S2x16384x512, .f32⟩

abbrev hbmTy0_1 (i : Nat) : BufTy := match i % 128 with
  | 0 => ⟨S_, .f32⟩
  | 1 => ⟨S2, .f32⟩
  | 2 => ⟨S2, .f32⟩
  | 3 => ⟨S2x1, .f32⟩
  | 4 => ⟨S2x16384, .f32⟩
  | 5 => ⟨S2x16384, .f32⟩
  | 6 => ⟨S2x16384, .f32⟩
  | 7 => ⟨S_, .f32⟩
  | 8 => ⟨S2, .f32⟩
  | 9 => ⟨S2x1, .f32⟩
  | 10 => ⟨S2x16384, .f32⟩
  | 11 => ⟨S2x16384, .f32⟩
  | 12 => ⟨S2x512, .f32⟩
  | 13 => ⟨S2x512, .f32⟩
  | 14 => ⟨S_, .f32⟩
  | 15 => ⟨S2, .f32⟩
  | 16 => ⟨S2x1, .f32⟩
  | 17 => ⟨S2x1, .f32⟩
  | 18 => ⟨S_, .f32⟩
  | 19 => ⟨S_, .f32⟩
  | 20 => ⟨S2x1, .f32⟩
  | 21 => ⟨S2x1, .f32⟩
  | 22 => ⟨S2x512, .f32⟩
  | 23 => ⟨S2x512, .f32⟩
  | 24 => ⟨S2x16384x256, .f32⟩
  | 25 => ⟨S1x1x256, .f32⟩
  | 26 => ⟨S2x16384x256, .f32⟩
  | 27 => ⟨S2x16384x256, .f32⟩
  | 28 => ⟨S2x16384x256, .f32⟩
  | 29 => ⟨S2x16384x256, .f32⟩
  | 30 => ⟨S1x1x256, .f32⟩
  | 31 => ⟨S2x16384x256, .f32⟩
  | 32 => ⟨S2x16384x256, .f32⟩
  | 33 => ⟨S2x16384x256, .f32⟩
  | 34 => ⟨S2x16384x256, .f32⟩
  | 35 => ⟨S_, .f32⟩
  | 36 => ⟨S2x16384x256, .f32⟩
  | 37 => ⟨S2x16384x256, .f32⟩
  | 38 => ⟨S_, .f32⟩
  | 39 => ⟨S2x16384x256, .f32⟩
  | 40 => ⟨S2x16384x256, .f32⟩
  | 41 => ⟨S2x16384x256, .f32⟩
  | 42 => ⟨S2x16384, .f32⟩
  | 43 => ⟨S2x16384, .f32⟩
  | 44 => ⟨S2x16384, .f32⟩
  | 45 => ⟨S_, .f32⟩
  | 46 => ⟨S2, .f32⟩
  | 47 => ⟨S_, .f32⟩
  | 48 => ⟨S2, .f32⟩
  | 49 => ⟨S2, .f32⟩
  | 50 => ⟨S2x1, .f32⟩
  | 51 => ⟨S2x16384, .f32⟩
  | 52 => ⟨S2x16384, .f32⟩
  | 53 => ⟨S2x16384, .f32⟩
  | 54 => ⟨S_, .f32⟩
  | 55 => ⟨S2, .f32⟩
  | 56 => ⟨S2x1, .f32⟩
  | 57 => ⟨S2x16384, .f32⟩
  | 58 => ⟨S2x16384, .f32⟩
  | 59 => ⟨S2x512, .f32⟩
  | 60 => ⟨S2x512, .f32⟩
  | 61 => ⟨S_, .f32⟩
  | 62 => ⟨S2, .f32⟩
  | 63 => ⟨S2x1, .f32⟩
  | 64 => ⟨S2x1, .f32⟩
  | 65 => ⟨S_, .f32⟩
  | 66 => ⟨S_, .f32⟩
  | 67 => ⟨S2x1, .f32⟩
  | 68 => ⟨S2x1, .f32⟩
  | 69 => ⟨S2x512, .f32⟩
  | 70 => ⟨S2x512, .f32⟩
  | 71 => ⟨S_, .f32⟩
  | 72 => ⟨S4x512, .f32⟩
  | 73 => ⟨S4x512, .f32⟩
  | 74 => ⟨S_, .f32⟩
  | 75 => ⟨S4, .f32⟩
  | 76 => ⟨S4x1, .f32⟩
  | 77 => ⟨S4x1, .f32⟩
  | 78 => ⟨S_, .f32⟩
  | 79 => ⟨S_, .f32⟩
  | 80 => ⟨S4x1, .f32⟩
  | 81 => ⟨S4x1, .f32⟩
  | 82 => ⟨S4x512, .f32⟩
  | 83 => ⟨S4x512, .f32⟩
  | 84 => ⟨S512x4, .f32⟩
  | 85 => ⟨S2x4, .f32⟩
  | 86 => ⟨S512x4, .f32⟩
  | 87 => ⟨S2x4, .f32⟩
  | 88 => ⟨S2x4, .f32⟩
  | 89 => ⟨S_, .f32⟩
  | 90 => ⟨S2, .f32⟩
  | 91 => ⟨S_, .f32⟩
  | 92 => ⟨S2, .f32⟩
  | 93 => ⟨S2, .f32⟩
  | 94 => ⟨S2x1, .f32⟩
  | 95 => ⟨S2x4, .f32⟩
  | 96 => ⟨S2x4, .f32⟩
  | 97 => ⟨S2x4, .f32⟩
  | 98 => ⟨S_, .f32⟩
  | 99 => ⟨S2, .f32⟩
  | 100 => ⟨S2x1, .f32⟩
  | 101 => ⟨S2x4, .f32⟩
  | 102 => ⟨S2x4, .f32⟩
  | 103 => ⟨S2x4, .i32⟩
  | 104 => ⟨S_, .f32⟩
  | 105 => ⟨S_, .i32⟩
  | 106 => ⟨S2, .f32⟩
  | 107 => ⟨S2, .i32⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v0 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v8 : Ref sig .tc := ⟨.hbm, 32, rfl⟩
abbrev main_cst_0 : Ref sig .tc := ⟨.hbm, 33, rfl⟩
abbrev main_call3_v0 : Ref sig .tc := ⟨.hbm, 34, rfl⟩
abbrev main_call3_v1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_call4_v0 : Ref sig .tc := ⟨.hbm, 39, rfl⟩
abbrev main_call4_cst : Ref sig .tc := ⟨.hbm, 40, rfl⟩
abbrev main_call4_v1 : Ref sig .tc := ⟨.hbm, 41, rfl⟩
abbrev main_call4_v2 : Ref sig .tc := ⟨.hbm, 42, rfl⟩
abbrev main_v12 : Ref sig .tc := ⟨.hbm, 43, rfl⟩
abbrev main_cst_1 : Ref sig .tc := ⟨.hbm, 44, rfl⟩
abbrev main_call5_v0 : Ref sig .tc := ⟨.hbm, 45, rfl⟩
abbrev main_call5_v1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_call6_v0 : Ref sig .tc := ⟨.hbm, 54, rfl⟩
abbrev main_call6_cst : Ref sig .tc := ⟨.hbm, 55, rfl⟩
abbrev main_call6_v1 : Ref sig .tc := ⟨.hbm, 56, rfl⟩
abbrev main_call6_v2 : Ref sig .tc := ⟨.hbm, 57, rfl⟩
abbrev main_v20 : Ref sig .tc := ⟨.hbm, 58, rfl⟩
abbrev main_cst_2 : Ref sig .tc := ⟨.hbm, 59, rfl⟩
abbrev main_call7_v0 : Ref sig .tc := ⟨.hbm, 60, rfl⟩
abbrev main_call7_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_3 : Ref sig .tc := ⟨.hbm, 66, rfl⟩
abbrev main_v25 : Ref sig .tc := ⟨.hbm, 67, rfl⟩
abbrev main_v26 : Ref sig .tc := ⟨.hbm, 68, rfl⟩
abbrev main_cst_4 : Ref sig .tc := ⟨.hbm, 69, rfl⟩
abbrev main_v27 : Ref sig .tc := ⟨.hbm, 70, rfl⟩
abbrev main_cst_5 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_6 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst_7 : Ref sig .tc := ⟨.hbm, 86, rfl⟩
abbrev main_v41 : Ref sig .tc := ⟨.hbm, 87, rfl⟩
abbrev main_v42 : Ref sig .tc := ⟨.hbm, 88, rfl⟩
abbrev main_cst_8 : Ref sig .tc := ⟨.hbm, 89, rfl⟩
abbrev main_v43 : Ref sig .tc := ⟨.hbm, 90, rfl⟩
abbrev main_cst_9 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_10 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_11 : Ref sig .tc := ⟨.hbm, 116, rfl⟩
abbrev main_v67 : Ref sig .tc := ⟨.hbm, 117, rfl⟩
abbrev main_v68 : Ref sig .tc := ⟨.hbm, 118, rfl⟩
abbrev main_cst_12 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_13 : Ref sig .tc := ⟨.hbm, 126, rfl⟩
abbrev main_v75 : Ref sig .tc := ⟨.hbm, 127, rfl⟩
abbrev main_cst_14 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_cst_15 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_call8_v0 : Ref sig .tc := ⟨.hbm, 141, rfl⟩
abbrev main_call8_cst : Ref sig .tc := ⟨.hbm, 142, rfl⟩
abbrev main_call8_v1 : Ref sig .tc := ⟨.hbm, 143, rfl⟩
abbrev main_call8_v2 : Ref sig .tc := ⟨.hbm, 144, rfl⟩
abbrev main_v87 : Ref sig .tc := ⟨.hbm, 145, rfl⟩
abbrev main_cst_16 : Ref sig .tc := ⟨.hbm, 146, rfl⟩
abbrev main_call9_v0 : Ref sig .tc := ⟨.hbm, 147, rfl⟩
abbrev main_call9_v1 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_17 : Ref sig .tc := ⟨.hbm, 163, rfl⟩
abbrev main_v102 : Ref sig .tc := ⟨.hbm, 164, rfl⟩
abbrev main_v103 : Ref sig .tc := ⟨.hbm, 165, rfl⟩
abbrev main_cst_18 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_cst_19 : Ref sig .tc := ⟨.hbm, 173, rfl⟩
abbrev main_v110 : Ref sig .tc := ⟨.hbm, 174, rfl⟩
abbrev main_cst_20 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_cst_21 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_call10_v0 : Ref sig .tc := ⟨.hbm, 188, rfl⟩
abbrev main_call10_cst : Ref sig .tc := ⟨.hbm, 189, rfl⟩
abbrev main_call10_v1 : Ref sig .tc := ⟨.hbm, 190, rfl⟩
abbrev main_call10_v2 : Ref sig .tc := ⟨.hbm, 191, rfl⟩
abbrev main_v122 : Ref sig .tc := ⟨.hbm, 192, rfl⟩
abbrev main_cst_22 : Ref sig .tc := ⟨.hbm, 193, rfl⟩
abbrev main_call11_v0 : Ref sig .tc := ⟨.hbm, 194, rfl⟩
abbrev main_call11_v1 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_cst_23 : Ref sig .tc := ⟨.hbm, 199, rfl⟩
abbrev main_v126 : Ref sig .tc := ⟨.hbm, 200, rfl⟩
abbrev main_call12_v0 : Ref sig .tc := ⟨.hbm, 201, rfl⟩
abbrev main_call12_cst : Ref sig .tc := ⟨.hbm, 202, rfl⟩
abbrev main_call12_v1 : Ref sig .tc := ⟨.hbm, 203, rfl⟩
abbrev main_call12_v2 : Ref sig .tc := ⟨.hbm, 204, rfl⟩
abbrev main_v127 : Ref sig .tc := ⟨.hbm, 205, rfl⟩
abbrev main_cst_24 : Ref sig .tc := ⟨.hbm, 206, rfl⟩
abbrev main_call13_v0 : Ref sig .tc := ⟨.hbm, 207, rfl⟩
abbrev main_call13_v1 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_cst_25 : Ref sig .tc := ⟨.hbm, 217, rfl⟩
abbrev main_v136 : Ref sig .tc := ⟨.hbm, 218, rfl⟩
abbrev main_cst_26 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_cst_27 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_call14_v0 : Ref sig .tc := ⟨.hbm, 231, rfl⟩
abbrev main_call14_cst : Ref sig .tc := ⟨.hbm, 232, rfl⟩
abbrev main_call14_c : Ref sig .tc := ⟨.hbm, 233, rfl⟩
abbrev main_call14_v1_0 : Ref sig .tc := ⟨.hbm, 234, rfl⟩
abbrev main_v147 : Ref sig .tc := ⟨.hbm, 235, rfl⟩

abbrev nD : Nat := 1
abbrev τ : Topo := Topo.v7x

variable {F : FTy → Type} [FloatOps F]
-- ==== Proof.KernelIdeal.Runs.lean ====
/- The body of the kernel of `KernelIdeal`, run once at a first, a middle and a last grid point. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three conditions the body branches on -/

/-- The body's test for the first grid point. -/
abbrev condF (i : grid0.Coords) : Prop := (Scalar.cmpi .ne (Scalar.extui (Scalar.cmpi .eq (BitVec.ofNat 32 (i 0).val) 0#32)) 0#32) = 1#1
/-- The body's test for a later grid point. -/
abbrev condN (i : grid0.Coords) : Prop := (Scalar.cmpi .ne (Scalar.extui (Scalar.cmpi .ne (BitVec.ofNat 32 (i 0).val) 0#32)) 0#32) = 1#1
/-- The body's test for the last grid point. -/
abbrev condL (i : grid0.Coords) : Prop := (Scalar.cmpi .ne (Scalar.extui (Scalar.cmpi .eq (BitVec.ofNat 32 (i 0).val) 7#32)) 0#32) = 1#1

/-- The final branch tests for the last point as well. -/
theorem condL_last (i : grid0.Coords) : condL i ↔ k0_cond14 i = 1#1 := Iff.rfl

/-- The first test holds at point zero alone. -/
theorem condF_iff (t : Fin cfg0.N) : condF (grid0.coords t) ↔ t.val = 0 := by
  have ht : t.val < 8 := Nat.lt_of_lt_of_eq t.isLt N_0
  have e0 : (grid0.coords t 0).val = t.val / 1 % 8 := Pipeline.Grid.coords_val t 0 (by decide) rfl
  simp only [condF, e0]
  word_cmp
/-- The second test holds from point one on. -/
theorem condN_iff (t : Fin cfg0.N) : condN (grid0.coords t) ↔ t.val ≠ 0 := by
  have ht : t.val < 8 := Nat.lt_of_lt_of_eq t.isLt N_0
  have e0 : (grid0.coords t 0).val = t.val / 1 % 8 := Pipeline.Grid.coords_val t 0 (by decide) rfl
  simp only [condN, e0]
  word_cmp
/-- The third test holds at point seven alone. -/
theorem condL_iff (t : Fin cfg0.N) : condL (grid0.coords t) ↔ t.val = 7 := by
  have ht : t.val < 8 := Nat.lt_of_lt_of_eq t.isLt N_0
  have e0 : (grid0.coords t 0).val = t.val / 1 % 8 := Pipeline.Grid.coords_val t 0 (by decide) rfl
  simp only [condL, e0]
  word_cmp

/-! ## The running maximum at the first point does not depend on what its cell held -/

/-- Where the first test holds, the grid coordinate's word is zero. -/
theorem word_zero {i : grid0.Coords} (hF : condF i) : BitVec.ofNat 32 (i 0).val = 0#32 := by
  have key : ∀ a : BitVec 32, (Scalar.cmpi .ne (Scalar.extui (Scalar.cmpi .eq a 0#32)) 0#32) = 1#1 → a = 0#32 := by
    intro a h
    by_contra hne
    have hb : (a == 0#32) = false := by simpa using hne
    simp only [Scalar.cmpi, IntOp.cmpi, Scalar.extui, hb] at h
    exact absurd h (by decide)
  exact key _ hF

/-- The largest entry of a column of scores. -/
def colMax (v : FVec F S2048x1 .f32) : F .f32 :=
  extractAt ![0, 0, 0] (shapeCast S1x1x1 (multiReduction .maximumf [1, 2] S1 (shapeCast S1x2048x1 v shapeCasts_S2048x1_S1x2048x1)
    0xFF800000#32 reduces_S1x2048x1_S1 (.inl rfl) rfl) shapeCasts_S1_S1x1x1) inpos_S1x1x1_p0_0_0
/-- The weights of a column of scores against a maximum. -/
def colExp (v : FVec F S2048x1 .f32) (a : F .f32) : FVec F S2048x1 .f32 := exp (subf v (broadcast S2048x1 a))
/-- The rows weighted by a column, cut into groups of eight rows. -/
def weighted (w : FVec F S2048x512 .f32) (v : FVec F S2048x1 .f32) (a : F .f32) : FVec F S256x8x512 .f32 :=
  shapeCast S256x8x512 (mulf w (broadcastTo S2048x512 (colExp v a) broadcasts_S2048x1_S2048x512)) shapeCasts_S2048x512_S256x8x512

section Junk
variable {i : grid0.Coords} (hF : condF i)
include hF
/-- At the first point the first stream's running maximum is the column's own. -/
theorem junk18 (v : FVec F S2048x1 .f32) (x : Elt F .f32) : k0_pay18 (BitVec.ofNat 32 (i 0).val) v x = colMax v := by
  rw [word_zero hF]; rfl
/-- At the first point the second stream's running maximum is the column's own. -/
theorem junk31 (v : FVec F S2048x1 .f32) (x : Elt F .f32) : k0_pay31 (BitVec.ofNat 32 (i 0).val) v x = colMax v := by
  rw [word_zero hF]; rfl
/-- At the first point the third stream's running maximum is the column's own. -/
theorem junk43 (v : FVec F S2048x1 .f32) (x : Elt F .f32) : k0_pay43 (BitVec.ofNat 32 (i 0).val) v x = colMax v := by
  rw [word_zero hF]; rfl
/-- At the first point the fourth stream's running maximum is the column's own. -/
theorem junk54 (v : FVec F S2048x1 .f32) (x : Elt F .f32) : k0_pay54 (BitVec.ofNat 32 (i 0).val) v x = colMax v := by
  rw [word_zero hF]; rfl
/-- The first stream's weighted rows at the first point. -/
theorem junk19 (w : FVec F S2048x512 .f32) (v : FVec F S2048x1 .f32) (x : Elt F .f32) :
    k0_pay19 (BitVec.ofNat 32 (i 0).val) w v x = weighted w v (colMax v) := by
  rw [word_zero hF]; rfl
/-- The second stream's weights at the first point. -/
theorem junk32 (v : FVec F S2048x1 .f32) (x : Elt F .f32) : k0_pay32 (BitVec.ofNat 32 (i 0).val) v x = colExp v (colMax v) := by
  rw [word_zero hF]; rfl
end Junk

/-! ## The body's three runs -/

variable (c : Dev nD) (i : grid0.Coords)
  (arg1 : Memref sig .tc .vmem S2x2048x512 .f32) (harg1 : arg1.IsWhole)
  (arg2 : Memref sig .tc .vmem S2x2048x512 .f32) (harg2 : arg2.IsWhole)
  (arg3 : Memref sig .tc .vmem S512x512 .f32) (harg3 : arg3.IsWhole)
  (arg4 : Memref sig .tc .vmem S512x256 .f32) (harg4 : arg4.IsWhole)
  (arg5 : Memref sig .tc .vmem S512x256 .f32) (harg5 : arg5.IsWhole)
  (arg6 : Memref sig .tc .vmem S32x512 .f32) (harg6 : arg6.IsWhole)
  (arg7 : Memref sig .tc .vmem S1x256 .f32) (harg7 : arg7.IsWhole)
  (arg8 : Memref sig .tc .vmem S2x2048x4 .f32) (harg8 : arg8.IsWhole)
  (arg9 : Memref sig .tc .vmem S2x2048x4 .f32) (harg9 : arg9.IsWhole)
  (arg10 : Memref sig .tc .vmem S2x4 .f32) (harg10 : arg10.IsWhole)
  (arg11 : Memref sig .tc .vmem S512x544 .f32) (harg11 : arg11.IsWhole)
  (arg12 : Memref sig .tc .vmem S4x8x512 .f32) (harg12 : arg12.IsWhole)
  (arg13 : Memref sig .tc .vmem S8x512 .f32) (harg13 : arg13.IsWhole)
  (arg14 : Memref sig .tc .smem S4 .f32) (harg14 : arg14.IsWhole)

set_option maxHeartbeats 2000000 in
/-- The body at the first grid point: the weight table is filled and every accumulator started afresh.
    The lists say what each buffer it stores into ends with; the last component says that the body,
    run on whole buffers holding the inputs, gives the inputs back and ends with those stores. -/
def runA (hF : condF i) (hN : ¬condN i) (hL : ¬condL i)
    (x0 : Vec F S2x2048x512 .f32) (x1 : Vec F S2x2048x512 .f32) (x2 : Vec F S512x512 .f32) (x3 : Vec F S512x256 .f32) (x4 : Vec F S512x256 .f32) (x5 : Vec F S32x512 .f32) (x6 : Vec F S1x256 .f32) :
    Σ' (L7 : List (View.Piece (Elt F) S2x2048x4 .f32)), Σ' (L8 : List (View.Piece (Elt F) S2x2048x4 .f32)), Σ' (K0 : List (View.Piece (Elt F) S512x544 .f32)), Σ' (K1 : List (View.Piece (Elt F) S4x8x512 .f32)), { K3 : List (View.Piece (Elt F) S4 .f32) //
      ∀ (o9 : Vec F S2x4 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d)
            ∗ owns (c : Thread nD τ) arg10 fullShare o9
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ f, arg8.view.loc (c : Thread nD τ) ↦[arg8.view.set]{fullShare} arg8.view.writes (Elt F) f L7)
            ∗ (∃ f, arg9.view.loc (c : Thread nD τ) ↦[arg9.view.set]{fullShare} arg9.view.writes (Elt F) f L8)
            ∗ owns (c : Thread nD τ) arg10 fullShare o9
            ∗ (∃ f, arg11.view.loc (c : Thread nD τ) ↦[arg11.view.set]{fullShare} arg11.view.writes (Elt F) f K0)
            ∗ (∃ f, arg12.view.loc (c : Thread nD τ) ↦[arg12.view.set]{fullShare} arg12.view.writes (Elt F) f K1)
            ∗ (∃ d, owns (c : Thread nD τ) arg13 fullShare d)
            ∗ (∃ f, arg14.view.loc (c : Thread nD τ) ↦[arg14.view.set]{fullShare} arg14.view.writes (Elt F) f K3)) -∗ K ⟨⟩))
          ⊢ wp frame (wpE (defs₀ (F := F)) Variants.none c none) E (cc0_ver2f_fused i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun o9 E K => ?run⟩
  case run =>
    simp only [cc0_ver2f_fused_eq_skeleton]; unfold cc0_ver2f_fused_skel
    simp only [k0_part1_eq_skeleton, k0_part2_eq_skeleton, k0_part3_eq_skeleton, k0_part4_eq_skeleton, k0_part5_eq_skeleton, k0_part6_eq_skeleton, k0_part7_eq_skeleton, k0_part8_eq_skeleton]
    have hL' := (condL_last i).not.mp hL
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9
    sl_exec (disch := first | sl_exact hF | sl_exact hN | sl_exact hL | sl_exact hL')
    sl_step
    delta runA.sl.r_8 runA.sl.r_15 runA.sl.r_21 runA.sl.r_27
    simp only [junk18 hF, junk19 hF, junk31 hF, junk32 hF, junk43 hF, junk54 hF]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]
    · iexists _; isplitr; · ipureintro; exact harg10.read_unread _
      iexact H9
    isplitl [HS0]; · iexists _; iexact HS0
    isplitl [HS1]; · iexists _; iexact HS1
    isplitl [HS2]
    · iexists _, _; isplitr; swap; · iexact HS2
      ipureintro; rfl
    iexists _; iexact HS3

set_option maxHeartbeats 2000000 in
/-- The body at a grid point that is neither the first nor the last: the accumulators are updated.
    The lists say what each buffer it stores into ends with; the last component says that the body,
    run on whole buffers holding the inputs, gives the inputs back and ends with those stores. -/
def runB (hF : ¬condF i) (hN : condN i) (hL : ¬condL i)
    (x0 : Vec F S2x2048x512 .f32) (x1 : Vec F S2x2048x512 .f32) (x2 : Vec F S512x512 .f32) (x3 : Vec F S512x256 .f32) (x4 : Vec F S512x256 .f32) (x5 : Vec F S32x512 .f32) (x6 : Vec F S1x256 .f32) (s0 : Vec F S512x544 .f32) (s1 : Vec F S4x8x512 .f32) (s3 : Vec F S4 .f32) :
    Σ' (L7 : List (View.Piece (Elt F) S2x2048x4 .f32)), Σ' (L8 : List (View.Piece (Elt F) S2x2048x4 .f32)), Σ' (K1 : List (View.Piece (Elt F) S4x8x512 .f32)), { K3 : List (View.Piece (Elt F) S4 .f32) //
      ∀ (o9 : Vec F S2x4 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d)
            ∗ owns (c : Thread nD τ) arg10 fullShare o9
            ∗ owns (c : Thread nD τ) arg11 fullShare s0
            ∗ owns (c : Thread nD τ) arg12 fullShare s1
            ∗ (∃ d, owns (c : Thread nD τ) arg13 fullShare d)
            ∗ owns (c : Thread nD τ) arg14 fullShare s3
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ f, arg8.view.loc (c : Thread nD τ) ↦[arg8.view.set]{fullShare} arg8.view.writes (Elt F) f L7)
            ∗ (∃ f, arg9.view.loc (c : Thread nD τ) ↦[arg9.view.set]{fullShare} arg9.view.writes (Elt F) f L8)
            ∗ owns (c : Thread nD τ) arg10 fullShare o9
            ∗ owns (c : Thread nD τ) arg11 fullShare s0
            ∗ (∃ f, arg12.view.loc (c : Thread nD τ) ↦[arg12.view.set]{fullShare} arg12.view.writes (Elt F) f K1)
            ∗ (∃ d, owns (c : Thread nD τ) arg13 fullShare d)
            ∗ (∃ f, arg14.view.loc (c : Thread nD τ) ↦[arg14.view.set]{fullShare} arg14.view.writes (Elt F) f K3)) -∗ K ⟨⟩))
          ⊢ wp frame (wpE (defs₀ (F := F)) Variants.none c none) E (cc0_ver2f_fused i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun o9 E K => ?run⟩
  case run =>
    simp only [cc0_ver2f_fused_eq_skeleton]; unfold cc0_ver2f_fused_skel
    simp only [k0_part1_eq_skeleton, k0_part2_eq_skeleton, k0_part3_eq_skeleton, k0_part4_eq_skeleton, k0_part5_eq_skeleton, k0_part6_eq_skeleton, k0_part7_eq_skeleton, k0_part8_eq_skeleton]
    have hL' := (condL_last i).not.mp hL
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs0, %hs0, HS0⟩, ⟨%fs1, %hs1, HS1⟩, ⟨%ds2, %fs2, -, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hs0; obtain rfl := harg12.eq_unread hs1; obtain rfl := harg14.eq_unread hs3
    sl_exec (disch := first | sl_exact hF | sl_exact hN | sl_exact hL | sl_exact hL')
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]
    · iexists _; isplitr; · ipureintro; exact harg10.read_unread _
      iexact H9
    isplitl [HS0]
    · iexists _; isplitr; · ipureintro; exact harg11.read_unread _
      iexact HS0
    isplitl [HS1]; · iexists _; iexact HS1
    isplitl [HS2]
    · iexists _, _; isplitr; swap; · iexact HS2
      ipureintro; rfl
    iexists _; iexact HS3

set_option maxHeartbeats 2000000 in
/-- The body at the last grid point: the accumulators are updated and the class probabilities stored.
    The lists say what each buffer it stores into ends with; the last component says that the body,
    run on whole buffers holding the inputs, gives the inputs back and ends with those stores. -/
def runC (hF : ¬condF i) (hN : condN i) (hL : condL i)
    (x0 : Vec F S2x2048x512 .f32) (x1 : Vec F S2x2048x512 .f32) (x2 : Vec F S512x512 .f32) (x3 : Vec F S512x256 .f32) (x4 : Vec F S512x256 .f32) (x5 : Vec F S32x512 .f32) (x6 : Vec F S1x256 .f32) (s0 : Vec F S512x544 .f32) (s1 : Vec F S4x8x512 .f32) (s3 : Vec F S4 .f32) :
    Σ' (L7 : List (View.Piece (Elt F) S2x2048x4 .f32)), Σ' (L8 : List (View.Piece (Elt F) S2x2048x4 .f32)), Σ' (L9 : List (View.Piece (Elt F) S2x4 .f32)), Σ' (K1 : List (View.Piece (Elt F) S4x8x512 .f32)), { K3 : List (View.Piece (Elt F) S4 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d)
            ∗ (∃ d, owns (c : Thread nD τ) arg10 fullShare d)
            ∗ owns (c : Thread nD τ) arg11 fullShare s0
            ∗ owns (c : Thread nD τ) arg12 fullShare s1
            ∗ (∃ d, owns (c : Thread nD τ) arg13 fullShare d)
            ∗ owns (c : Thread nD τ) arg14 fullShare s3
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ f, arg8.view.loc (c : Thread nD τ) ↦[arg8.view.set]{fullShare} arg8.view.writes (Elt F) f L7)
            ∗ (∃ f, arg9.view.loc (c : Thread nD τ) ↦[arg9.view.set]{fullShare} arg9.view.writes (Elt F) f L8)
            ∗ (∃ f, arg10.view.loc (c : Thread nD τ) ↦[arg10.view.set]{fullShare} arg10.view.writes (Elt F) f L9)
            ∗ owns (c : Thread nD τ) arg11 fullShare s0
            ∗ (∃ f, arg12.view.loc (c : Thread nD τ) ↦[arg12.view.set]{fullShare} arg12.view.writes (Elt F) f K1)
            ∗ (∃ d, owns (c : Thread nD τ) arg13 fullShare d)
            ∗ (∃ f, arg14.view.loc (c : Thread nD τ) ↦[arg14.view.set]{fullShare} arg14.view.writes (Elt F) f K3)) -∗ K ⟨⟩))
          ⊢ wp frame (wpE (defs₀ (F := F)) Variants.none c none) E (cc0_ver2f_fused i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_ver2f_fused_eq_skeleton]; unfold cc0_ver2f_fused_skel
    simp only [k0_part1_eq_skeleton, k0_part2_eq_skeleton, k0_part3_eq_skeleton, k0_part4_eq_skeleton, k0_part5_eq_skeleton, k0_part6_eq_skeleton, k0_part7_eq_skeleton, k0_part8_eq_skeleton]
    have hL' := (condL_last i).mp hL
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hs0, HS0⟩, ⟨%fs1, %hs1, HS1⟩, ⟨%ds2, %fs2, -, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hs0; obtain rfl := harg12.eq_unread hs1; obtain rfl := harg14.eq_unread hs3
    sl_exec (disch := first | sl_exact hF | sl_exact hN | sl_exact hL | sl_exact hL')
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]
    · iexists _; isplitr; · ipureintro; exact harg11.read_unread _
      iexact HS0
    isplitl [HS1]; · iexists _; iexact HS1
    isplitl [HS2]
    · iexists _, _; isplitr; swap; · iexact HS2
      ipureintro; rfl
    iexists _; iexact HS3

end Cert.KernelIdeal.Gen

end
-- ==== Proof.KernelIdeal.Launch.lean ====
/- What the staging and scratch buffers hold point by point, the body's obligation, and the run of the launch. -/
module

public import proofs.«01_k».proof.Proof.KernelIdeal.Runs
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers a point's body is run on -/

/-- A staging buffer of window 7, through which its contents are stated. -/
abbrev VO7 : View sig .tc .vmem S2x2048x4 .f32 := (Memref.whole cc0_stg7_0 : Memref sig .tc .vmem S2x2048x4 .f32).view
/-- A staging buffer of window 8, through which its contents are stated. -/
abbrev VO8 : View sig .tc .vmem S2x2048x4 .f32 := (Memref.whole cc0_stg8_0 : Memref sig .tc .vmem S2x2048x4 .f32).view
/-- A staging buffer of window 9, through which its contents are stated. -/
abbrev VO9 : View sig .tc .vmem S2x4 .f32 := (Memref.whole cc0_stg9_0 : Memref sig .tc .vmem S2x4 .f32).view
/-- The staging buffers of the windows at a point, and that each is whole. -/
abbrev ms0 (t : Fin cfg0.N) : Memref sig .tc .vmem S2x2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x2048x4 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x2048x4 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x4 .f32 := win0_9.stage (cfg0.slots t 9)
abbrev hs9 (t : Fin cfg0.N) : (ms9 t).IsWhole := hstage0_9 ((cfg0.slots t 9).cast nbuf0_9)
/-- The scratch buffers. -/
abbrev sc0 : Memref sig .tc .vmem S512x544 .f32 := Memref.whole cc0_scratch0
abbrev sc1 : Memref sig .tc .vmem S4x8x512 .f32 := Memref.whole cc0_scratch1
abbrev sc2 : Memref sig .tc .vmem S8x512 .f32 := Memref.whole cc0_scratch2
abbrev sc3 : Memref sig .tc .smem S4 .f32 := Memref.whole cc0_scratch3

/-- The region's scoped buffers, each at some contents, and the generator register. -/
theorem scoped_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The first window to the ninth are used at every point. -/
theorem live (t : Fin cfg0.N) : ∀ w : Fin cfg0.W, w.val < 9 → cfg0.idle w (grid0.coords t) = false := by
  intro w hw
  have : ∀ w : Fin cfg0.W, w.val < 9 → ∀ t : Fin cfg0.N, cfg0.idle w (grid0.coords t) = false := by decide +kernel
  exact this w hw t
/-- The last window is used at the last point alone. -/
theorem idle9 : ∀ t : Fin cfg0.N, t.val ≠ 7 → cfg0.idle 9 (grid0.coords t) = true := by decide +kernel
theorem live9 : ∀ t : Fin cfg0.N, t.val = 7 → cfg0.idle 9 (grid0.coords t) = false := by decide +kernel
/-- The last window is written back at the last point alone. -/
theorem noFlush9 : ∀ t : Fin cfg0.N, t.val ≠ 7 → (cfg0.win 9).flush t = false := by decide +kernel

/-! ## What a point leaves -/

/-- What the outputs' staging buffers and the carried scratch buffers hold after a point. -/
structure Held (F : FTy → Type) where
  /-- the first stream's scores -/
  scoresS : Vec F S2x2048x4 .f32
  /-- the second stream's scores -/
  scoresL : Vec F S2x2048x4 .f32
  /-- the class probabilities -/
  prob : Vec F S2x4 .f32
  /-- the table of weights -/
  table : Vec F S512x544 .f32
  /-- the weighted sums -/
  sums : Vec F S4x8x512 .f32
  /-- the running maxima -/
  tops : Vec F S4 .f32

/-- The body's run at the first point, on that point's buffers and blocks. -/
abbrev atA (c : Dev nD) (t : Fin cfg0.N) (h : t.val = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) ((condF_iff t).mpr h) (fun h' => (condN_iff t).mp h' h) (fun h' => by have := (condL_iff t).mp h'; omega) (iblk m c 0 t) (iblk m c 1 t) (iblk m c 2 t) (iblk m c 3 t) (iblk m c 4 t) (iblk m c 5 t) (iblk m c 6 t)
theorem coverA_L7 (c : Dev nD) (t : Fin cfg0.N) (h : t.val = 0) : ∀ y : S2x2048x4.Idx, ∃ p' ∈ (atA m c t h).1, y ∈ p'.1.set :=
  View.cover_of_tiledL _ S1x2048x4.size (by sl_kernel_rfl)
theorem coverA_L8 (c : Dev nD) (t : Fin cfg0.N) (h : t.val = 0) : ∀ y : S2x2048x4.Idx, ∃ p' ∈ (atA m c t h).2.1, y ∈ p'.1.set :=
  View.cover_of_tiledL _ S1x2048x4.size (by sl_kernel_rfl)
theorem coverA_K0 (c : Dev nD) (t : Fin cfg0.N) (h : t.val = 0) : ∀ y : S512x544.Idx, ∃ p' ∈ (atA m c t h).2.2.1, y ∈ p'.1.set :=
  View.cover_of_tiledBy _ ![512, 32] (by sl_kernel_rfl)
theorem coverA_K1 (c : Dev nD) (t : Fin cfg0.N) (h : t.val = 0) : ∀ y : S4x8x512.Idx, ∃ p' ∈ (atA m c t h).2.2.2.1, y ∈ p'.1.set :=
  View.cover_of_tiledL _ S1x8x512.size (by sl_kernel_rfl)
theorem coverA_K3 (c : Dev nD) (t : Fin cfg0.N) (h : t.val = 0) : ∀ y : S4.Idx, ∃ p' ∈ (atA m c t h).2.2.2.2.1, y ∈ p'.1.set :=
  View.cover_of_tiledL _ S1.size (by sl_kernel_rfl)
/-- What that point leaves. -/
def firstHeld (c : Dev nD) (t : Fin cfg0.N) (h : t.val = 0) : Held F where
  scoresS := VO7.read (Elt F) (VO7.writes (Elt F) VO7.junk (atA m c t h).1)
  scoresL := VO8.read (Elt F) (VO8.writes (Elt F) VO8.junk (atA m c t h).2.1)
  prob := VO9.read (Elt F) VO9.junk
  table := sc0.view.read (Elt F) (sc0.view.writes (Elt F) sc0.view.junk (atA m c t h).2.2.1)
  sums := sc1.view.read (Elt F) (sc1.view.writes (Elt F) sc1.view.junk (atA m c t h).2.2.2.1)
  tops := sc3.view.read (Elt F) (sc3.view.writes (Elt F) sc3.view.junk (atA m c t h).2.2.2.2.1)

/-- The body's run at a point between, on that point's buffers and blocks. -/
abbrev atB (c : Dev nD) (t : Fin cfg0.N) (h : t.val ≠ 0) (h2 : t.val ≠ 7) (p : Held F) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) (fun h' => h ((condF_iff t).mp h')) ((condN_iff t).mpr h) (fun h' => h2 ((condL_iff t).mp h')) (iblk m c 0 t) (iblk m c 1 t) (iblk m c 2 t) (iblk m c 3 t) (iblk m c 4 t) (iblk m c 5 t) (iblk m c 6 t) p.table p.sums p.tops
theorem coverB_L7 (c : Dev nD) (t : Fin cfg0.N) (h : t.val ≠ 0) (h2 : t.val ≠ 7) (p : Held F) : ∀ y : S2x2048x4.Idx, ∃ p' ∈ (atB m c t h h2 p).1, y ∈ p'.1.set :=
  View.cover_of_tiledL _ S1x2048x4.size (by sl_kernel_rfl)
theorem coverB_L8 (c : Dev nD) (t : Fin cfg0.N) (h : t.val ≠ 0) (h2 : t.val ≠ 7) (p : Held F) : ∀ y : S2x2048x4.Idx, ∃ p' ∈ (atB m c t h h2 p).2.1, y ∈ p'.1.set :=
  View.cover_of_tiledL _ S1x2048x4.size (by sl_kernel_rfl)
theorem coverB_K1 (c : Dev nD) (t : Fin cfg0.N) (h : t.val ≠ 0) (h2 : t.val ≠ 7) (p : Held F) : ∀ y : S4x8x512.Idx, ∃ p' ∈ (atB m c t h h2 p).2.2.1, y ∈ p'.1.set :=
  View.cover_of_tiledL _ S1x8x512.size (by sl_kernel_rfl)
theorem coverB_K3 (c : Dev nD) (t : Fin cfg0.N) (h : t.val ≠ 0) (h2 : t.val ≠ 7) (p : Held F) : ∀ y : S4.Idx, ∃ p' ∈ (atB m c t h h2 p).2.2.2.1, y ∈ p'.1.set :=
  View.cover_of_tiledL _ S1.size (by sl_kernel_rfl)
/-- What that point leaves. -/
def middleHeld (c : Dev nD) (t : Fin cfg0.N) (h : t.val ≠ 0) (h2 : t.val ≠ 7) (p : Held F) : Held F where
  scoresS := VO7.read (Elt F) (VO7.writes (Elt F) VO7.junk (atB m c t h h2 p).1)
  scoresL := VO8.read (Elt F) (VO8.writes (Elt F) VO8.junk (atB m c t h h2 p).2.1)
  prob := VO9.read (Elt F) VO9.junk
  table := p.table
  sums := sc1.view.read (Elt F) (sc1.view.writes (Elt F) sc1.view.junk (atB m c t h h2 p).2.2.1)
  tops := sc3.view.read (Elt F) (sc3.view.writes (Elt F) sc3.view.junk (atB m c t h h2 p).2.2.2.1)

/-- The body's run at the last point, on that point's buffers and blocks. -/
abbrev atC (c : Dev nD) (t : Fin cfg0.N) (h : t.val = 7) (p : Held F) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) (fun h' => by have := (condF_iff t).mp h'; omega) ((condN_iff t).mpr (by omega)) ((condL_iff t).mpr h) (iblk m c 0 t) (iblk m c 1 t) (iblk m c 2 t) (iblk m c 3 t) (iblk m c 4 t) (iblk m c 5 t) (iblk m c 6 t) p.table p.sums p.tops
theorem coverC_L7 (c : Dev nD) (t : Fin cfg0.N) (h : t.val = 7) (p : Held F) : ∀ y : S2x2048x4.Idx, ∃ p' ∈ (atC m c t h p).1, y ∈ p'.1.set :=
  View.cover_of_tiledL _ S1x2048x4.size (by sl_kernel_rfl)
theorem coverC_L8 (c : Dev nD) (t : Fin cfg0.N) (h : t.val = 7) (p : Held F) : ∀ y : S2x2048x4.Idx, ∃ p' ∈ (atC m c t h p).2.1, y ∈ p'.1.set :=
  View.cover_of_tiledL _ S1x2048x4.size (by sl_kernel_rfl)
theorem coverC_L9 (c : Dev nD) (t : Fin cfg0.N) (h : t.val = 7) (p : Held F) : ∀ y : S2x4.Idx, ∃ p' ∈ (atC m c t h p).2.2.1, y ∈ p'.1.set :=
  View.cover_of_tiledL _ S2x4.size (by sl_kernel_rfl)
theorem coverC_K1 (c : Dev nD) (t : Fin cfg0.N) (h : t.val = 7) (p : Held F) : ∀ y : S4x8x512.Idx, ∃ p' ∈ (atC m c t h p).2.2.2.1, y ∈ p'.1.set :=
  View.cover_of_tiledL _ S1x8x512.size (by sl_kernel_rfl)
theorem coverC_K3 (c : Dev nD) (t : Fin cfg0.N) (h : t.val = 7) (p : Held F) : ∀ y : S4.Idx, ∃ p' ∈ (atC m c t h p).2.2.2.2.1, y ∈ p'.1.set :=
  View.cover_of_tiledL _ S1.size (by sl_kernel_rfl)
/-- What that point leaves. -/
def lastHeld (c : Dev nD) (t : Fin cfg0.N) (h : t.val = 7) (p : Held F) : Held F where
  scoresS := VO7.read (Elt F) (VO7.writes (Elt F) VO7.junk (atC m c t h p).1)
  scoresL := VO8.read (Elt F) (VO8.writes (Elt F) VO8.junk (atC m c t h p).2.1)
  prob := VO9.read (Elt F) (VO9.writes (Elt F) VO9.junk (atC m c t h p).2.2.1)
  table := p.table
  sums := sc1.view.read (Elt F) (sc1.view.writes (Elt F) sc1.view.junk (atC m c t h p).2.2.2.1)
  tops := sc3.view.read (Elt F) (sc3.view.writes (Elt F) sc3.view.junk (atC m c t h p).2.2.2.2.1)

/-- What the buffers hold after each point. -/
def held (c : Dev nD) : (n : ℕ) → n < cfg0.N → Held F
  | 0, hn => firstHeld m c ⟨0, hn⟩ rfl
  | n + 1, hn =>
    if h : n + 1 = 7 then lastHeld m c ⟨n + 1, hn⟩ h (held c n (Nat.lt_of_succ_lt hn))
    else middleHeld m c ⟨n + 1, hn⟩ (Nat.succ_ne_zero n) h (held c n (Nat.lt_of_succ_lt hn))

theorem held_first (c : Dev nD) (t : Fin cfg0.N) (h : t.val = 0) : held m c t.val t.isLt = firstHeld m c t h := by
  obtain ⟨n, hn⟩ := t
  cases n with
  | zero => rfl
  | succ n => exact absurd h (Nat.succ_ne_zero n)
theorem held_middle (c : Dev nD) (t : Fin cfg0.N) (h : t.val ≠ 0) (h2 : t.val ≠ 7) :
    held m c t.val t.isLt = middleHeld m c t h h2 (held m c (t.val - 1) (by omega)) := by
  obtain ⟨n, hn⟩ := t
  cases n with
  | zero => exact absurd rfl h
  | succ n => exact dif_neg h2
theorem held_last (c : Dev nD) (t : Fin cfg0.N) (h : t.val = 7) :
    held m c t.val t.isLt = lastHeld m c t h (held m c (t.val - 1) (by omega)) := by
  obtain ⟨n, hn⟩ := t
  cases n with
  | zero => exact absurd h (show (0:ℕ) ≠ 7 by decide)
  | succ n => exact dif_pos h

/-! ## The region's invariant and data -/

/-- Before the first point the scratch holds anything; after a point, what that point left. -/
def inv (c : Dev nD) : (n : ℕ) → n ≤ cfg0.N → sProp 𝕄
  | 0, _ => Pipeline.ΦA spec0 c
  | n + 1, hn => iprop(iprop(owns (c : Thread nD τ) sc0 fullShare (held m c n hn).table ∗ owns (c : Thread nD τ) sc1 fullShare (held m c n hn).sums ∗ (∃ d, owns (c : Thread nD τ) sc2 fullShare d) ∗ owns (c : Thread nD τ) sc3 fullShare (held m c n hn).tops) ∗ (∃ r, prngReg c r))

theorem inv_zero (c : Dev nD) (n : ℕ) (h : n ≤ cfg0.N) (hz : n = 0) : inv m c n h = Pipeline.ΦA spec0 c := by
  subst hz; rfl
theorem inv_pos (c : Dev nD) (n : ℕ) (h : n ≤ cfg0.N) (hz : n ≠ 0) :
    inv m c n h = iprop(iprop(owns (c : Thread nD τ) sc0 fullShare (held m c (n - 1) (by omega)).table ∗ owns (c : Thread nD τ) sc1 fullShare (held m c (n - 1) (by omega)).sums ∗ (∃ d, owns (c : Thread nD τ) sc2 fullShare d) ∗ owns (c : Thread nD τ) sc3 fullShare (held m c (n - 1) (by omega)).tops) ∗ (∃ r, prngReg c r)) := by
  cases n with
  | zero => exact absurd rfl hz
  | succ n => rfl
theorem inv_succ (c : Dev nD) (n : ℕ) (h : n + 1 ≤ cfg0.N) :
    inv m c (n + 1) h = iprop(iprop(owns (c : Thread nD τ) sc0 fullShare (held m c n h).table ∗ owns (c : Thread nD τ) sc1 fullShare (held m c n h).sums ∗ (∃ d, owns (c : Thread nD τ) sc2 fullShare d) ∗ owns (c : Thread nD τ) sc3 fullShare (held m c n h).tops) ∗ (∃ r, prngReg c r)) := rfl

/-- The region's data: the arrays as found, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (held m c t.val t.isLt).scoresS
    | ⟨8, _⟩ => (held m c t.val t.isLt).scoresL
    | ⟨9, _⟩ => (held m c t.val t.isLt).prob
  Φ t := inv m c t.val (Nat.le_of_lt_succ t.isLt)
  q _ := fullShare
  owed _ := 0

theorem arr_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; exact Pipeline.Dat.Φ_castSucc (inv m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (held m c t.val t.isLt).scoresS := by dsimp only [dats]
theorem after_8 (c : Dev nD) (t : Fin cfg0.N) : (dats m 0 c).after 8 t = (held m c t.val t.isLt).scoresL := by dsimp only [dats]
theorem after_9 (c : Dev nD) (t : Fin cfg0.N) : (dats m 0 c).after 9 t = (held m c t.val t.isLt).prob := by dsimp only [dats]
theorem before_0 (c : Dev nD) (t : Fin cfg0.N) (d) : (dats m 0 c).before 0 t d = iblk m c 0 t :=
  before0_0_of m (dats m 0 c) (arr_eq m c 0) (after_0 m c) t d
theorem before_1 (c : Dev nD) (t : Fin cfg0.N) (d) : (dats m 0 c).before 1 t d = iblk m c 1 t :=
  before0_1_of m (dats m 0 c) (arr_eq m c 1) (after_1 m c) t d
theorem before_2 (c : Dev nD) (t : Fin cfg0.N) (d) : (dats m 0 c).before 2 t d = iblk m c 2 t :=
  before0_2_of m (dats m 0 c) (arr_eq m c 2) (after_2 m c) t d
theorem before_3 (c : Dev nD) (t : Fin cfg0.N) (d) : (dats m 0 c).before 3 t d = iblk m c 3 t :=
  before0_3_of m (dats m 0 c) (arr_eq m c 3) (after_3 m c) t d
theorem before_4 (c : Dev nD) (t : Fin cfg0.N) (d) : (dats m 0 c).before 4 t d = iblk m c 4 t :=
  before0_4_of m (dats m 0 c) (arr_eq m c 4) (after_4 m c) t d
theorem before_5 (c : Dev nD) (t : Fin cfg0.N) (d) : (dats m 0 c).before 5 t d = iblk m c 5 t :=
  before0_5_of m (dats m 0 c) (arr_eq m c 5) (after_5 m c) t d
theorem before_6 (c : Dev nD) (t : Fin cfg0.N) (d) : (dats m 0 c).before 6 t d = iblk m c 6 t :=
  before0_6_of m (dats m 0 c) (arr_eq m c 6) (after_6 m c) t d

/-! ## The body's obligation -/

/-- What the body starts from at a point. -/
def startsWith (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))
/-- What the body ends with at a point. -/
def endsWith (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_0 (c : Dev nD) (t : Fin cfg0.N) : (dats m 0 c).leavesExact 0 t = owns (c : Thread nD τ) (ms0 t) fullShare ((dats m 0 c).after 0 t) := by
  unfold Dat.leavesExact; rw [live t 0 (by decide)]
theorem leaves_1 (c : Dev nD) (t : Fin cfg0.N) : (dats m 0 c).leavesExact 1 t = owns (c : Thread nD τ) (ms1 t) fullShare ((dats m 0 c).after 1 t) := by
  unfold Dat.leavesExact; rw [live t 1 (by decide)]
theorem leaves_2 (c : Dev nD) (t : Fin cfg0.N) : (dats m 0 c).leavesExact 2 t = owns (c : Thread nD τ) (ms2 t) fullShare ((dats m 0 c).after 2 t) := by
  unfold Dat.leavesExact; rw [live t 2 (by decide)]
theorem leaves_3 (c : Dev nD) (t : Fin cfg0.N) : (dats m 0 c).leavesExact 3 t = owns (c : Thread nD τ) (ms3 t) fullShare ((dats m 0 c).after 3 t) := by
  unfold Dat.leavesExact; rw [live t 3 (by decide)]
theorem leaves_4 (c : Dev nD) (t : Fin cfg0.N) : (dats m 0 c).leavesExact 4 t = owns (c : Thread nD τ) (ms4 t) fullShare ((dats m 0 c).after 4 t) := by
  unfold Dat.leavesExact; rw [live t 4 (by decide)]
theorem leaves_5 (c : Dev nD) (t : Fin cfg0.N) : (dats m 0 c).leavesExact 5 t = owns (c : Thread nD τ) (ms5 t) fullShare ((dats m 0 c).after 5 t) := by
  unfold Dat.leavesExact; rw [live t 5 (by decide)]
theorem leaves_6 (c : Dev nD) (t : Fin cfg0.N) : (dats m 0 c).leavesExact 6 t = owns (c : Thread nD τ) (ms6 t) fullShare ((dats m 0 c).after 6 t) := by
  unfold Dat.leavesExact; rw [live t 6 (by decide)]
theorem leaves_7 (c : Dev nD) (t : Fin cfg0.N) : (dats m 0 c).leavesExact 7 t = owns (c : Thread nD τ) (ms7 t) fullShare ((dats m 0 c).after 7 t) := by
  unfold Dat.leavesExact; rw [live t 7 (by decide)]
theorem leaves_8 (c : Dev nD) (t : Fin cfg0.N) : (dats m 0 c).leavesExact 8 t = owns (c : Thread nD τ) (ms8 t) fullShare ((dats m 0 c).after 8 t) := by
  unfold Dat.leavesExact; rw [live t 8 (by decide)]
theorem leaves_9 (c : Dev nD) (t : Fin cfg0.N) (h : t.val = 7) : (dats m 0 c).leavesExact 9 t = owns (c : Thread nD τ) (ms9 t) fullShare ((dats m 0 c).after 9 t) := by
  unfold Dat.leavesExact; rw [live9 t h]

set_option maxHeartbeats 4000000 in
/-- The obligation at the first point. -/
theorem soundA (c : Dev nD) (t : Fin cfg0.N) (h : t.val = 0) :
    startsWith m c t ⊢ wp frame (wpE (defs₀ (F := F)) Variants.none c none) Set.univ (bodyAt0 t) (fun _ => endsWith m c t) := by
  unfold startsWith endsWith bodyAt0
  simp only [before_0, before_1, before_2, before_3, before_4, before_5, before_6]
  rw [show (dats m 0 c).owesAt () t.succ = (dats m 0 c).owesAt () t.castSucc from rfl]
  rw [show (dats m 0 c).Φ t.succ = inv m c (t.val + 1) t.isLt from rfl, inv_succ m c _ t.isLt]
  rw [leaves_0, after_0, leaves_1, after_1, leaves_2, after_2, leaves_3, after_3, leaves_4, after_4, leaves_5, after_5, leaves_6, after_6, leaves_7, after_7, leaves_8, after_8]
  rw [Dat.leavesExact_idle (dats m 0 c) 9 t (idle9 t (by omega)) (noFlush9 t (by omega))]
  rw [inv_castSucc m c t, inv_zero m c _ _ h, scoped_eq]
  rw [held_first m c t h]
  unfold firstHeld; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((atA m c t h).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, ⟨%e7, H7⟩, ⟨%e8, H8⟩, H9, ⟨%u0, HS0⟩, ⟨%u1, HS1⟩, HS2, ⟨%u3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (coverA_K0 m c t h)
      isplitl [HS1]
      · unfold owns; iexists _; isplitr
        swap; · iexact HS1
        ipureintro; exact View.read_writes_of_cover _ _ _ _ _ (coverA_K1 m c t h)
      isplitl [HS2]
      · iexact HS2
      unfold owns; iexists _; isplitr
      swap; · iexact HS3
      ipureintro; exact View.read_writes_of_cover _ _ _ _ _ (coverA_K3 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverA_L7 m c t h)
  isplitl [H8]
  · unfold owns; iexists _; isplitr
    swap; · iexact H8
    ipureintro; exact View.read_writes_of_cover _ _ _ _ _ (coverA_L8 m c t h)
  iexists _; iexact H9

set_option maxHeartbeats 4000000 in
/-- The obligation at a point between. -/
theorem soundB (c : Dev nD) (t : Fin cfg0.N) (h : t.val ≠ 0) (h2 : t.val ≠ 7) :
    startsWith m c t ⊢ wp frame (wpE (defs₀ (F := F)) Variants.none c none) Set.univ (bodyAt0 t) (fun _ => endsWith m c t) := by
  unfold startsWith endsWith bodyAt0
  simp only [before_0, before_1, before_2, before_3, before_4, before_5, before_6]
  rw [show (dats m 0 c).owesAt () t.succ = (dats m 0 c).owesAt () t.castSucc from rfl]
  rw [show (dats m 0 c).Φ t.succ = inv m c (t.val + 1) t.isLt from rfl, inv_succ m c _ t.isLt]
  rw [leaves_0, after_0, leaves_1, after_1, leaves_2, after_2, leaves_3, after_3, leaves_4, after_4, leaves_5, after_5, leaves_6, after_6, leaves_7, after_7, leaves_8, after_8]
  rw [Dat.leavesExact_idle (dats m 0 c) 9 t (idle9 t h2) (noFlush9 t h2)]
  rw [inv_castSucc m c t, inv_pos m c _ _ h]
  rw [held_middle m c t h h2]
  unfold middleHeld; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((atB m c t h h2 (held m c (t.val - 1) (by omega))).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, ⟨%e7, H7⟩, ⟨%e8, H8⟩, H9, HS0, ⟨%u1, HS1⟩, HS2, ⟨%u3, HS3⟩⟩
  isplitl [HS0 HS1 HS2 HS3 Hg]
  · isplitl [HS0 HS1 HS2 HS3]
    · isplitl [HS0]
      · iexact HS0
      isplitl [HS1]
      · unfold owns; iexists _; isplitr
        swap; · iexact HS1
        ipureintro; exact View.read_writes_of_cover _ _ _ _ _ (coverB_K1 m c t h h2 (held m c (t.val - 1) (by omega)))
      isplitl [HS2]
      · iexact HS2
      unfold owns; iexists _; isplitr
      swap; · iexact HS3
      ipureintro; exact View.read_writes_of_cover _ _ _ _ _ (coverB_K3 m c t h h2 (held m c (t.val - 1) (by omega)))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverB_L7 m c t h h2 (held m c (t.val - 1) (by omega)))
  isplitl [H8]
  · unfold owns; iexists _; isplitr
    swap; · iexact H8
    ipureintro; exact View.read_writes_of_cover _ _ _ _ _ (coverB_L8 m c t h h2 (held m c (t.val - 1) (by omega)))
  iexists _; iexact H9

set_option maxHeartbeats 4000000 in
/-- The obligation at the last point. -/
theorem soundC (c : Dev nD) (t : Fin cfg0.N) (h : t.val = 7) :
    startsWith m c t ⊢ wp frame (wpE (defs₀ (F := F)) Variants.none c none) Set.univ (bodyAt0 t) (fun _ => endsWith m c t) := by
  unfold startsWith endsWith bodyAt0
  simp only [before_0, before_1, before_2, before_3, before_4, before_5, before_6]
  rw [show (dats m 0 c).owesAt () t.succ = (dats m 0 c).owesAt () t.castSucc from rfl]
  rw [show (dats m 0 c).Φ t.succ = inv m c (t.val + 1) t.isLt from rfl, inv_succ m c _ t.isLt]
  rw [leaves_0, after_0, leaves_1, after_1, leaves_2, after_2, leaves_3, after_3, leaves_4, after_4, leaves_5, after_5, leaves_6, after_6, leaves_7, after_7, leaves_8, after_8]
  rw [leaves_9 m c t h, after_9]
  rw [inv_castSucc m c t, inv_pos m c _ _ (by omega)]
  rw [held_last m c t h]
  unfold lastHeld; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((atC m c t h (held m c (t.val - 1) (by omega))).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, ⟨%e7, H7⟩, ⟨%e8, H8⟩, ⟨%e9, H9⟩, HS0, ⟨%u1, HS1⟩, HS2, ⟨%u3, HS3⟩⟩
  isplitl [HS0 HS1 HS2 HS3 Hg]
  · isplitl [HS0 HS1 HS2 HS3]
    · isplitl [HS0]
      · iexact HS0
      isplitl [HS1]
      · unfold owns; iexists _; isplitr
        swap; · iexact HS1
        ipureintro; exact View.read_writes_of_cover _ _ _ _ _ (coverC_K1 m c t h (held m c (t.val - 1) (by omega)))
      isplitl [HS2]
      · iexact HS2
      unfold owns; iexists _; isplitr
      swap; · iexact HS3
      ipureintro; exact View.read_writes_of_cover _ _ _ _ _ (coverC_K3 m c t h (held m c (t.val - 1) (by omega)))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverC_L7 m c t h (held m c (t.val - 1) (by omega)))
  isplitl [H8]
  · unfold owns; iexists _; isplitr
    swap; · iexact H8
    ipureintro; exact View.read_writes_of_cover _ _ _ _ _ (coverC_L8 m c t h (held m c (t.val - 1) (by omega)))
  unfold owns; iexists _; isplitr
  swap; · iexact H9
  ipureintro; exact View.read_writes_of_cover _ _ _ _ _ (coverC_L9 m c t h (held m c (t.val - 1) (by omega)))

theorem sound (c : Dev nD) (t : Fin cfg0.N) :
    startsWith m c t ⊢ wp frame (wpE (defs₀ (F := F)) Variants.none c none) Set.univ (bodyAt0 t) (fun _ => endsWith m c t) := by
  by_cases h : t.val = 0
  · exact soundA m c t h
  · by_cases h2 : t.val = 7
    · exact soundC m c t h2
    · exact soundB m c t h h2

theorem defs_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, defs_row]
  exact triple_restated (sound m c t) rfl .rfl fun _ => .rfl

theorem enters (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _
theorem leaves (c : Dev nD) : (dats m 0 c).Φ (Fin.last cfg0.N) ⊢ Pipeline.ΦA spec0 c := by
  have hne : (Fin.last cfg0.N).val ≠ 0 := by rw [Fin.val_last]; have : cfg0.N = 8 := N_0; omega
  rw [show (dats m 0 c).Φ (Fin.last cfg0.N) = inv m c (Fin.last cfg0.N).val (Nat.le_of_lt_succ (Fin.last cfg0.N).isLt) from rfl, inv_pos m c _ _ hne, scoped_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexact HS2
    iexists _; iexact HS3
  iexact Hg

/-! ## The run -/

set_option backward.isDefEq.respectTransparency.types false in
/-- Every weakly fair execution ends, with the arrays at what the region's data say, the later host lines run on
    them, and every semaphore at zero. -/
theorem run_quiet : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arr_eq m) (hin := enters m) (hout := leaves m)
    (Q' := fun r => Pipeline.FramePost cfgs (dats m) 0 (Pipeline.afterTail₀ cfgs (dats m) 0 (V0 m) [hostOps1]) r ∧ r.2.sem = fun _ => 0)

theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The arguments end unchanged and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (arr_eq m) (run_post m ρ)) ((θ_run defs _ _).mono (fun _ h => h.2) (run_quiet m ρ))

end Cert.KernelIdeal.Gen

end
-- ==== Proof.ReferenceIdeal.Ops.lean ====
/-
  The reference's operations, as lists, and what they read and write.
-/
module

public import Idealize.ShloMosaic.Lib.StableHlo.RunClose
public import Idealize.ShloMosaic.Lib.Quiescent
public import proofs.«01_k».proof.Proof.Gen.ReferenceIdeal

@[expose] public section

noncomputable section

namespace Cert.ReferenceIdeal.Value

open Cert.ReferenceIdeal Cert.ReferenceIdeal.Gen
open Idealize.ShloMosaic Idealize.ShloMosaic.TcCoe Idealize.ShloMosaic.StableHlo Idealize.SL.Sem

variable {F : FTy → Type} [FloatOps F]

/-- @main's operations 1 … 30 of 223 (window `main_part0`). -/
abbrev ops_part0_0 : List (HloOp τ sig (Elt F)) :=
  [ TRef.binary (TRef.of (T := ⟨S2x16384x512, .f32⟩) main_arg0) (TRef.of (T := ⟨S2x16384x512, .f32⟩) main_arg0) (TRef.of (T := ⟨S2x16384x512, .f32⟩) main_call0_v0) mulf,
    TRef.nullary (TRef.of (T := ⟨S_, .f32⟩) main_call0_cst) (constant S_ .f32 0x00000000#32),
    TRef.binary (TRef.of (T := ⟨S2x16384x512, .f32⟩) main_call0_v0) (TRef.of (T := ⟨S_, .f32⟩) main_call0_cst) (TRef.of (T := ⟨S2x16384, .f32⟩) main_call0_v1) (fun x v => Host.reduceAdd x v reducesTo_S2x16384x512_S2x16384_d2 h_S_),
    TRef.unary (TRef.of (T := ⟨S2x16384, .f32⟩) main_call0_v1) (TRef.of (T := ⟨S2x16384x1, .f32⟩) main_call0_v2) (broadcastInDim S2x16384x1 ![0, 1] bcast_S2x16384_S2x16384x1_0_1),
    TRef.unary (TRef.of (T := ⟨S2x16384x1, .f32⟩) main_call0_v2) (TRef.of (T := ⟨S2x16384x1, .f32⟩) main_v0) Host.sqrt,
    nullary main_cst (constant S_ .f32 0x2B8CBCCC#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S2x16384x1, .f32⟩) main_call1_v1) (broadcastInDim S2x16384x1 ![] bcast_S_S2x16384x1),
    TRef.binary (TRef.of (T := ⟨S2x16384x1, .f32⟩) main_call1_v1) (TRef.of (T := ⟨S2x16384x1, .f32⟩) main_v0) (TRef.of (T := ⟨S2x16384x1, .f32⟩) main_v1) maximumf,
    unary main_v1 main_v2 (broadcastInDim S2x16384x512 ![0, 1, 2] bcast_S2x16384x1_S2x16384x512_0_1_2 : (⟨S2x16384x1, .f32⟩ : BufTy).Contents (Elt F) → (⟨S2x16384x512, .f32⟩ : BufTy).Contents (Elt F)),
    binary main_arg0 main_v2 main_v3 (Host.divf : (⟨S2x16384x512, .f32⟩ : BufTy).Contents (Elt F) → (⟨S2x16384x512, .f32⟩ : BufTy).Contents (Elt F) → (⟨S2x16384x512, .f32⟩ : BufTy).Contents (Elt F)),
    binary main_v3 main_arg4 main_v4 ((fun l r => Host.dotGeneral dot_S2x16384x512_S512x512_S2x16384x512_2_0_01_1_n_n none l r) : (⟨S2x16384x512, .f32⟩ : BufTy).Contents (Elt F) → (⟨S512x512, .f32⟩ : BufTy).Contents (Elt F) → (⟨S2x16384x512, .f32⟩ : BufTy).Contents (Elt F)),
    unary main_arg5 main_v5 (broadcastInDim S1x1x512 ![2] bcast_S512_S1x1x512_2 : (⟨S512, .f32⟩ : BufTy).Contents (Elt F) → (⟨S1x1x512, .f32⟩ : BufTy).Contents (Elt F)),
    unary main_v5 main_v6 (broadcastInDim S2x16384x512 ![0, 1, 2] bcast_S1x1x512_S2x16384x512_0_1_2 : (⟨S1x1x512, .f32⟩ : BufTy).Contents (Elt F) → (⟨S2x16384x512, .f32⟩ : BufTy).Contents (Elt F)),
    binary main_v4 main_v6 main_v7 (addf : (⟨S2x16384x512, .f32⟩ : BufTy).Contents (Elt F) → (⟨S2x16384x512, .f32⟩ : BufTy).Contents (Elt F) → (⟨S2x16384x512, .f32⟩ : BufTy).Contents (Elt F)),
    TRef.binary (TRef.of (T := ⟨S2x16384x512, .f32⟩) main_v7) (TRef.of (T := ⟨S2x16384x512, .f32⟩) main_v7) (TRef.of (T := ⟨S2x16384x512, .f32⟩) main_call2_v0) mulf,
    TRef.nullary (TRef.of (T := ⟨S_, .f32⟩) main_call2_cst) (constant S_ .f32 0x00000000#32),
    TRef.binary (TRef.of (T := ⟨S2x16384x512, .f32⟩) main_call2_v0) (TRef.of (T := ⟨S_, .f32⟩) main_call2_cst) (TRef.of (T := ⟨S2x16384, .f32⟩) main_call2_v1) (fun x v => Host.reduceAdd x v reducesTo_S2x16384x512_S2x16384_d2 h_S_),
    TRef.unary (TRef.of (T := ⟨S2x16384, .f32⟩) main_call2_v1) (TRef.of (T := ⟨S2x16384x1, .f32⟩) main_call2_v2) (broadcastInDim S2x16384x1 ![0, 1] bcast_S2x16384_S2x16384x1_0_1),
    TRef.unary (TRef.of (T := ⟨S2x16384x1, .f32⟩) main_call2_v2) (TRef.of (T := ⟨S2x16384x1, .f32⟩) main_v8) Host.sqrt,
    nullary main_cst_0 (constant S_ .f32 0x2B8CBCCC#32),
    TRef.unary (TRef.of (T := ⟨S_, .f32⟩) main_cst_0) (TRef.of (T := ⟨S_, .f32⟩) main_call3_v0) id,
    TRef.unary (TRef.of (T := ⟨S_, .f32⟩) main_call3_v0) (TRef.of (T := ⟨S2x16384x1, .f32⟩) main_call3_v1) (broadcastInDim S2x16384x1 ![] bcast_S_S2x16384x1),
    TRef.binary (TRef.of (T := ⟨S2x16384x1, .f32⟩) main_call3_v1) (TRef.of (T := ⟨S2x16384x1, .f32⟩) main_v8) (TRef.of (T := ⟨S2x16384x1, .f32⟩) main_v9) maximumf,
    unary main_v9 main_v10 (broadcastInDim S2x16384x512 ![0, 1, 2] bcast_S2x16384x1_S2x16384x512_0_1_2 : (⟨S2x16384x1, .f32⟩ : BufTy).Contents (Elt F) → (⟨S2x16384x512, .f32⟩ : BufTy).Contents (Elt F)),
    binary main_v7 main_v10 main_v11 (Host.divf : (⟨S2x16384x512, .f32⟩ : BufTy).Contents (Elt F) → (⟨S2x16384x512, .f32⟩ : BufTy).Contents (Elt F) → (⟨S2x16384x512, .f32⟩ : BufTy).Contents (Elt F)),
    TRef.binary (TRef.of (T := ⟨S2x16384x512, .f32⟩) main_arg2) (TRef.of (T := ⟨S2x16384x512, .f32⟩) main_arg2) (TRef.of (T := ⟨S2x16384x512, .f32⟩) main_call4_v0) mulf,
    TRef.nullary (TRef.of (T := ⟨S_, .f32⟩) main_call4_cst) (constant S_ .f32 0x00000000#32),
    TRef.binary (TRef.of (T := ⟨S2x16384x512, .f32⟩) main_call4_v0) (TRef.of (T := ⟨S_, .f32⟩) main_call4_cst) (TRef.of (T := ⟨S2x16384, .f32⟩) main_call4_v1) (fun x v => Host.reduceAdd x v reducesTo_S2x16384x512_S2x16384_d2 h_S_),
    TRef.unary (TRef.of (T := ⟨S2x16384, .f32⟩) main_call4_v1) (TRef.of (T := ⟨S2x16384x1, .f32⟩) main_call4_v2) (broadcastInDim S2x16384x1 ![0, 1] bcast_S2x16384_S2x16384x1_0_1) ]

/-- @main's operations 31 … 60 of 223 (window `main_part0`). -/
abbrev ops_part0_1 : List (HloOp τ sig (Elt F)) :=
  [ TRef.unary (TRef.of (T := ⟨S2x16384x1, .f32⟩) main_call4_v2) (TRef.of (T := ⟨S2x16384x1, .f32⟩) main_v12) Host.sqrt,
    nullary main_cst_1 (constant S_ .f32 0x2B8CBCCC#32),
    TRef.unary (TRef.of (T := ⟨S_, .f32⟩) main_cst_1) (TRef.of (T := ⟨S_, .f32⟩) main_call5_v0) id,
    TRef.unary (TRef.of (T := ⟨S_, .f32⟩) main_call5_v0) (TRef.of (T := ⟨S2x16384x1, .f32⟩) main_call5_v1) (broadcastInDim S2x16384x1 ![] bcast_S_S2x16384x1),
    TRef.binary (TRef.of (T := ⟨S2x16384x1, .f32⟩) main_call5_v1) (TRef.of (T := ⟨S2x16384x1, .f32⟩) main_v12) (TRef.of (T := ⟨S2x16384x1, .f32⟩) main_v13) maximumf,
    unary main_v13 main_v14 (broadcastInDim S2x16384x512 ![0, 1, 2] bcast_S2x16384x1_S2x16384x512_0_1_2 : (⟨S2x16384x1, .f32⟩ : BufTy).Contents (Elt F) → (⟨S2x16384x512, .f32⟩ : BufTy).Contents (Elt F)),
    binary main_arg2 main_v14 main_v15 (Host.divf : (⟨S2x16384x512, .f32⟩ : BufTy).Contents (Elt F) → (⟨S2x16384x512, .f32⟩ : BufTy).Contents (Elt F) → (⟨S2x16384x512, .f32⟩ : BufTy).Contents (Elt F)),
    binary main_v15 main_arg4 main_v16 ((fun l r => Host.dotGeneral dot_S2x16384x512_S512x512_S2x16384x512_2_0_01_1_n_n none l r) : (⟨S2x16384x512, .f32⟩ : BufTy).Contents (Elt F) → (⟨S512x512, .f32⟩ : BufTy).Contents (Elt F) → (⟨S2x16384x512, .f32⟩ : BufTy).Contents (Elt F)),
    unary main_arg5 main_v17 (broadcastInDim S1x1x512 ![2] bcast_S512_S1x1x512_2 : (⟨S512, .f32⟩ : BufTy).Contents (Elt F) → (⟨S1x1x512, .f32⟩ : BufTy).Contents (Elt F)),
    unary main_v17 main_v18 (broadcastInDim S2x16384x512 ![0, 1, 2] bcast_S1x1x512_S2x16384x512_0_1_2 : (⟨S1x1x512, .f32⟩ : BufTy).Contents (Elt F) → (⟨S2x16384x512, .f32⟩ : BufTy).Contents (Elt F)),
    binary main_v16 main_v18 main_v19 (addf : (⟨S2x16384x512, .f32⟩ : BufTy).Contents (Elt F) → (⟨S2x16384x512, .f32⟩ : BufTy).Contents (Elt F) → (⟨S2x16384x512, .f32⟩ : BufTy).Contents (Elt F)),
    TRef.binary (TRef.of (T := ⟨S2x16384x512, .f32⟩) main_v19) (TRef.of (T := ⟨S2x16384x512, .f32⟩) main_v19) (TRef.of (T := ⟨S2x16384x512, .f32⟩) main_call6_v0) mulf,
    TRef.nullary (TRef.of (T := ⟨S_, .f32⟩) main_call6_cst) (constant S_ .f32 0x00000000#32),
    TRef.binary (TRef.of (T := ⟨S2x16384x512, .f32⟩) main_call6_v0) (TRef.of (T := ⟨S_, .f32⟩) main_call6_cst) (TRef.of (T := ⟨S2x16384, .f32⟩) main_call6_v1) (fun x v => Host.reduceAdd x v reducesTo_S2x16384x512_S2x16384_d2 h_S_),
    TRef.unary (TRef.of (T := ⟨S2x16384, .f32⟩) main_call6_v1) (TRef.of (T := ⟨S2x16384x1, .f32⟩) main_call6_v2) (broadcastInDim S2x16384x1 ![0, 1] bcast_S2x16384_S2x16384x1_0_1),
    TRef.unary (TRef.of (T := ⟨S2x16384x1, .f32⟩) main_call6_v2) (TRef.of (T := ⟨S2x16384x1, .f32⟩) main_v20) Host.sqrt,
    nullary main_cst_2 (constant S_ .f32 0x2B8CBCCC#32),
    TRef.unary (TRef.of (T := ⟨S_, .f32⟩) main_cst_2) (TRef.of (T := ⟨S_, .f32⟩) main_call7_v0) id,
    TRef.unary (TRef.of (T := ⟨S_, .f32⟩) main_call7_v0) (TRef.of (T := ⟨S2x16384x1, .f32⟩) main_call7_v1) (broadcastInDim S2x16384x1 ![] bcast_S_S2x16384x1),
    TRef.binary (TRef.of (T := ⟨S2x16384x1, .f32⟩) main_call7_v1) (TRef.of (T := ⟨S2x16384x1, .f32⟩) main_v20) (TRef.of (T := ⟨S2x16384x1, .f32⟩) main_v21) maximumf,
    unary main_v21 main_v22 (broadcastInDim S2x16384x512 ![0, 1, 2] bcast_S2x16384x1_S2x16384x512_0_1_2 : (⟨S2x16384x1, .f32⟩ : BufTy).Contents (Elt F) → (⟨S2x16384x512, .f32⟩ : BufTy).Contents (Elt F)),
    binary main_v19 main_v22 main_v23 (Host.divf : (⟨S2x16384x512, .f32⟩ : BufTy).Contents (Elt F) → (⟨S2x16384x512, .f32⟩ : BufTy).Contents (Elt F) → (⟨S2x16384x512, .f32⟩ : BufTy).Contents (Elt F)),
    binary main_v11 main_arg6 main_v24 ((fun l r => Host.dotGeneral dot_S2x16384x512_S4x8x512_S2x16384x4x8_2_2_01_01_n_n none l r) : (⟨S2x16384x512, .f32⟩ : BufTy).Contents (Elt F) → (⟨S4x8x512, .f32⟩ : BufTy).Contents (Elt F) → (⟨S2x16384x4x8, .f32⟩ : BufTy).Contents (Elt F)),
    nullary main_cst_3 (constant S_ .f32 0x3D3504F3#32),
    unary main_cst_3 main_v25 (broadcastInDim S2x16384x4x8 ![] bcast_S_S2x16384x4x8 : (⟨S_, .f32⟩ : BufTy).Contents (Elt F) → (⟨S2x16384x4x8, .f32⟩ : BufTy).Contents (Elt F)),
    binary main_v24 main_v25 main_v26 (mulf : (⟨S2x16384x4x8, .f32⟩ : BufTy).Contents (Elt F) → (⟨S2x16384x4x8, .f32⟩ : BufTy).Contents (Elt F) → (⟨S2x16384x4x8, .f32⟩ : BufTy).Contents (Elt F)),
    nullary main_cst_4 (constant S_ .f32 0xFF800000#32),
    binary main_v26 main_cst_4 main_v27 ((fun x v => Host.reduce FloatOps.maximumf x v reducesTo_S2x16384x4x8_S2x16384x4_d3 h_S_) : (⟨S2x16384x4x8, .f32⟩ : BufTy).Contents (Elt F) → (⟨S_, .f32⟩ : BufTy).Contents (Elt F) → (⟨S2x16384x4, .f32⟩ : BufTy).Contents (Elt F)),
    nullary main_cst_5 (constant S_ .f32 0xFF800000#32),
    unary main_cst_5 main_v28 (broadcastInDim S2x16384x4 ![] bcast_S_S2x16384x4 : (⟨S_, .f32⟩ : BufTy).Contents (Elt F) → (⟨S2x16384x4, .f32⟩ : BufTy).Contents (Elt F)) ]

/-- @main's operations 61 … 84 of 223 (window `main_part0`). -/
abbrev ops_part0_2 : List (HloOp τ sig (Elt F)) :=
  [ binary main_v28 main_v27 main_v29 (maximumf : (⟨S2x16384x4, .f32⟩ : BufTy).Contents (Elt F) → (⟨S2x16384x4, .f32⟩ : BufTy).Contents (Elt F) → (⟨S2x16384x4, .f32⟩ : BufTy).Contents (Elt F)),
    unary main_v29 main_v30 (broadcastInDim S2x16384x4x1 ![0, 1, 2] bcast_S2x16384x4_S2x16384x4x1_0_1_2 : (⟨S2x16384x4, .f32⟩ : BufTy).Contents (Elt F) → (⟨S2x16384x4x1, .f32⟩ : BufTy).Contents (Elt F)),
    unary main_v30 main_v31 (broadcastInDim S2x16384x4x8 ![0, 1, 2, 3] bcast_S2x16384x4x1_S2x16384x4x8_0_1_2_3 : (⟨S2x16384x4x1, .f32⟩ : BufTy).Contents (Elt F) → (⟨S2x16384x4x8, .f32⟩ : BufTy).Contents (Elt F)),
    binary main_v26 main_v31 main_v32 (subf : (⟨S2x16384x4x8, .f32⟩ : BufTy).Contents (Elt F) → (⟨S2x16384x4x8, .f32⟩ : BufTy).Contents (Elt F) → (⟨S2x16384x4x8, .f32⟩ : BufTy).Contents (Elt F)),
    unary main_v32 main_v33 (Host.exp : (⟨S2x16384x4x8, .f32⟩ : BufTy).Contents (Elt F) → (⟨S2x16384x4x8, .f32⟩ : BufTy).Contents (Elt F)),
    nullary main_cst_6 (constant S_ .f32 0x00000000#32),
    binary main_v33 main_cst_6 main_v34 ((fun x v => Host.reduceAdd x v reducesTo_S2x16384x4x8_S2x16384x4_d3 h_S_) : (⟨S2x16384x4x8, .f32⟩ : BufTy).Contents (Elt F) → (⟨S_, .f32⟩ : BufTy).Contents (Elt F) → (⟨S2x16384x4, .f32⟩ : BufTy).Contents (Elt F)),
    unary main_v34 main_v35 (broadcastInDim S2x16384x4x1 ![0, 1, 2] bcast_S2x16384x4_S2x16384x4x1_0_1_2 : (⟨S2x16384x4, .f32⟩ : BufTy).Contents (Elt F) → (⟨S2x16384x4x1, .f32⟩ : BufTy).Contents (Elt F)),
    unary main_v35 main_v36 (broadcastInDim S2x16384x4x8 ![0, 1, 2, 3] bcast_S2x16384x4x1_S2x16384x4x8_0_1_2_3 : (⟨S2x16384x4x1, .f32⟩ : BufTy).Contents (Elt F) → (⟨S2x16384x4x8, .f32⟩ : BufTy).Contents (Elt F)),
    binary main_v33 main_v36 main_v37 (Host.divf : (⟨S2x16384x4x8, .f32⟩ : BufTy).Contents (Elt F) → (⟨S2x16384x4x8, .f32⟩ : BufTy).Contents (Elt F) → (⟨S2x16384x4x8, .f32⟩ : BufTy).Contents (Elt F)),
    binary main_v11 main_arg6 main_v38 ((fun l r => Host.dotGeneral dot_S2x16384x512_S4x8x512_S2x16384x4x8_2_2_01_01_n_n none l r) : (⟨S2x16384x512, .f32⟩ : BufTy).Contents (Elt F) → (⟨S4x8x512, .f32⟩ : BufTy).Contents (Elt F) → (⟨S2x16384x4x8, .f32⟩ : BufTy).Contents (Elt F)),
    binary main_v37 main_v38 main_v39 ((fun l r => Host.dotGeneral dot_S2x16384x4x8_S2x16384x4x8_S2x16384x4_3_3_n_n_012_012 none l r) : (⟨S2x16384x4x8, .f32⟩ : BufTy).Contents (Elt F) → (⟨S2x16384x4x8, .f32⟩ : BufTy).Contents (Elt F) → (⟨S2x16384x4, .f32⟩ : BufTy).Contents (Elt F)),
    binary main_v23 main_arg6 main_v40 ((fun l r => Host.dotGeneral dot_S2x16384x512_S4x8x512_S2x16384x4x8_2_2_01_01_n_n none l r) : (⟨S2x16384x512, .f32⟩ : BufTy).Contents (Elt F) → (⟨S4x8x512, .f32⟩ : BufTy).Contents (Elt F) → (⟨S2x16384x4x8, .f32⟩ : BufTy).Contents (Elt F)),
    nullary main_cst_7 (constant S_ .f32 0x3D3504F3#32),
    unary main_cst_7 main_v41 (broadcastInDim S2x16384x4x8 ![] bcast_S_S2x16384x4x8 : (⟨S_, .f32⟩ : BufTy).Contents (Elt F) → (⟨S2x16384x4x8, .f32⟩ : BufTy).Contents (Elt F)),
    binary main_v40 main_v41 main_v42 (mulf : (⟨S2x16384x4x8, .f32⟩ : BufTy).Contents (Elt F) → (⟨S2x16384x4x8, .f32⟩ : BufTy).Contents (Elt F) → (⟨S2x16384x4x8, .f32⟩ : BufTy).Contents (Elt F)),
    nullary main_cst_8 (constant S_ .f32 0xFF800000#32),
    binary main_v42 main_cst_8 main_v43 ((fun x v => Host.reduce FloatOps.maximumf x v reducesTo_S2x16384x4x8_S2x16384x4_d3 h_S_) : (⟨S2x16384x4x8, .f32⟩ : BufTy).Contents (Elt F) → (⟨S_, .f32⟩ : BufTy).Contents (Elt F) → (⟨S2x16384x4, .f32⟩ : BufTy).Contents (Elt F)),
    nullary main_cst_9 (constant S_ .f32 0xFF800000#32),
    unary main_cst_9 main_v44 (broadcastInDim S2x16384x4 ![] bcast_S_S2x16384x4 : (⟨S_, .f32⟩ : BufTy).Contents (Elt F) → (⟨S2x16384x4, .f32⟩ : BufTy).Contents (Elt F)),
    binary main_v44 main_v43 main_v45 (maximumf : (⟨S2x16384x4, .f32⟩ : BufTy).Contents (Elt F) → (⟨S2x16384x4, .f32⟩ : BufTy).Contents (Elt F) → (⟨S2x16384x4, .f32⟩ : BufTy).Contents (Elt F)),
    unary main_v45 main_v46 (broadcastInDim S2x16384x4x1 ![0, 1, 2] bcast_S2x16384x4_S2x16384x4x1_0_1_2 : (⟨S2x16384x4, .f32⟩ : BufTy).Contents (Elt F) → (⟨S2x16384x4x1, .f32⟩ : BufTy).Contents (Elt F)),
    unary main_v46 main_v47 (broadcastInDim S2x16384x4x8 ![0, 1, 2, 3] bcast_S2x16384x4x1_S2x16384x4x8_0_1_2_3 : (⟨S2x16384x4x1, .f32⟩ : BufTy).Contents (Elt F) → (⟨S2x16384x4x8, .f32⟩ : BufTy).Contents (Elt F)),
    binary main_v42 main_v47 main_v48 (subf : (⟨S2x16384x4x8, .f32⟩ : BufTy).Contents (Elt F) → (⟨S2x16384x4x8, .f32⟩ : BufTy).Contents (Elt F) → (⟨S2x16384x4x8, .f32⟩ : BufTy).Contents (Elt F)) ]

/-- Window `main_part0`'s operations. -/
def ops_part0 : List (HloOp τ sig (Elt F)) :=
  ops_part0_0 ++ (ops_part0_1 ++ (ops_part0_2))

/-- @main's operations 85 … 114 of 223 (window `main_part1`). -/
abbrev ops_part1_0 : List (HloOp τ sig (Elt F)) :=
  [ unary main_v48 main_v49 (Host.exp : (⟨S2x16384x4x8, .f32⟩ : BufTy).Contents (Elt F) → (⟨S2x16384x4x8, .f32⟩ : BufTy).Contents (Elt F)),
    nullary main_cst_10 (constant S_ .f32 0x00000000#32),
    binary main_v49 main_cst_10 main_v50 ((fun x v => Host.reduceAdd x v reducesTo_S2x16384x4x8_S2x16384x4_d3 h_S_) : (⟨S2x16384x4x8, .f32⟩ : BufTy).Contents (Elt F) → (⟨S_, .f32⟩ : BufTy).Contents (Elt F) → (⟨S2x16384x4, .f32⟩ : BufTy).Contents (Elt F)),
    unary main_v50 main_v51 (broadcastInDim S2x16384x4x1 ![0, 1, 2] bcast_S2x16384x4_S2x16384x4x1_0_1_2 : (⟨S2x16384x4, .f32⟩ : BufTy).Contents (Elt F) → (⟨S2x16384x4x1, .f32⟩ : BufTy).Contents (Elt F)),
    unary main_v51 main_v52 (broadcastInDim S2x16384x4x8 ![0, 1, 2, 3] bcast_S2x16384x4x1_S2x16384x4x8_0_1_2_3 : (⟨S2x16384x4x1, .f32⟩ : BufTy).Contents (Elt F) → (⟨S2x16384x4x8, .f32⟩ : BufTy).Contents (Elt F)),
    binary main_v49 main_v52 main_v53 (Host.divf : (⟨S2x16384x4x8, .f32⟩ : BufTy).Contents (Elt F) → (⟨S2x16384x4x8, .f32⟩ : BufTy).Contents (Elt F) → (⟨S2x16384x4x8, .f32⟩ : BufTy).Contents (Elt F)),
    binary main_v23 main_arg6 main_v54 ((fun l r => Host.dotGeneral dot_S2x16384x512_S4x8x512_S2x16384x4x8_2_2_01_01_n_n none l r) : (⟨S2x16384x512, .f32⟩ : BufTy).Contents (Elt F) → (⟨S4x8x512, .f32⟩ : BufTy).Contents (Elt F) → (⟨S2x16384x4x8, .f32⟩ : BufTy).Contents (Elt F)),
    binary main_v53 main_v54 main_v55 ((fun l r => Host.dotGeneral dot_S2x16384x4x8_S2x16384x4x8_S2x16384x4_3_3_n_n_012_012 none l r) : (⟨S2x16384x4x8, .f32⟩ : BufTy).Contents (Elt F) → (⟨S2x16384x4x8, .f32⟩ : BufTy).Contents (Elt F) → (⟨S2x16384x4, .f32⟩ : BufTy).Contents (Elt F)),
    binary main_v11 main_arg7 main_v56 ((fun l r => Host.dotGeneral dot_S2x16384x512_S512x256_S2x16384x256_2_0_01_1_n_n none l r) : (⟨S2x16384x512, .f32⟩ : BufTy).Contents (Elt F) → (⟨S512x256, .f32⟩ : BufTy).Contents (Elt F) → (⟨S2x16384x256, .f32⟩ : BufTy).Contents (Elt F)),
    unary main_arg8 main_v57 (broadcastInDim S1x1x256 ![2] bcast_S256_S1x1x256_2 : (⟨S256, .f32⟩ : BufTy).Contents (Elt F) → (⟨S1x1x256, .f32⟩ : BufTy).Contents (Elt F)),
    unary main_v57 main_v58 (broadcastInDim S2x16384x256 ![0, 1, 2] bcast_S1x1x256_S2x16384x256_0_1_2 : (⟨S1x1x256, .f32⟩ : BufTy).Contents (Elt F) → (⟨S2x16384x256, .f32⟩ : BufTy).Contents (Elt F)),
    binary main_v56 main_v58 main_v59 (addf : (⟨S2x16384x256, .f32⟩ : BufTy).Contents (Elt F) → (⟨S2x16384x256, .f32⟩ : BufTy).Contents (Elt F) → (⟨S2x16384x256, .f32⟩ : BufTy).Contents (Elt F)),
    unary main_v59 main_v60 (Host.tanh : (⟨S2x16384x256, .f32⟩ : BufTy).Contents (Elt F) → (⟨S2x16384x256, .f32⟩ : BufTy).Contents (Elt F)),
    binary main_v11 main_arg9 main_v61 ((fun l r => Host.dotGeneral dot_S2x16384x512_S512x256_S2x16384x256_2_0_01_1_n_n none l r) : (⟨S2x16384x512, .f32⟩ : BufTy).Contents (Elt F) → (⟨S512x256, .f32⟩ : BufTy).Contents (Elt F) → (⟨S2x16384x256, .f32⟩ : BufTy).Contents (Elt F)),
    unary main_arg10 main_v62 (broadcastInDim S1x1x256 ![2] bcast_S256_S1x1x256_2 : (⟨S256, .f32⟩ : BufTy).Contents (Elt F) → (⟨S1x1x256, .f32⟩ : BufTy).Contents (Elt F)),
    unary main_v62 main_v63 (broadcastInDim S2x16384x256 ![0, 1, 2] bcast_S1x1x256_S2x16384x256_0_1_2 : (⟨S1x1x256, .f32⟩ : BufTy).Contents (Elt F) → (⟨S2x16384x256, .f32⟩ : BufTy).Contents (Elt F)),
    binary main_v61 main_v63 main_v64 (addf : (⟨S2x16384x256, .f32⟩ : BufTy).Contents (Elt F) → (⟨S2x16384x256, .f32⟩ : BufTy).Contents (Elt F) → (⟨S2x16384x256, .f32⟩ : BufTy).Contents (Elt F)),
    unary main_v64 main_v65 (Host.negf : (⟨S2x16384x256, .f32⟩ : BufTy).Contents (Elt F) → (⟨S2x16384x256, .f32⟩ : BufTy).Contents (Elt F)),
    unary main_v65 main_v66 (Host.exp : (⟨S2x16384x256, .f32⟩ : BufTy).Contents (Elt F) → (⟨S2x16384x256, .f32⟩ : BufTy).Contents (Elt F)),
    nullary main_cst_11 (constant S_ .f32 0x3F800000#32),
    unary main_cst_11 main_v67 (broadcastInDim S2x16384x256 ![] bcast_S_S2x16384x256 : (⟨S_, .f32⟩ : BufTy).Contents (Elt F) → (⟨S2x16384x256, .f32⟩ : BufTy).Contents (Elt F)),
    binary main_v67 main_v66 main_v68 (addf : (⟨S2x16384x256, .f32⟩ : BufTy).Contents (Elt F) → (⟨S2x16384x256, .f32⟩ : BufTy).Contents (Elt F) → (⟨S2x16384x256, .f32⟩ : BufTy).Contents (Elt F)),
    nullary main_cst_12 (constant S_ .f32 0x3F800000#32),
    unary main_cst_12 main_v69 (broadcastInDim S2x16384x256 ![] bcast_S_S2x16384x256 : (⟨S_, .f32⟩ : BufTy).Contents (Elt F) → (⟨S2x16384x256, .f32⟩ : BufTy).Contents (Elt F)),
    binary main_v69 main_v68 main_v70 (Host.divf : (⟨S2x16384x256, .f32⟩ : BufTy).Contents (Elt F) → (⟨S2x16384x256, .f32⟩ : BufTy).Contents (Elt F) → (⟨S2x16384x256, .f32⟩ : BufTy).Contents (Elt F)),
    binary main_v60 main_v70 main_v71 (mulf : (⟨S2x16384x256, .f32⟩ : BufTy).Contents (Elt F) → (⟨S2x16384x256, .f32⟩ : BufTy).Contents (Elt F) → (⟨S2x16384x256, .f32⟩ : BufTy).Contents (Elt F)),
    binary main_v71 main_arg11 main_v72 ((fun l r => Host.dotGeneral dot_S2x16384x256_S256_S2x16384_2_0_01_n_n_n none l r) : (⟨S2x16384x256, .f32⟩ : BufTy).Contents (Elt F) → (⟨S256, .f32⟩ : BufTy).Contents (Elt F) → (⟨S2x16384, .f32⟩ : BufTy).Contents (Elt F)),
    unary main_arg12 main_v73 (broadcastInDim S2x16384 ![] bcast_S_S2x16384 : (⟨S_, .f32⟩ : BufTy).Contents (Elt F) → (⟨S2x16384, .f32⟩ : BufTy).Contents (Elt F)),
    binary main_v72 main_v73 main_v74 (addf : (⟨S2x16384, .f32⟩ : BufTy).Contents (Elt F) → (⟨S2x16384, .f32⟩ : BufTy).Contents (Elt F) → (⟨S2x16384, .f32⟩ : BufTy).Contents (Elt F)),
    nullary main_cst_13 (constant S_ .f32 0xFF800000#32) ]

/-- @main's operations 115 … 144 of 223 (window `main_part1`). -/
abbrev ops_part1_1 : List (HloOp τ sig (Elt F)) :=
  [ binary main_v74 main_cst_13 main_v75 ((fun x v => Host.reduce FloatOps.maximumf x v reducesTo_S2x16384_S2_d1 h_S_) : (⟨S2x16384, .f32⟩ : BufTy).Contents (Elt F) → (⟨S_, .f32⟩ : BufTy).Contents (Elt F) → (⟨S2, .f32⟩ : BufTy).Contents (Elt F)),
    nullary main_cst_14 (constant S_ .f32 0xFF800000#32),
    unary main_cst_14 main_v76 (broadcastInDim S2 ![] bcast_S_S2 : (⟨S_, .f32⟩ : BufTy).Contents (Elt F) → (⟨S2, .f32⟩ : BufTy).Contents (Elt F)),
    binary main_v76 main_v75 main_v77 (maximumf : (⟨S2, .f32⟩ : BufTy).Contents (Elt F) → (⟨S2, .f32⟩ : BufTy).Contents (Elt F) → (⟨S2, .f32⟩ : BufTy).Contents (Elt F)),
    unary main_v77 main_v78 (broadcastInDim S2x1 ![0] bcast_S2_S2x1_0 : (⟨S2, .f32⟩ : BufTy).Contents (Elt F) → (⟨S2x1, .f32⟩ : BufTy).Contents (Elt F)),
    unary main_v78 main_v79 (broadcastInDim S2x16384 ![0, 1] bcast_S2x1_S2x16384_0_1 : (⟨S2x1, .f32⟩ : BufTy).Contents (Elt F) → (⟨S2x16384, .f32⟩ : BufTy).Contents (Elt F)),
    binary main_v74 main_v79 main_v80 (subf : (⟨S2x16384, .f32⟩ : BufTy).Contents (Elt F) → (⟨S2x16384, .f32⟩ : BufTy).Contents (Elt F) → (⟨S2x16384, .f32⟩ : BufTy).Contents (Elt F)),
    unary main_v80 main_v81 (Host.exp : (⟨S2x16384, .f32⟩ : BufTy).Contents (Elt F) → (⟨S2x16384, .f32⟩ : BufTy).Contents (Elt F)),
    nullary main_cst_15 (constant S_ .f32 0x00000000#32),
    binary main_v81 main_cst_15 main_v82 ((fun x v => Host.reduceAdd x v reducesTo_S2x16384_S2_d1 h_S_) : (⟨S2x16384, .f32⟩ : BufTy).Contents (Elt F) → (⟨S_, .f32⟩ : BufTy).Contents (Elt F) → (⟨S2, .f32⟩ : BufTy).Contents (Elt F)),
    unary main_v82 main_v83 (broadcastInDim S2x1 ![0] bcast_S2_S2x1_0 : (⟨S2, .f32⟩ : BufTy).Contents (Elt F) → (⟨S2x1, .f32⟩ : BufTy).Contents (Elt F)),
    unary main_v83 main_v84 (broadcastInDim S2x16384 ![0, 1] bcast_S2x1_S2x16384_0_1 : (⟨S2x1, .f32⟩ : BufTy).Contents (Elt F) → (⟨S2x16384, .f32⟩ : BufTy).Contents (Elt F)),
    binary main_v81 main_v84 main_v85 (Host.divf : (⟨S2x16384, .f32⟩ : BufTy).Contents (Elt F) → (⟨S2x16384, .f32⟩ : BufTy).Contents (Elt F) → (⟨S2x16384, .f32⟩ : BufTy).Contents (Elt F)),
    binary main_v85 main_v11 main_v86 ((fun l r => Host.dotGeneral dot_S2x16384_S2x16384x512_S2x512_1_1_n_2_0_0 none l r) : (⟨S2x16384, .f32⟩ : BufTy).Contents (Elt F) → (⟨S2x16384x512, .f32⟩ : BufTy).Contents (Elt F) → (⟨S2x512, .f32⟩ : BufTy).Contents (Elt F)),
    TRef.binary (TRef.of (T := ⟨S2x512, .f32⟩) main_v86) (TRef.of (T := ⟨S2x512, .f32⟩) main_v86) (TRef.of (T := ⟨S2x512, .f32⟩) main_call8_v0) mulf,
    TRef.nullary (TRef.of (T := ⟨S_, .f32⟩) main_call8_cst) (constant S_ .f32 0x00000000#32),
    TRef.binary (TRef.of (T := ⟨S2x512, .f32⟩) main_call8_v0) (TRef.of (T := ⟨S_, .f32⟩) main_call8_cst) (TRef.of (T := ⟨S2, .f32⟩) main_call8_v1) (fun x v => Host.reduceAdd x v reducesTo_S2x512_S2_d1 h_S_),
    TRef.unary (TRef.of (T := ⟨S2, .f32⟩) main_call8_v1) (TRef.of (T := ⟨S2x1, .f32⟩) main_call8_v2) (broadcastInDim S2x1 ![0] bcast_S2_S2x1_0),
    TRef.unary (TRef.of (T := ⟨S2x1, .f32⟩) main_call8_v2) (TRef.of (T := ⟨S2x1, .f32⟩) main_v87) Host.sqrt,
    nullary main_cst_16 (constant S_ .f32 0x2B8CBCCC#32),
    TRef.unary (TRef.of (T := ⟨S_, .f32⟩) main_cst_16) (TRef.of (T := ⟨S_, .f32⟩) main_call9_v0) id,
    TRef.unary (TRef.of (T := ⟨S_, .f32⟩) main_call9_v0) (TRef.of (T := ⟨S2x1, .f32⟩) main_call9_v1) (broadcastInDim S2x1 ![] bcast_S_S2x1),
    TRef.binary (TRef.of (T := ⟨S2x1, .f32⟩) main_call9_v1) (TRef.of (T := ⟨S2x1, .f32⟩) main_v87) (TRef.of (T := ⟨S2x1, .f32⟩) main_v88) maximumf,
    unary main_v88 main_v89 (broadcastInDim S2x512 ![0, 1] bcast_S2x1_S2x512_0_1 : (⟨S2x1, .f32⟩ : BufTy).Contents (Elt F) → (⟨S2x512, .f32⟩ : BufTy).Contents (Elt F)),
    binary main_v86 main_v89 main_v90 (Host.divf : (⟨S2x512, .f32⟩ : BufTy).Contents (Elt F) → (⟨S2x512, .f32⟩ : BufTy).Contents (Elt F) → (⟨S2x512, .f32⟩ : BufTy).Contents (Elt F)),
    binary main_v23 main_arg7 main_v91 ((fun l r => Host.dotGeneral dot_S2x16384x512_S512x256_S2x16384x256_2_0_01_1_n_n none l r) : (⟨S2x16384x512, .f32⟩ : BufTy).Contents (Elt F) → (⟨S512x256, .f32⟩ : BufTy).Contents (Elt F) → (⟨S2x16384x256, .f32⟩ : BufTy).Contents (Elt F)),
    unary main_arg8 main_v92 (broadcastInDim S1x1x256 ![2] bcast_S256_S1x1x256_2 : (⟨S256, .f32⟩ : BufTy).Contents (Elt F) → (⟨S1x1x256, .f32⟩ : BufTy).Contents (Elt F)),
    unary main_v92 main_v93 (broadcastInDim S2x16384x256 ![0, 1, 2] bcast_S1x1x256_S2x16384x256_0_1_2 : (⟨S1x1x256, .f32⟩ : BufTy).Contents (Elt F) → (⟨S2x16384x256, .f32⟩ : BufTy).Contents (Elt F)),
    binary main_v91 main_v93 main_v94 (addf : (⟨S2x16384x256, .f32⟩ : BufTy).Contents (Elt F) → (⟨S2x16384x256, .f32⟩ : BufTy).Contents (Elt F) → (⟨S2x16384x256, .f32⟩ : BufTy).Contents (Elt F)),
    unary main_v94 main_v95 (Host.tanh : (⟨S2x16384x256, .f32⟩ : BufTy).Contents (Elt F) → (⟨S2x16384x256, .f32⟩ : BufTy).Contents (Elt F)) ]

/-- @main's operations 145 … 150 of 223 (window `main_part1`). -/
abbrev ops_part1_2 : List (HloOp τ sig (Elt F)) :=
  [ binary main_v23 main_arg9 main_v96 ((fun l r => Host.dotGeneral dot_S2x16384x512_S512x256_S2x16384x256_2_0_01_1_n_n none l r) : (⟨S2x16384x512, .f32⟩ : BufTy).Contents (Elt F) → (⟨S512x256, .f32⟩ : BufTy).Contents (Elt F) → (⟨S2x16384x256, .f32⟩ : BufTy).Contents (Elt F)),
    unary main_arg10 main_v97 (broadcastInDim S1x1x256 ![2] bcast_S256_S1x1x256_2 : (⟨S256, .f32⟩ : BufTy).Contents (Elt F) → (⟨S1x1x256, .f32⟩ : BufTy).Contents (Elt F)),
    unary main_v97 main_v98 (broadcastInDim S2x16384x256 ![0, 1, 2] bcast_S1x1x256_S2x16384x256_0_1_2 : (⟨S1x1x256, .f32⟩ : BufTy).Contents (Elt F) → (⟨S2x16384x256, .f32⟩ : BufTy).Contents (Elt F)),
    binary main_v96 main_v98 main_v99 (addf : (⟨S2x16384x256, .f32⟩ : BufTy).Contents (Elt F) → (⟨S2x16384x256, .f32⟩ : BufTy).Contents (Elt F) → (⟨S2x16384x256, .f32⟩ : BufTy).Contents (Elt F)),
    unary main_v99 main_v100 (Host.negf : (⟨S2x16384x256, .f32⟩ : BufTy).Contents (Elt F) → (⟨S2x16384x256, .f32⟩ : BufTy).Contents (Elt F)),
    unary main_v100 main_v101 (Host.exp : (⟨S2x16384x256, .f32⟩ : BufTy).Contents (Elt F) → (⟨S2x16384x256, .f32⟩ : BufTy).Contents (Elt F)) ]

/-- Window `main_part1`'s operations. -/
def ops_part1 : List (HloOp τ sig (Elt F)) :=
  ops_part1_0 ++ (ops_part1_1 ++ (ops_part1_2))

/-- @main's operations 151 … 180 of 223 (window `main_part2`). -/
abbrev ops_part2_0 : List (HloOp τ sig (Elt F)) :=
  [ nullary main_cst_17 (constant S_ .f32 0x3F800000#32),
    unary main_cst_17 main_v102 (broadcastInDim S2x16384x256 ![] bcast_S_S2x16384x256 : (⟨S_, .f32⟩ : BufTy).Contents (Elt F) → (⟨S2x16384x256, .f32⟩ : BufTy).Contents (Elt F)),
    binary main_v102 main_v101 main_v103 (addf : (⟨S2x16384x256, .f32⟩ : BufTy).Contents (Elt F) → (⟨S2x16384x256, .f32⟩ : BufTy).Contents (Elt F) → (⟨S2x16384x256, .f32⟩ : BufTy).Contents (Elt F)),
    nullary main_cst_18 (constant S_ .f32 0x3F800000#32),
    unary main_cst_18 main_v104 (broadcastInDim S2x16384x256 ![] bcast_S_S2x16384x256 : (⟨S_, .f32⟩ : BufTy).Contents (Elt F) → (⟨S2x16384x256, .f32⟩ : BufTy).Contents (Elt F)),
    binary main_v104 main_v103 main_v105 (Host.divf : (⟨S2x16384x256, .f32⟩ : BufTy).Contents (Elt F) → (⟨S2x16384x256, .f32⟩ : BufTy).Contents (Elt F) → (⟨S2x16384x256, .f32⟩ : BufTy).Contents (Elt F)),
    binary main_v95 main_v105 main_v106 (mulf : (⟨S2x16384x256, .f32⟩ : BufTy).Contents (Elt F) → (⟨S2x16384x256, .f32⟩ : BufTy).Contents (Elt F) → (⟨S2x16384x256, .f32⟩ : BufTy).Contents (Elt F)),
    binary main_v106 main_arg11 main_v107 ((fun l r => Host.dotGeneral dot_S2x16384x256_S256_S2x16384_2_0_01_n_n_n none l r) : (⟨S2x16384x256, .f32⟩ : BufTy).Contents (Elt F) → (⟨S256, .f32⟩ : BufTy).Contents (Elt F) → (⟨S2x16384, .f32⟩ : BufTy).Contents (Elt F)),
    unary main_arg12 main_v108 (broadcastInDim S2x16384 ![] bcast_S_S2x16384 : (⟨S_, .f32⟩ : BufTy).Contents (Elt F) → (⟨S2x16384, .f32⟩ : BufTy).Contents (Elt F)),
    binary main_v107 main_v108 main_v109 (addf : (⟨S2x16384, .f32⟩ : BufTy).Contents (Elt F) → (⟨S2x16384, .f32⟩ : BufTy).Contents (Elt F) → (⟨S2x16384, .f32⟩ : BufTy).Contents (Elt F)),
    nullary main_cst_19 (constant S_ .f32 0xFF800000#32),
    binary main_v109 main_cst_19 main_v110 ((fun x v => Host.reduce FloatOps.maximumf x v reducesTo_S2x16384_S2_d1 h_S_) : (⟨S2x16384, .f32⟩ : BufTy).Contents (Elt F) → (⟨S_, .f32⟩ : BufTy).Contents (Elt F) → (⟨S2, .f32⟩ : BufTy).Contents (Elt F)),
    nullary main_cst_20 (constant S_ .f32 0xFF800000#32),
    unary main_cst_20 main_v111 (broadcastInDim S2 ![] bcast_S_S2 : (⟨S_, .f32⟩ : BufTy).Contents (Elt F) → (⟨S2, .f32⟩ : BufTy).Contents (Elt F)),
    binary main_v111 main_v110 main_v112 (maximumf : (⟨S2, .f32⟩ : BufTy).Contents (Elt F) → (⟨S2, .f32⟩ : BufTy).Contents (Elt F) → (⟨S2, .f32⟩ : BufTy).Contents (Elt F)),
    unary main_v112 main_v113 (broadcastInDim S2x1 ![0] bcast_S2_S2x1_0 : (⟨S2, .f32⟩ : BufTy).Contents (Elt F) → (⟨S2x1, .f32⟩ : BufTy).Contents (Elt F)),
    unary main_v113 main_v114 (broadcastInDim S2x16384 ![0, 1] bcast_S2x1_S2x16384_0_1 : (⟨S2x1, .f32⟩ : BufTy).Contents (Elt F) → (⟨S2x16384, .f32⟩ : BufTy).Contents (Elt F)),
    binary main_v109 main_v114 main_v115 (subf : (⟨S2x16384, .f32⟩ : BufTy).Contents (Elt F) → (⟨S2x16384, .f32⟩ : BufTy).Contents (Elt F) → (⟨S2x16384, .f32⟩ : BufTy).Contents (Elt F)),
    unary main_v115 main_v116 (Host.exp : (⟨S2x16384, .f32⟩ : BufTy).Contents (Elt F) → (⟨S2x16384, .f32⟩ : BufTy).Contents (Elt F)),
    nullary main_cst_21 (constant S_ .f32 0x00000000#32),
    binary main_v116 main_cst_21 main_v117 ((fun x v => Host.reduceAdd x v reducesTo_S2x16384_S2_d1 h_S_) : (⟨S2x16384, .f32⟩ : BufTy).Contents (Elt F) → (⟨S_, .f32⟩ : BufTy).Contents (Elt F) → (⟨S2, .f32⟩ : BufTy).Contents (Elt F)),
    unary main_v117 main_v118 (broadcastInDim S2x1 ![0] bcast_S2_S2x1_0 : (⟨S2, .f32⟩ : BufTy).Contents (Elt F) → (⟨S2x1, .f32⟩ : BufTy).Contents (Elt F)),
    unary main_v118 main_v119 (broadcastInDim S2x16384 ![0, 1] bcast_S2x1_S2x16384_0_1 : (⟨S2x1, .f32⟩ : BufTy).Contents (Elt F) → (⟨S2x16384, .f32⟩ : BufTy).Contents (Elt F)),
    binary main_v116 main_v119 main_v120 (Host.divf : (⟨S2x16384, .f32⟩ : BufTy).Contents (Elt F) → (⟨S2x16384, .f32⟩ : BufTy).Contents (Elt F) → (⟨S2x16384, .f32⟩ : BufTy).Contents (Elt F)),
    binary main_v120 main_v23 main_v121 ((fun l r => Host.dotGeneral dot_S2x16384_S2x16384x512_S2x512_1_1_n_2_0_0 none l r) : (⟨S2x16384, .f32⟩ : BufTy).Contents (Elt F) → (⟨S2x16384x512, .f32⟩ : BufTy).Contents (Elt F) → (⟨S2x512, .f32⟩ : BufTy).Contents (Elt F)),
    TRef.binary (TRef.of (T := ⟨S2x512, .f32⟩) main_v121) (TRef.of (T := ⟨S2x512, .f32⟩) main_v121) (TRef.of (T := ⟨S2x512, .f32⟩) main_call10_v0) mulf,
    TRef.nullary (TRef.of (T := ⟨S_, .f32⟩) main_call10_cst) (constant S_ .f32 0x00000000#32),
    TRef.binary (TRef.of (T := ⟨S2x512, .f32⟩) main_call10_v0) (TRef.of (T := ⟨S_, .f32⟩) main_call10_cst) (TRef.of (T := ⟨S2, .f32⟩) main_call10_v1) (fun x v => Host.reduceAdd x v reducesTo_S2x512_S2_d1 h_S_),
    TRef.unary (TRef.of (T := ⟨S2, .f32⟩) main_call10_v1) (TRef.of (T := ⟨S2x1, .f32⟩) main_call10_v2) (broadcastInDim S2x1 ![0] bcast_S2_S2x1_0),
    TRef.unary (TRef.of (T := ⟨S2x1, .f32⟩) main_call10_v2) (TRef.of (T := ⟨S2x1, .f32⟩) main_v122) Host.sqrt ]

/-- @main's operations 181 … 210 of 223 (window `main_part2`). -/
abbrev ops_part2_1 : List (HloOp τ sig (Elt F)) :=
  [ nullary main_cst_22 (constant S_ .f32 0x2B8CBCCC#32),
    TRef.unary (TRef.of (T := ⟨S_, .f32⟩) main_cst_22) (TRef.of (T := ⟨S_, .f32⟩) main_call11_v0) id,
    TRef.unary (TRef.of (T := ⟨S_, .f32⟩) main_call11_v0) (TRef.of (T := ⟨S2x1, .f32⟩) main_call11_v1) (broadcastInDim S2x1 ![] bcast_S_S2x1),
    TRef.binary (TRef.of (T := ⟨S2x1, .f32⟩) main_call11_v1) (TRef.of (T := ⟨S2x1, .f32⟩) main_v122) (TRef.of (T := ⟨S2x1, .f32⟩) main_v123) maximumf,
    unary main_v123 main_v124 (broadcastInDim S2x512 ![0, 1] bcast_S2x1_S2x512_0_1 : (⟨S2x1, .f32⟩ : BufTy).Contents (Elt F) → (⟨S2x512, .f32⟩ : BufTy).Contents (Elt F)),
    binary main_v121 main_v124 main_v125 (Host.divf : (⟨S2x512, .f32⟩ : BufTy).Contents (Elt F) → (⟨S2x512, .f32⟩ : BufTy).Contents (Elt F) → (⟨S2x512, .f32⟩ : BufTy).Contents (Elt F)),
    nullary main_cst_23 (constant S_ .f32 0xFF800000#32),
    binary main_arg6 main_cst_23 main_v126 ((fun x v => Host.reduce FloatOps.maximumf x v reducesTo_S4x8x512_S4x512_d1 h_S_) : (⟨S4x8x512, .f32⟩ : BufTy).Contents (Elt F) → (⟨S_, .f32⟩ : BufTy).Contents (Elt F) → (⟨S4x512, .f32⟩ : BufTy).Contents (Elt F)),
    TRef.binary (TRef.of (T := ⟨S4x512, .f32⟩) main_v126) (TRef.of (T := ⟨S4x512, .f32⟩) main_v126) (TRef.of (T := ⟨S4x512, .f32⟩) main_call12_v0) mulf,
    TRef.nullary (TRef.of (T := ⟨S_, .f32⟩) main_call12_cst) (constant S_ .f32 0x00000000#32),
    TRef.binary (TRef.of (T := ⟨S4x512, .f32⟩) main_call12_v0) (TRef.of (T := ⟨S_, .f32⟩) main_call12_cst) (TRef.of (T := ⟨S4, .f32⟩) main_call12_v1) (fun x v => Host.reduceAdd x v reducesTo_S4x512_S4_d1 h_S_),
    TRef.unary (TRef.of (T := ⟨S4, .f32⟩) main_call12_v1) (TRef.of (T := ⟨S4x1, .f32⟩) main_call12_v2) (broadcastInDim S4x1 ![0] bcast_S4_S4x1_0),
    TRef.unary (TRef.of (T := ⟨S4x1, .f32⟩) main_call12_v2) (TRef.of (T := ⟨S4x1, .f32⟩) main_v127) Host.sqrt,
    nullary main_cst_24 (constant S_ .f32 0x2B8CBCCC#32),
    TRef.unary (TRef.of (T := ⟨S_, .f32⟩) main_cst_24) (TRef.of (T := ⟨S_, .f32⟩) main_call13_v0) id,
    TRef.unary (TRef.of (T := ⟨S_, .f32⟩) main_call13_v0) (TRef.of (T := ⟨S4x1, .f32⟩) main_call13_v1) (broadcastInDim S4x1 ![] bcast_S_S4x1),
    TRef.binary (TRef.of (T := ⟨S4x1, .f32⟩) main_call13_v1) (TRef.of (T := ⟨S4x1, .f32⟩) main_v127) (TRef.of (T := ⟨S4x1, .f32⟩) main_v128) maximumf,
    unary main_v128 main_v129 (broadcastInDim S4x512 ![0, 1] bcast_S4x1_S4x512_0_1 : (⟨S4x1, .f32⟩ : BufTy).Contents (Elt F) → (⟨S4x512, .f32⟩ : BufTy).Contents (Elt F)),
    binary main_v126 main_v129 main_v130 (Host.divf : (⟨S4x512, .f32⟩ : BufTy).Contents (Elt F) → (⟨S4x512, .f32⟩ : BufTy).Contents (Elt F) → (⟨S4x512, .f32⟩ : BufTy).Contents (Elt F)),
    unary main_v130 main_v131 ((transpose S512x4 [1, 0] · transposes_S4x512_S512x4_1_0) : (⟨S4x512, .f32⟩ : BufTy).Contents (Elt F) → (⟨S512x4, .f32⟩ : BufTy).Contents (Elt F)),
    binary main_v90 main_v131 main_v132 ((fun l r => Host.dotGeneral dot_S2x512_S512x4_S2x4_1_0_0_1_n_n none l r) : (⟨S2x512, .f32⟩ : BufTy).Contents (Elt F) → (⟨S512x4, .f32⟩ : BufTy).Contents (Elt F) → (⟨S2x4, .f32⟩ : BufTy).Contents (Elt F)),
    unary main_v130 main_v133 ((transpose S512x4 [1, 0] · transposes_S4x512_S512x4_1_0) : (⟨S4x512, .f32⟩ : BufTy).Contents (Elt F) → (⟨S512x4, .f32⟩ : BufTy).Contents (Elt F)),
    binary main_v125 main_v133 main_v134 ((fun l r => Host.dotGeneral dot_S2x512_S512x4_S2x4_1_0_0_1_n_n none l r) : (⟨S2x512, .f32⟩ : BufTy).Contents (Elt F) → (⟨S512x4, .f32⟩ : BufTy).Contents (Elt F) → (⟨S2x4, .f32⟩ : BufTy).Contents (Elt F)),
    binary main_v132 main_v134 main_v135 (addf : (⟨S2x4, .f32⟩ : BufTy).Contents (Elt F) → (⟨S2x4, .f32⟩ : BufTy).Contents (Elt F) → (⟨S2x4, .f32⟩ : BufTy).Contents (Elt F)),
    nullary main_cst_25 (constant S_ .f32 0xFF800000#32),
    binary main_v135 main_cst_25 main_v136 ((fun x v => Host.reduce FloatOps.maximumf x v reducesTo_S2x4_S2_d1 h_S_) : (⟨S2x4, .f32⟩ : BufTy).Contents (Elt F) → (⟨S_, .f32⟩ : BufTy).Contents (Elt F) → (⟨S2, .f32⟩ : BufTy).Contents (Elt F)),
    nullary main_cst_26 (constant S_ .f32 0xFF800000#32),
    unary main_cst_26 main_v137 (broadcastInDim S2 ![] bcast_S_S2 : (⟨S_, .f32⟩ : BufTy).Contents (Elt F) → (⟨S2, .f32⟩ : BufTy).Contents (Elt F)),
    binary main_v137 main_v136 main_v138 (maximumf : (⟨S2, .f32⟩ : BufTy).Contents (Elt F) → (⟨S2, .f32⟩ : BufTy).Contents (Elt F) → (⟨S2, .f32⟩ : BufTy).Contents (Elt F)),
    unary main_v138 main_v139 (broadcastInDim S2x1 ![0] bcast_S2_S2x1_0 : (⟨S2, .f32⟩ : BufTy).Contents (Elt F) → (⟨S2x1, .f32⟩ : BufTy).Contents (Elt F)) ]

/-- @main's operations 211 … 223 of 223 (window `main_part2`). -/
abbrev ops_part2_2 : List (HloOp τ sig (Elt F)) :=
  [ unary main_v139 main_v140 (broadcastInDim S2x4 ![0, 1] bcast_S2x1_S2x4_0_1 : (⟨S2x1, .f32⟩ : BufTy).Contents (Elt F) → (⟨S2x4, .f32⟩ : BufTy).Contents (Elt F)),
    binary main_v135 main_v140 main_v141 (subf : (⟨S2x4, .f32⟩ : BufTy).Contents (Elt F) → (⟨S2x4, .f32⟩ : BufTy).Contents (Elt F) → (⟨S2x4, .f32⟩ : BufTy).Contents (Elt F)),
    unary main_v141 main_v142 (Host.exp : (⟨S2x4, .f32⟩ : BufTy).Contents (Elt F) → (⟨S2x4, .f32⟩ : BufTy).Contents (Elt F)),
    nullary main_cst_27 (constant S_ .f32 0x00000000#32),
    binary main_v142 main_cst_27 main_v143 ((fun x v => Host.reduceAdd x v reducesTo_S2x4_S2_d1 h_S_) : (⟨S2x4, .f32⟩ : BufTy).Contents (Elt F) → (⟨S_, .f32⟩ : BufTy).Contents (Elt F) → (⟨S2, .f32⟩ : BufTy).Contents (Elt F)),
    unary main_v143 main_v144 (broadcastInDim S2x1 ![0] bcast_S2_S2x1_0 : (⟨S2, .f32⟩ : BufTy).Contents (Elt F) → (⟨S2x1, .f32⟩ : BufTy).Contents (Elt F)),
    unary main_v144 main_v145 (broadcastInDim S2x4 ![0, 1] bcast_S2x1_S2x4_0_1 : (⟨S2x1, .f32⟩ : BufTy).Contents (Elt F) → (⟨S2x4, .f32⟩ : BufTy).Contents (Elt F)),
    binary main_v142 main_v145 main_v146 (Host.divf : (⟨S2x4, .f32⟩ : BufTy).Contents (Elt F) → (⟨S2x4, .f32⟩ : BufTy).Contents (Elt F) → (⟨S2x4, .f32⟩ : BufTy).Contents (Elt F)),
    TRef.nullary (TRef.of (T := ⟨S2x4, .i32⟩) main_call14_v0) (iotaInDim S2x4 32 1),
    TRef.nullary (TRef.of (T := ⟨S_, .f32⟩) main_call14_cst) (constant S_ .f32 0xFF800000#32),
    TRef.nullary (TRef.of (T := ⟨S_, .i32⟩) main_call14_c) (constantI S_ 32 0#32),
    TRef.quaternary (TRef.of (T := ⟨S2x4, .f32⟩) main_v146) (TRef.of (T := ⟨S2x4, .i32⟩) main_call14_v0) (TRef.of (T := ⟨S_, .f32⟩) main_call14_cst) (TRef.of (T := ⟨S_, .i32⟩) main_call14_c) (TRef.of (T := ⟨S2, .f32⟩) main_call14_v1_0) (fun x y u v j => (Host.argReduce reducer_argmax_f32_i32 x y u v reducesTo_S2x4_S2_d1 h_S_ j).1),
    TRef.quaternary (TRef.of (T := ⟨S2x4, .f32⟩) main_v146) (TRef.of (T := ⟨S2x4, .i32⟩) main_call14_v0) (TRef.of (T := ⟨S_, .f32⟩) main_call14_cst) (TRef.of (T := ⟨S_, .i32⟩) main_call14_c) (TRef.of (T := ⟨S2, .i32⟩) main_v147) (fun x y u v j => (Host.argReduce reducer_argmax_f32_i32 x y u v reducesTo_S2x4_S2_d1 h_S_ j).2) ]

/-- Window `main_part2`'s operations. -/
def ops_part2 : List (HloOp τ sig (Elt F)) :=
  ops_part2_0 ++ (ops_part2_1 ++ (ops_part2_2))

/-- @main's operations in order, a called function's in its call's place. -/
abbrev ops : List (HloOp τ sig (Elt F)) :=
  ops_part0 ++ (ops_part1 ++ (ops_part2))

set_option maxRecDepth 8192 in
set_option maxHeartbeats 4000000 in
/-- The part `main_part0` is its operations in order. -/
theorem main_part0_eq (c : Dev nD) : main_part0 (F := F) c = seq ops_part0 := rfl
set_option maxRecDepth 8192 in
set_option maxHeartbeats 4000000 in
/-- The part `main_part1` is its operations in order. -/
theorem main_part1_eq (c : Dev nD) : main_part1 (F := F) c = seq ops_part1 := rfl
set_option maxRecDepth 8192 in
set_option maxHeartbeats 4000000 in
/-- The part `main_part2` is its operations in order. -/
theorem main_part2_eq (c : Dev nD) : main_part2 (F := F) c = seq ops_part2 := rfl
set_option maxRecDepth 8192 in
/-- The reference is its operations in order. -/
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

/-- The buffers that `ops_part0_0` writes. -/
abbrev W_part0_0 : List (Ref sig .tc) := [main_call0_v0, main_call0_cst, main_call0_v1, main_call0_v2, main_v0, main_cst, main_call1_v0, main_call1_v1, main_v1, main_v2, main_v3, main_v4, main_v5, main_v6, main_v7, main_call2_v0, main_call2_cst, main_call2_v1, main_call2_v2, main_v8, main_cst_0, main_call3_v0, main_call3_v1, main_v9, main_v10, main_v11, main_call4_v0, main_call4_cst, main_call4_v1, main_call4_v2]
set_option maxRecDepth 8192 in
theorem sub_part0_0 : (ops_part0_0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., nullary_bufs_sub .., binary_bufs_sub .., unary_bufs_sub ..⟩
set_option maxRecDepth 8192 in
theorem fresh_part0_0 : (ops_part0_0 : List (HloOp τ sig (Elt F))).Forall fun op => op.fresh = ∅ := by
  simp only [List.Forall]
  and_intros <;> rfl
set_option maxRecDepth 8192 in
theorem writes_part0_0 : (ops_part0_0 : List (HloOp τ sig (Elt F))).Forall fun op => op.writes ⊆ (W_part0_0.map (Proc.devRef (τ := τ) .tc)).toFinset := by
  simp only [List.Forall]
  and_intros <;>
    (simp only [nullary_writes, unary_writes, binary_writes, quaternary_writes, Finset.singleton_subset_iff, List.mem_toFinset]; exact List.mem_map_of_mem (by decide))

/-- The buffers that `ops_part0_1` writes. -/
abbrev W_part0_1 : List (Ref sig .tc) := [main_v12, main_cst_1, main_call5_v0, main_call5_v1, main_v13, main_v14, main_v15, main_v16, main_v17, main_v18, main_v19, main_call6_v0, main_call6_cst, main_call6_v1, main_call6_v2, main_v20, main_cst_2, main_call7_v0, main_call7_v1, main_v21, main_v22, main_v23, main_v24, main_cst_3, main_v25, main_v26, main_cst_4, main_v27, main_cst_5, main_v28]
set_option maxRecDepth 8192 in
theorem sub_part0_1 : (ops_part0_1 : List (HloOp τ sig (Elt F))).Forall fun op => op.bufs ⊆ tcRefs τ sig :=
  ⟨unary_bufs_sub .., nullary_bufs_sub .., unary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., unary_bufs_sub ..⟩
set_option maxRecDepth 8192 in
theorem fresh_part0_1 : (ops_part0_1 : List (HloOp τ sig (Elt F))).Forall fun op => op.fresh = ∅ := by
  simp only [List.Forall]
  and_intros <;> rfl
set_option maxRecDepth 8192 in
theorem writes_part0_1 : (ops_part0_1 : List (HloOp τ sig (Elt F))).Forall fun op => op.writes ⊆ (W_part0_1.map (Proc.devRef (τ := τ) .tc)).toFinset := by
  simp only [List.Forall]
  and_intros <;>
    (simp only [nullary_writes, unary_writes, binary_writes, quaternary_writes, Finset.singleton_subset_iff, List.mem_toFinset]; exact List.mem_map_of_mem (by decide))

/-- The buffers that `ops_part0_2` writes. -/
abbrev W_part0_2 : List (Ref sig .tc) := [main_v29, main_v30, main_v31, main_v32, main_v33, main_cst_6, main_v34, main_v35, main_v36, main_v37, main_v38, main_v39, main_v40, main_cst_7, main_v41, main_v42, main_cst_8, main_v43, main_cst_9, main_v44, main_v45, main_v46, main_v47, main_v48]
set_option maxRecDepth 8192 in
theorem sub_part0_2 : (ops_part0_2 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub ..⟩
set_option maxRecDepth 8192 in
theorem fresh_part0_2 : (ops_part0_2 : List (HloOp τ sig (Elt F))).Forall fun op => op.fresh = ∅ := by
  simp only [List.Forall]
  and_intros <;> rfl
set_option maxRecDepth 8192 in
theorem writes_part0_2 : (ops_part0_2 : List (HloOp τ sig (Elt F))).Forall fun op => op.writes ⊆ (W_part0_2.map (Proc.devRef (τ := τ) .tc)).toFinset := by
  simp only [List.Forall]
  and_intros <;>
    (simp only [nullary_writes, unary_writes, binary_writes, quaternary_writes, Finset.singleton_subset_iff, List.mem_toFinset]; exact List.mem_map_of_mem (by decide))

/-- The buffers that `ops_part1_0` writes. -/
abbrev W_part1_0 : List (Ref sig .tc) := [main_v49, main_cst_10, main_v50, main_v51, main_v52, main_v53, main_v54, main_v55, main_v56, main_v57, main_v58, main_v59, main_v60, main_v61, main_v62, main_v63, main_v64, main_v65, main_v66, main_cst_11, main_v67, main_v68, main_cst_12, main_v69, main_v70, main_v71, main_v72, main_v73, main_v74, main_cst_13]
set_option maxRecDepth 8192 in
theorem sub_part1_0 : (ops_part1_0 : List (HloOp τ sig (Elt F))).Forall fun op => op.bufs ⊆ tcRefs τ sig :=
  ⟨unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub ..⟩
set_option maxRecDepth 8192 in
theorem fresh_part1_0 : (ops_part1_0 : List (HloOp τ sig (Elt F))).Forall fun op => op.fresh = ∅ := by
  simp only [List.Forall]
  and_intros <;> rfl
set_option maxRecDepth 8192 in
theorem writes_part1_0 : (ops_part1_0 : List (HloOp τ sig (Elt F))).Forall fun op => op.writes ⊆ (W_part1_0.map (Proc.devRef (τ := τ) .tc)).toFinset := by
  simp only [List.Forall]
  and_intros <;>
    (simp only [nullary_writes, unary_writes, binary_writes, quaternary_writes, Finset.singleton_subset_iff, List.mem_toFinset]; exact List.mem_map_of_mem (by decide))

/-- The buffers that `ops_part1_1` writes. -/
abbrev W_part1_1 : List (Ref sig .tc) := [main_v75, main_cst_14, main_v76, main_v77, main_v78, main_v79, main_v80, main_v81, main_cst_15, main_v82, main_v83, main_v84, main_v85, main_v86, main_call8_v0, main_call8_cst, main_call8_v1, main_call8_v2, main_v87, main_cst_16, main_call9_v0, main_call9_v1, main_v88, main_v89, main_v90, main_v91, main_v92, main_v93, main_v94, main_v95]
set_option maxRecDepth 8192 in
theorem sub_part1_1 : (ops_part1_1 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., unary_bufs_sub .., unary_bufs_sub .., binary_bufs_sub .., unary_bufs_sub ..⟩
set_option maxRecDepth 8192 in
theorem fresh_part1_1 : (ops_part1_1 : List (HloOp τ sig (Elt F))).Forall fun op => op.fresh = ∅ := by
  simp only [List.Forall]
  and_intros <;> rfl
set_option maxRecDepth 8192 in
theorem writes_part1_1 : (ops_part1_1 : List (HloOp τ sig (Elt F))).Forall fun op => op.writes ⊆ (W_part1_1.map (Proc.devRef (τ := τ) .tc)).toFinset := by
  simp only [List.Forall]
  and_intros <;>
    (simp only [nullary_writes, unary_writes, binary_writes, quaternary_writes, Finset.singleton_subset_iff, List.mem_toFinset]; exact List.mem_map_of_mem (by decide))

/-- The buffers that `ops_part1_2` writes. -/
abbrev W_part1_2 : List (Ref sig .tc) := [main_v96, main_v97, main_v98, main_v99, main_v100, main_v101]
set_option maxRecDepth 8192 in
theorem sub_part1_2 : (ops_part1_2 : List (HloOp τ sig (Elt F))).Forall fun op => op.bufs ⊆ tcRefs τ sig :=
  ⟨binary_bufs_sub .., unary_bufs_sub .., unary_bufs_sub .., binary_bufs_sub .., unary_bufs_sub .., unary_bufs_sub ..⟩
set_option maxRecDepth 8192 in
theorem fresh_part1_2 : (ops_part1_2 : List (HloOp τ sig (Elt F))).Forall fun op => op.fresh = ∅ := by
  simp only [List.Forall]
  and_intros <;> rfl
set_option maxRecDepth 8192 in
theorem writes_part1_2 : (ops_part1_2 : List (HloOp τ sig (Elt F))).Forall fun op => op.writes ⊆ (W_part1_2.map (Proc.devRef (τ := τ) .tc)).toFinset := by
  simp only [List.Forall]
  and_intros <;>
    (simp only [nullary_writes, unary_writes, binary_writes, quaternary_writes, Finset.singleton_subset_iff, List.mem_toFinset]; exact List.mem_map_of_mem (by decide))

/-- The buffers that `ops_part2_0` writes. -/
abbrev W_part2_0 : List (Ref sig .tc) := [main_cst_17, main_v102, main_v103, main_cst_18, main_v104, main_v105, main_v106, main_v107, main_v108, main_v109, main_cst_19, main_v110, main_cst_20, main_v111, main_v112, main_v113, main_v114, main_v115, main_v116, main_cst_21, main_v117, main_v118, main_v119, main_v120, main_v121, main_call10_v0, main_call10_cst, main_call10_v1, main_call10_v2, main_v122]
set_option maxRecDepth 8192 in
theorem sub_part2_0 : (ops_part2_0 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., binary_bufs_sub .., unary_bufs_sub .., unary_bufs_sub ..⟩
set_option maxRecDepth 8192 in
theorem fresh_part2_0 : (ops_part2_0 : List (HloOp τ sig (Elt F))).Forall fun op => op.fresh = ∅ := by
  simp only [List.Forall]
  and_intros <;> rfl
set_option maxRecDepth 8192 in
theorem writes_part2_0 : (ops_part2_0 : List (HloOp τ sig (Elt F))).Forall fun op => op.writes ⊆ (W_part2_0.map (Proc.devRef (τ := τ) .tc)).toFinset := by
  simp only [List.Forall]
  and_intros <;>
    (simp only [nullary_writes, unary_writes, binary_writes, quaternary_writes, Finset.singleton_subset_iff, List.mem_toFinset]; exact List.mem_map_of_mem (by decide))

/-- The buffers that `ops_part2_1` writes. -/
abbrev W_part2_1 : List (Ref sig .tc) := [main_cst_22, main_call11_v0, main_call11_v1, main_v123, main_v124, main_v125, main_cst_23, main_v126, main_call12_v0, main_call12_cst, main_call12_v1, main_call12_v2, main_v127, main_cst_24, main_call13_v0, main_call13_v1, main_v128, main_v129, main_v130, main_v131, main_v132, main_v133, main_v134, main_v135, main_cst_25, main_v136, main_cst_26, main_v137, main_v138, main_v139]
set_option maxRecDepth 8192 in
theorem sub_part2_1 : (ops_part2_1 : List (HloOp τ sig (Elt F))).Forall fun op => op.bufs ⊆ tcRefs τ sig :=
  ⟨nullary_bufs_sub .., unary_bufs_sub .., unary_bufs_sub .., binary_bufs_sub .., unary_bufs_sub .., binary_bufs_sub .., nullary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub ..⟩
set_option maxRecDepth 8192 in
theorem fresh_part2_1 : (ops_part2_1 : List (HloOp τ sig (Elt F))).Forall fun op => op.fresh = ∅ := by
  simp only [List.Forall]
  and_intros <;> rfl
set_option maxRecDepth 8192 in
theorem writes_part2_1 : (ops_part2_1 : List (HloOp τ sig (Elt F))).Forall fun op => op.writes ⊆ (W_part2_1.map (Proc.devRef (τ := τ) .tc)).toFinset := by
  simp only [List.Forall]
  and_intros <;>
    (simp only [nullary_writes, unary_writes, binary_writes, quaternary_writes, Finset.singleton_subset_iff, List.mem_toFinset]; exact List.mem_map_of_mem (by decide))

/-- The buffers that `ops_part2_2` writes. -/
abbrev W_part2_2 : List (Ref sig .tc) := [main_v140, main_v141, main_v142, main_cst_27, main_v143, main_v144, main_v145, main_v146, main_call14_v0, main_call14_cst, main_call14_c, main_call14_v1_0, main_v147]
set_option maxRecDepth 8192 in
theorem sub_part2_2 : (ops_part2_2 : List (HloOp τ sig (Elt F))).Forall fun op => op.bufs ⊆ tcRefs τ sig :=
  ⟨unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub ..⟩
set_option maxRecDepth 8192 in
theorem fresh_part2_2 : (ops_part2_2 : List (HloOp τ sig (Elt F))).Forall fun op => op.fresh = ∅ := by
  simp only [List.Forall]
  and_intros <;> rfl
set_option maxRecDepth 8192 in
theorem writes_part2_2 : (ops_part2_2 : List (HloOp τ sig (Elt F))).Forall fun op => op.writes ⊆ (W_part2_2.map (Proc.devRef (τ := τ) .tc)).toFinset := by
  simp only [List.Forall]
  and_intros <;>
    (simp only [nullary_writes, unary_writes, binary_writes, quaternary_writes, Finset.singleton_subset_iff, List.mem_toFinset]; exact List.mem_map_of_mem (by decide))

theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h
    exacts [List.forall_iff_forall_mem.mp sub_part0_0 op h, List.forall_iff_forall_mem.mp sub_part0_1 op h, List.forall_iff_forall_mem.mp sub_part0_2 op h, List.forall_iff_forall_mem.mp sub_part1_0 op h, List.forall_iff_forall_mem.mp sub_part1_1 op h, List.forall_iff_forall_mem.mp sub_part1_2 op h, List.forall_iff_forall_mem.mp sub_part2_0 op h, List.forall_iff_forall_mem.mp sub_part2_1 op h, List.forall_iff_forall_mem.mp sub_part2_2 op h]
theorem ops_fresh : ∀ op ∈ (ops : List (HloOp τ sig (Elt F))), op.fresh = ∅ := fun op h => by
    simp only [ops, ops_part0, ops_part1, ops_part2, List.mem_append, or_assoc] at h
    rcases h with h | h | h | h | h | h | h | h | h
    exacts [List.forall_iff_forall_mem.mp fresh_part0_0 op h, List.forall_iff_forall_mem.mp fresh_part0_1 op h, List.forall_iff_forall_mem.mp fresh_part0_2 op h, List.forall_iff_forall_mem.mp fresh_part1_0 op h, List.forall_iff_forall_mem.mp fresh_part1_1 op h, List.forall_iff_forall_mem.mp fresh_part1_2 op h, List.forall_iff_forall_mem.mp fresh_part2_0 op h, List.forall_iff_forall_mem.mp fresh_part2_1 op h, List.forall_iff_forall_mem.mp fresh_part2_2 op h]

end Cert.ReferenceIdeal.Value

end
-- ==== Proof.ReferenceIdeal.Run.lean ====
/-
  The reference's run: what each result holds at the end, as a term of the arguments.
-/
module

public import proofs.«01_k».proof.Proof.ReferenceIdeal.Ops
public import Idealize.ShloMosaic.Lib.Pipeline.Frame

@[expose] public section

noncomputable section

namespace Cert.ReferenceIdeal.Value

open Cert.ReferenceIdeal Cert.ReferenceIdeal.Gen
open Idealize.ShloMosaic Idealize.ShloMosaic.TcCoe Idealize.ShloMosaic.StableHlo Idealize.SL.Sem

variable {F : FTy → Type} [FloatOps F]

set_option maxRecDepth 8192 in
/-- What `main_v7` holds, of the arguments. -/
def res_main_v7 (V0 : Valuation τ sig (Elt F)) : (Proc.devRef .tc main_v7 : DevRef τ sig).ty.Contents (Elt F) :=
  addf (Host.dotGeneral dot_S2x16384x512_S512x512_S2x16384x512_2_0_01_1_n_n none (Host.divf (V0 (Proc.devRef .tc main_arg0)) (broadcastInDim S2x16384x512 ![0, 1, 2] bcast_S2x16384x1_S2x16384x512_0_1_2 (maximumf (broadcastInDim S2x16384x1 ![] bcast_S_S2x16384x1 (id (constant S_ .f32 0x2B8CBCCC#32))) (Host.sqrt (broadcastInDim S2x16384x1 ![0, 1] bcast_S2x16384_S2x16384x1_0_1 (Host.reduceAdd (mulf (V0 (Proc.devRef .tc main_arg0)) (V0 (Proc.devRef .tc main_arg0))) (constant S_ .f32 0x00000000#32) reducesTo_S2x16384x512_S2x16384_d2 h_S_)))))) (V0 (Proc.devRef .tc main_arg4))) (broadcastInDim S2x16384x512 ![0, 1, 2] bcast_S1x1x512_S2x16384x512_0_1_2 (broadcastInDim S1x1x512 ![2] bcast_S512_S1x1x512_2 (V0 (Proc.devRef .tc main_arg5))))

set_option maxRecDepth 8192 in
/-- What `main_v11` holds, of the arguments. -/
def res_main_v11 (V0 : Valuation τ sig (Elt F)) : (Proc.devRef .tc main_v11 : DevRef τ sig).ty.Contents (Elt F) :=
  Host.divf (res_main_v7 V0) (broadcastInDim S2x16384x512 ![0, 1, 2] bcast_S2x16384x1_S2x16384x512_0_1_2 (maximumf (broadcastInDim S2x16384x1 ![] bcast_S_S2x16384x1 (id (constant S_ .f32 0x2B8CBCCC#32))) (Host.sqrt (broadcastInDim S2x16384x1 ![0, 1] bcast_S2x16384_S2x16384x1_0_1 (Host.reduceAdd (mulf (res_main_v7 V0) (res_main_v7 V0)) (constant S_ .f32 0x00000000#32) reducesTo_S2x16384x512_S2x16384_d2 h_S_)))))

set_option maxRecDepth 8192 in
/-- What `main_v19` holds, of the arguments. -/
def res_main_v19 (V0 : Valuation τ sig (Elt F)) : (Proc.devRef .tc main_v19 : DevRef τ sig).ty.Contents (Elt F) :=
  addf (Host.dotGeneral dot_S2x16384x512_S512x512_S2x16384x512_2_0_01_1_n_n none (Host.divf (V0 (Proc.devRef .tc main_arg2)) (broadcastInDim S2x16384x512 ![0, 1, 2] bcast_S2x16384x1_S2x16384x512_0_1_2 (maximumf (broadcastInDim S2x16384x1 ![] bcast_S_S2x16384x1 (id (constant S_ .f32 0x2B8CBCCC#32))) (Host.sqrt (broadcastInDim S2x16384x1 ![0, 1] bcast_S2x16384_S2x16384x1_0_1 (Host.reduceAdd (mulf (V0 (Proc.devRef .tc main_arg2)) (V0 (Proc.devRef .tc main_arg2))) (constant S_ .f32 0x00000000#32) reducesTo_S2x16384x512_S2x16384_d2 h_S_)))))) (V0 (Proc.devRef .tc main_arg4))) (broadcastInDim S2x16384x512 ![0, 1, 2] bcast_S1x1x512_S2x16384x512_0_1_2 (broadcastInDim S1x1x512 ![2] bcast_S512_S1x1x512_2 (V0 (Proc.devRef .tc main_arg5))))

set_option maxRecDepth 8192 in
/-- What `main_v23` holds, of the arguments. -/
def res_main_v23 (V0 : Valuation τ sig (Elt F)) : (Proc.devRef .tc main_v23 : DevRef τ sig).ty.Contents (Elt F) :=
  Host.divf (res_main_v19 V0) (broadcastInDim S2x16384x512 ![0, 1, 2] bcast_S2x16384x1_S2x16384x512_0_1_2 (maximumf (broadcastInDim S2x16384x1 ![] bcast_S_S2x16384x1 (id (constant S_ .f32 0x2B8CBCCC#32))) (Host.sqrt (broadcastInDim S2x16384x1 ![0, 1] bcast_S2x16384_S2x16384x1_0_1 (Host.reduceAdd (mulf (res_main_v19 V0) (res_main_v19 V0)) (constant S_ .f32 0x00000000#32) reducesTo_S2x16384x512_S2x16384_d2 h_S_)))))

set_option maxRecDepth 8192 in
/-- What `main_v26` holds, of the arguments. -/
def res_main_v26 (V0 : Valuation τ sig (Elt F)) : (Proc.devRef .tc main_v26 : DevRef τ sig).ty.Contents (Elt F) :=
  mulf (Host.dotGeneral dot_S2x16384x512_S4x8x512_S2x16384x4x8_2_2_01_01_n_n none (res_main_v11 V0) (V0 (Proc.devRef .tc main_arg6))) (broadcastInDim S2x16384x4x8 ![] bcast_S_S2x16384x4x8 (constant S_ .f32 0x3D3504F3#32))

set_option maxRecDepth 8192 in
/-- What `main_v33` holds, of the arguments. -/
def res_main_v33 (V0 : Valuation τ sig (Elt F)) : (Proc.devRef .tc main_v33 : DevRef τ sig).ty.Contents (Elt F) :=
  Host.exp (subf (res_main_v26 V0) (broadcastInDim S2x16384x4x8 ![0, 1, 2, 3] bcast_S2x16384x4x1_S2x16384x4x8_0_1_2_3 (broadcastInDim S2x16384x4x1 ![0, 1, 2] bcast_S2x16384x4_S2x16384x4x1_0_1_2 (maximumf (broadcastInDim S2x16384x4 ![] bcast_S_S2x16384x4 (constant S_ .f32 0xFF800000#32)) (Host.reduce FloatOps.maximumf (res_main_v26 V0) (constant S_ .f32 0xFF800000#32) reducesTo_S2x16384x4x8_S2x16384x4_d3 h_S_)))))

set_option maxRecDepth 8192 in
/-- What `main_v42` holds, of the arguments. -/
def res_main_v42 (V0 : Valuation τ sig (Elt F)) : (Proc.devRef .tc main_v42 : DevRef τ sig).ty.Contents (Elt F) :=
  mulf (Host.dotGeneral dot_S2x16384x512_S4x8x512_S2x16384x4x8_2_2_01_01_n_n none (res_main_v23 V0) (V0 (Proc.devRef .tc main_arg6))) (broadcastInDim S2x16384x4x8 ![] bcast_S_S2x16384x4x8 (constant S_ .f32 0x3D3504F3#32))

set_option maxRecDepth 8192 in
/-- What `main_v49` holds, of the arguments. -/
def res_main_v49 (V0 : Valuation τ sig (Elt F)) : (Proc.devRef .tc main_v49 : DevRef τ sig).ty.Contents (Elt F) :=
  Host.exp (subf (res_main_v42 V0) (broadcastInDim S2x16384x4x8 ![0, 1, 2, 3] bcast_S2x16384x4x1_S2x16384x4x8_0_1_2_3 (broadcastInDim S2x16384x4x1 ![0, 1, 2] bcast_S2x16384x4_S2x16384x4x1_0_1_2 (maximumf (broadcastInDim S2x16384x4 ![] bcast_S_S2x16384x4 (constant S_ .f32 0xFF800000#32)) (Host.reduce FloatOps.maximumf (res_main_v42 V0) (constant S_ .f32 0xFF800000#32) reducesTo_S2x16384x4x8_S2x16384x4_d3 h_S_)))))

set_option maxRecDepth 8192 in
/-- What `main_v74` holds, of the arguments. -/
def res_main_v74 (V0 : Valuation τ sig (Elt F)) : (Proc.devRef .tc main_v74 : DevRef τ sig).ty.Contents (Elt F) :=
  addf (Host.dotGeneral dot_S2x16384x256_S256_S2x16384_2_0_01_n_n_n none (mulf (Host.tanh (addf (Host.dotGeneral dot_S2x16384x512_S512x256_S2x16384x256_2_0_01_1_n_n none (res_main_v11 V0) (V0 (Proc.devRef .tc main_arg7))) (broadcastInDim S2x16384x256 ![0, 1, 2] bcast_S1x1x256_S2x16384x256_0_1_2 (broadcastInDim S1x1x256 ![2] bcast_S256_S1x1x256_2 (V0 (Proc.devRef .tc main_arg8)))))) (Host.divf (broadcastInDim S2x16384x256 ![] bcast_S_S2x16384x256 (constant S_ .f32 0x3F800000#32)) (addf (broadcastInDim S2x16384x256 ![] bcast_S_S2x16384x256 (constant S_ .f32 0x3F800000#32)) (Host.exp (Host.negf (addf (Host.dotGeneral dot_S2x16384x512_S512x256_S2x16384x256_2_0_01_1_n_n none (res_main_v11 V0) (V0 (Proc.devRef .tc main_arg9))) (broadcastInDim S2x16384x256 ![0, 1, 2] bcast_S1x1x256_S2x16384x256_0_1_2 (broadcastInDim S1x1x256 ![2] bcast_S256_S1x1x256_2 (V0 (Proc.devRef .tc main_arg10)))))))))) (V0 (Proc.devRef .tc main_arg11))) (broadcastInDim S2x16384 ![] bcast_S_S2x16384 (V0 (Proc.devRef .tc main_arg12)))

set_option maxRecDepth 8192 in
/-- What `main_v81` holds, of the arguments. -/
def res_main_v81 (V0 : Valuation τ sig (Elt F)) : (Proc.devRef .tc main_v81 : DevRef τ sig).ty.Contents (Elt F) :=
  Host.exp (subf (res_main_v74 V0) (broadcastInDim S2x16384 ![0, 1] bcast_S2x1_S2x16384_0_1 (broadcastInDim S2x1 ![0] bcast_S2_S2x1_0 (maximumf (broadcastInDim S2 ![] bcast_S_S2 (constant S_ .f32 0xFF800000#32)) (Host.reduce FloatOps.maximumf (res_main_v74 V0) (constant S_ .f32 0xFF800000#32) reducesTo_S2x16384_S2_d1 h_S_)))))

set_option maxRecDepth 8192 in
/-- What `main_v86` holds, of the arguments. -/
def res_main_v86 (V0 : Valuation τ sig (Elt F)) : (Proc.devRef .tc main_v86 : DevRef τ sig).ty.Contents (Elt F) :=
  Host.dotGeneral dot_S2x16384_S2x16384x512_S2x512_1_1_n_2_0_0 none (Host.divf (res_main_v81 V0) (broadcastInDim S2x16384 ![0, 1] bcast_S2x1_S2x16384_0_1 (broadcastInDim S2x1 ![0] bcast_S2_S2x1_0 (Host.reduceAdd (res_main_v81 V0) (constant S_ .f32 0x00000000#32) reducesTo_S2x16384_S2_d1 h_S_)))) (res_main_v11 V0)

set_option maxRecDepth 8192 in
/-- What `main_v109` holds, of the arguments. -/
def res_main_v109 (V0 : Valuation τ sig (Elt F)) : (Proc.devRef .tc main_v109 : DevRef τ sig).ty.Contents (Elt F) :=
  addf (Host.dotGeneral dot_S2x16384x256_S256_S2x16384_2_0_01_n_n_n none (mulf (Host.tanh (addf (Host.dotGeneral dot_S2x16384x512_S512x256_S2x16384x256_2_0_01_1_n_n none (res_main_v23 V0) (V0 (Proc.devRef .tc main_arg7))) (broadcastInDim S2x16384x256 ![0, 1, 2] bcast_S1x1x256_S2x16384x256_0_1_2 (broadcastInDim S1x1x256 ![2] bcast_S256_S1x1x256_2 (V0 (Proc.devRef .tc main_arg8)))))) (Host.divf (broadcastInDim S2x16384x256 ![] bcast_S_S2x16384x256 (constant S_ .f32 0x3F800000#32)) (addf (broadcastInDim S2x16384x256 ![] bcast_S_S2x16384x256 (constant S_ .f32 0x3F800000#32)) (Host.exp (Host.negf (addf (Host.dotGeneral dot_S2x16384x512_S512x256_S2x16384x256_2_0_01_1_n_n none (res_main_v23 V0) (V0 (Proc.devRef .tc main_arg9))) (broadcastInDim S2x16384x256 ![0, 1, 2] bcast_S1x1x256_S2x16384x256_0_1_2 (broadcastInDim S1x1x256 ![2] bcast_S256_S1x1x256_2 (V0 (Proc.devRef .tc main_arg10)))))))))) (V0 (Proc.devRef .tc main_arg11))) (broadcastInDim S2x16384 ![] bcast_S_S2x16384 (V0 (Proc.devRef .tc main_arg12)))

set_option maxRecDepth 8192 in
/-- What `main_v116` holds, of the arguments. -/
def res_main_v116 (V0 : Valuation τ sig (Elt F)) : (Proc.devRef .tc main_v116 : DevRef τ sig).ty.Contents (Elt F) :=
  Host.exp (subf (res_main_v109 V0) (broadcastInDim S2x16384 ![0, 1] bcast_S2x1_S2x16384_0_1 (broadcastInDim S2x1 ![0] bcast_S2_S2x1_0 (maximumf (broadcastInDim S2 ![] bcast_S_S2 (constant S_ .f32 0xFF800000#32)) (Host.reduce FloatOps.maximumf (res_main_v109 V0) (constant S_ .f32 0xFF800000#32) reducesTo_S2x16384_S2_d1 h_S_)))))

set_option maxRecDepth 8192 in
/-- What `main_v121` holds, of the arguments. -/
def res_main_v121 (V0 : Valuation τ sig (Elt F)) : (Proc.devRef .tc main_v121 : DevRef τ sig).ty.Contents (Elt F) :=
  Host.dotGeneral dot_S2x16384_S2x16384x512_S2x512_1_1_n_2_0_0 none (Host.divf (res_main_v116 V0) (broadcastInDim S2x16384 ![0, 1] bcast_S2x1_S2x16384_0_1 (broadcastInDim S2x1 ![0] bcast_S2_S2x1_0 (Host.reduceAdd (res_main_v116 V0) (constant S_ .f32 0x00000000#32) reducesTo_S2x16384_S2_d1 h_S_)))) (res_main_v23 V0)

set_option maxRecDepth 8192 in
/-- What `main_v126` holds, of the arguments. -/
def res_main_v126 (V0 : Valuation τ sig (Elt F)) : (Proc.devRef .tc main_v126 : DevRef τ sig).ty.Contents (Elt F) :=
  Host.reduce FloatOps.maximumf (V0 (Proc.devRef .tc main_arg6)) (constant S_ .f32 0xFF800000#32) reducesTo_S4x8x512_S4x512_d1 h_S_

set_option maxRecDepth 8192 in
/-- What `main_v130` holds, of the arguments. -/
def res_main_v130 (V0 : Valuation τ sig (Elt F)) : (Proc.devRef .tc main_v130 : DevRef τ sig).ty.Contents (Elt F) :=
  Host.divf (res_main_v126 V0) (broadcastInDim S4x512 ![0, 1] bcast_S4x1_S4x512_0_1 (maximumf (broadcastInDim S4x1 ![] bcast_S_S4x1 (id (constant S_ .f32 0x2B8CBCCC#32))) (Host.sqrt (broadcastInDim S4x1 ![0] bcast_S4_S4x1_0 (Host.reduceAdd (mulf (res_main_v126 V0) (res_main_v126 V0)) (constant S_ .f32 0x00000000#32) reducesTo_S4x512_S4_d1 h_S_)))))

set_option maxRecDepth 8192 in
/-- What `main_v135` holds, of the arguments. -/
def res_main_v135 (V0 : Valuation τ sig (Elt F)) : (Proc.devRef .tc main_v135 : DevRef τ sig).ty.Contents (Elt F) :=
  addf (Host.dotGeneral dot_S2x512_S512x4_S2x4_1_0_0_1_n_n none (Host.divf (res_main_v86 V0) (broadcastInDim S2x512 ![0, 1] bcast_S2x1_S2x512_0_1 (maximumf (broadcastInDim S2x1 ![] bcast_S_S2x1 (id (constant S_ .f32 0x2B8CBCCC#32))) (Host.sqrt (broadcastInDim S2x1 ![0] bcast_S2_S2x1_0 (Host.reduceAdd (mulf (res_main_v86 V0) (res_main_v86 V0)) (constant S_ .f32 0x00000000#32) reducesTo_S2x512_S2_d1 h_S_)))))) (transpose S512x4 [1, 0] (res_main_v130 V0) transposes_S4x512_S512x4_1_0)) (Host.dotGeneral dot_S2x512_S512x4_S2x4_1_0_0_1_n_n none (Host.divf (res_main_v121 V0) (broadcastInDim S2x512 ![0, 1] bcast_S2x1_S2x512_0_1 (maximumf (broadcastInDim S2x1 ![] bcast_S_S2x1 (id (constant S_ .f32 0x2B8CBCCC#32))) (Host.sqrt (broadcastInDim S2x1 ![0] bcast_S2_S2x1_0 (Host.reduceAdd (mulf (res_main_v121 V0) (res_main_v121 V0)) (constant S_ .f32 0x00000000#32) reducesTo_S2x512_S2_d1 h_S_)))))) (transpose S512x4 [1, 0] (res_main_v130 V0) transposes_S4x512_S512x4_1_0))

set_option maxRecDepth 8192 in
/-- What `main_v142` holds, of the arguments. -/
def res_main_v142 (V0 : Valuation τ sig (Elt F)) : (Proc.devRef .tc main_v142 : DevRef τ sig).ty.Contents (Elt F) :=
  Host.exp (subf (res_main_v135 V0) (broadcastInDim S2x4 ![0, 1] bcast_S2x1_S2x4_0_1 (broadcastInDim S2x1 ![0] bcast_S2_S2x1_0 (maximumf (broadcastInDim S2 ![] bcast_S_S2 (constant S_ .f32 0xFF800000#32)) (Host.reduce FloatOps.maximumf (res_main_v135 V0) (constant S_ .f32 0xFF800000#32) reducesTo_S2x4_S2_d1 h_S_)))))

/-- The contents before the first operation. -/
def val0 (V0 : Valuation τ sig (Elt F)) : Valuation τ sig (Elt F) := V0

/-- The contents after `ops_part0_0`. -/
def val0_1 (V0 : Valuation τ sig (Elt F)) : Valuation τ sig (Elt F) := after ops_part0_0 (val0 V0)
theorem val0_1_keep (V0 : Valuation τ sig (Elt F)) (r : Ref sig .tc) (h : r ∉ W_part0_0) :
    val0_1 V0 (no_index (Proc.devRef .tc r)) = val0 V0 (Proc.devRef .tc r) :=
  after_of_writes_sub ops_part0_0 _ writes_part0_0 h
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0, TRef.binary, TRef.nullary, TRef.unary, TRef.quaternary, TRef.toBuf, TRef.ofBuf, cast_eq]
  after_results_simp
  all_goals (simp (disch := decide) only [val0] <;> rfl)
set_option maxRecDepth 8192 in
set_option maxHeartbeats 2000000 in
theorem val0_1_main_call4_v2 (V0 : Valuation τ sig (Elt F)) : val0_1 V0 (no_index (Proc.devRef .tc main_call4_v2)) = broadcastInDim S2x16384x1 ![0, 1] bcast_S2x16384_S2x16384x1_0_1 (Host.reduceAdd (mulf (V0 (Proc.devRef .tc main_arg2)) (V0 (Proc.devRef .tc main_arg2))) (constant S_ .f32 0x00000000#32) reducesTo_S2x16384x512_S2x16384_d2 h_S_) := by
  unfold val0_1
  simp only [ops_part0_0, TRef.binary, TRef.nullary, TRef.unary, TRef.quaternary, TRef.toBuf, TRef.ofBuf, cast_eq]
  after_results_simp
  all_goals (simp (disch := decide) only [val0] <;> rfl)

/-- The contents after `ops_part0_1`. -/
def val0_2 (V0 : Valuation τ sig (Elt F)) : Valuation τ sig (Elt F) := after ops_part0_1 (val0_1 V0)
theorem val0_2_keep (V0 : Valuation τ sig (Elt F)) (r : Ref sig .tc) (h : r ∉ W_part0_1) :
    val0_2 V0 (no_index (Proc.devRef .tc r)) = val0_1 V0 (Proc.devRef .tc r) :=
  after_of_writes_sub ops_part0_1 _ writes_part0_1 h
set_option maxRecDepth 8192 in
set_option maxHeartbeats 2000000 in
theorem val0_2_main_v23 (V0 : Valuation τ sig (Elt F)) : val0_2 V0 (no_index (Proc.devRef .tc main_v23)) = res_main_v23 V0 := by
  unfold val0_2
  simp only [ops_part0_1, TRef.binary, TRef.nullary, TRef.unary, TRef.quaternary, TRef.toBuf, TRef.ofBuf, cast_eq]
  after_results_simp
  all_goals (simp (disch := decide) only [val0, val0_1_keep, val0_1_main_v11, val0_1_main_call4_v2] <;> rfl)
set_option maxRecDepth 8192 in
set_option maxHeartbeats 2000000 in
theorem val0_2_main_v26 (V0 : Valuation τ sig (Elt F)) : val0_2 V0 (no_index (Proc.devRef .tc main_v26)) = res_main_v26 V0 := by
  unfold val0_2
  simp only [ops_part0_1, TRef.binary, TRef.nullary, TRef.unary, TRef.quaternary, TRef.toBuf, TRef.ofBuf, cast_eq]
  after_results_simp
  all_goals (simp (disch := decide) only [val0, val0_1_keep, val0_1_main_v11, val0_1_main_call4_v2] <;> rfl)
set_option maxRecDepth 8192 in
set_option maxHeartbeats 2000000 in
theorem val0_2_main_v27 (V0 : Valuation τ sig (Elt F)) : val0_2 V0 (no_index (Proc.devRef .tc main_v27)) = Host.reduce FloatOps.maximumf (res_main_v26 V0) (constant S_ .f32 0xFF800000#32) reducesTo_S2x16384x4x8_S2x16384x4_d3 h_S_ := by
  unfold val0_2
  simp only [ops_part0_1, TRef.binary, TRef.nullary, TRef.unary, TRef.quaternary, TRef.toBuf, TRef.ofBuf, cast_eq]
  after_results_simp
  all_goals (simp (disch := decide) only [val0, val0_1_keep, val0_1_main_v11, val0_1_main_call4_v2] <;> rfl)
set_option maxRecDepth 8192 in
set_option maxHeartbeats 2000000 in
theorem val0_2_main_v28 (V0 : Valuation τ sig (Elt F)) : val0_2 V0 (no_index (Proc.devRef .tc main_v28)) = broadcastInDim S2x16384x4 ![] bcast_S_S2x16384x4 (constant S_ .f32 0xFF800000#32) := by
  unfold val0_2
  simp only [ops_part0_1, TRef.binary, TRef.nullary, TRef.unary, TRef.quaternary, TRef.toBuf, TRef.ofBuf, cast_eq]
  after_results_simp
  all_goals (simp (disch := decide) only [val0, val0_1_keep, val0_1_main_v11, val0_1_main_call4_v2] <;> rfl)

/-- The contents after `ops_part0_2`. -/
def val1 (V0 : Valuation τ sig (Elt F)) : Valuation τ sig (Elt F) := after ops_part0_2 (val0_2 V0)
theorem val1_keep (V0 : Valuation τ sig (Elt F)) (r : Ref sig .tc) (h : r ∉ W_part0_2) :
    val1 V0 (no_index (Proc.devRef .tc r)) = val0_2 V0 (Proc.devRef .tc r) :=
  after_of_writes_sub ops_part0_2 _ writes_part0_2 h
set_option maxRecDepth 8192 in
set_option maxHeartbeats 2000000 in
theorem val1_main_v39 (V0 : Valuation τ sig (Elt F)) : val1 V0 (no_index (Proc.devRef .tc main_v39)) = Host.dotGeneral dot_S2x16384x4x8_S2x16384x4x8_S2x16384x4_3_3_n_n_012_012 none (Host.divf (res_main_v33 V0) (broadcastInDim S2x16384x4x8 ![0, 1, 2, 3] bcast_S2x16384x4x1_S2x16384x4x8_0_1_2_3 (broadcastInDim S2x16384x4x1 ![0, 1, 2] bcast_S2x16384x4_S2x16384x4x1_0_1_2 (Host.reduceAdd (res_main_v33 V0) (constant S_ .f32 0x00000000#32) reducesTo_S2x16384x4x8_S2x16384x4_d3 h_S_)))) (Host.dotGeneral dot_S2x16384x512_S4x8x512_S2x16384x4x8_2_2_01_01_n_n none (res_main_v11 V0) (V0 (Proc.devRef .tc main_arg6))) := by
  unfold val1
  simp only [ops_part0_2, TRef.binary, TRef.nullary, TRef.unary, TRef.quaternary, TRef.toBuf, TRef.ofBuf, cast_eq]
  after_results_simp
  all_goals (simp (disch := decide) only [val0, val0_1_keep, val0_2_keep, val0_1_main_v11, val0_1_main_call4_v2, val0_2_main_v23, val0_2_main_v26, val0_2_main_v27, val0_2_main_v28] <;> rfl)
set_option maxRecDepth 8192 in
set_option maxHeartbeats 2000000 in
theorem val1_main_v48 (V0 : Valuation τ sig (Elt F)) : val1 V0 (no_index (Proc.devRef .tc main_v48)) = subf (res_main_v42 V0) (broadcastInDim S2x16384x4x8 ![0, 1, 2, 3] bcast_S2x16384x4x1_S2x16384x4x8_0_1_2_3 (broadcastInDim S2x16384x4x1 ![0, 1, 2] bcast_S2x16384x4_S2x16384x4x1_0_1_2 (maximumf (broadcastInDim S2x16384x4 ![] bcast_S_S2x16384x4 (constant S_ .f32 0xFF800000#32)) (Host.reduce FloatOps.maximumf (res_main_v42 V0) (constant S_ .f32 0xFF800000#32) reducesTo_S2x16384x4x8_S2x16384x4_d3 h_S_)))) := by
  unfold val1
  simp only [ops_part0_2, TRef.binary, TRef.nullary, TRef.unary, TRef.quaternary, TRef.toBuf, TRef.ofBuf, cast_eq]
  after_results_simp
  all_goals (simp (disch := decide) only [val0, val0_1_keep, val0_2_keep, val0_1_main_v11, val0_1_main_call4_v2, val0_2_main_v23, val0_2_main_v26, val0_2_main_v27, val0_2_main_v28] <;> rfl)

/-- The contents after `ops_part1_0`. -/
def val1_1 (V0 : Valuation τ sig (Elt F)) : Valuation τ sig (Elt F) := after ops_part1_0 (val1 V0)
theorem val1_1_keep (V0 : Valuation τ sig (Elt F)) (r : Ref sig .tc) (h : r ∉ W_part1_0) :
    val1_1 V0 (no_index (Proc.devRef .tc r)) = val1 V0 (Proc.devRef .tc r) :=
  after_of_writes_sub ops_part1_0 _ writes_part1_0 h
set_option maxRecDepth 8192 in
set_option maxHeartbeats 2000000 in
theorem val1_1_main_v55 (V0 : Valuation τ sig (Elt F)) : val1_1 V0 (no_index (Proc.devRef .tc main_v55)) = Host.dotGeneral dot_S2x16384x4x8_S2x16384x4x8_S2x16384x4_3_3_n_n_012_012 none (Host.divf (res_main_v49 V0) (broadcastInDim S2x16384x4x8 ![0, 1, 2, 3] bcast_S2x16384x4x1_S2x16384x4x8_0_1_2_3 (broadcastInDim S2x16384x4x1 ![0, 1, 2] bcast_S2x16384x4_S2x16384x4x1_0_1_2 (Host.reduceAdd (res_main_v49 V0) (constant S_ .f32 0x00000000#32) reducesTo_S2x16384x4x8_S2x16384x4_d3 h_S_)))) (Host.dotGeneral dot_S2x16384x512_S4x8x512_S2x16384x4x8_2_2_01_01_n_n none (res_main_v23 V0) (V0 (Proc.devRef .tc main_arg6))) := by
  unfold val1_1
  simp only [ops_part1_0, TRef.binary, TRef.nullary, TRef.unary, TRef.quaternary, TRef.toBuf, TRef.ofBuf, cast_eq]
  after_results_simp
  all_goals (simp (disch := decide) only [val0, val0_1_keep, val0_2_keep, val1_keep, val0_1_main_v11, val0_1_main_call4_v2, val0_2_main_v23, val0_2_main_v26, val0_2_main_v27, val0_2_main_v28, val1_main_v39, val1_main_v48] <;> rfl)
set_option maxRecDepth 8192 in
set_option maxHeartbeats 2000000 in
theorem val1_1_main_v74 (V0 : Valuation τ sig (Elt F)) : val1_1 V0 (no_index (Proc.devRef .tc main_v74)) = res_main_v74 V0 := by
  unfold val1_1
  simp only [ops_part1_0, TRef.binary, TRef.nullary, TRef.unary, TRef.quaternary, TRef.toBuf, TRef.ofBuf, cast_eq]
  after_results_simp
  all_goals (simp (disch := decide) only [val0, val0_1_keep, val0_2_keep, val1_keep, val0_1_main_v11, val0_1_main_call4_v2, val0_2_main_v23, val0_2_main_v26, val0_2_main_v27, val0_2_main_v28, val1_main_v39, val1_main_v48] <;> rfl)
set_option maxRecDepth 8192 in
set_option maxHeartbeats 2000000 in
theorem val1_1_main_cst_13 (V0 : Valuation τ sig (Elt F)) : val1_1 V0 (no_index (Proc.devRef .tc main_cst_13)) = constant S_ .f32 0xFF800000#32 := by
  unfold val1_1
  simp only [ops_part1_0, TRef.binary, TRef.nullary, TRef.unary, TRef.quaternary, TRef.toBuf, TRef.ofBuf, cast_eq]
  after_results_simp
  all_goals (simp (disch := decide) only [val0, val0_1_keep, val0_2_keep, val1_keep, val0_1_main_v11, val0_1_main_call4_v2, val0_2_main_v23, val0_2_main_v26, val0_2_main_v27, val0_2_main_v28, val1_main_v39, val1_main_v48] <;> rfl)

/-- The contents after `ops_part1_1`. -/
def val1_2 (V0 : Valuation τ sig (Elt F)) : Valuation τ sig (Elt F) := after ops_part1_1 (val1_1 V0)
theorem val1_2_keep (V0 : Valuation τ sig (Elt F)) (r : Ref sig .tc) (h : r ∉ W_part1_1) :
    val1_2 V0 (no_index (Proc.devRef .tc r)) = val1_1 V0 (Proc.devRef .tc r) :=
  after_of_writes_sub ops_part1_1 _ writes_part1_1 h
set_option maxRecDepth 8192 in
set_option maxHeartbeats 2000000 in
theorem val1_2_main_v90 (V0 : Valuation τ sig (Elt F)) : val1_2 V0 (no_index (Proc.devRef .tc main_v90)) = Host.divf (res_main_v86 V0) (broadcastInDim S2x512 ![0, 1] bcast_S2x1_S2x512_0_1 (maximumf (broadcastInDim S2x1 ![] bcast_S_S2x1 (id (constant S_ .f32 0x2B8CBCCC#32))) (Host.sqrt (broadcastInDim S2x1 ![0] bcast_S2_S2x1_0 (Host.reduceAdd (mulf (res_main_v86 V0) (res_main_v86 V0)) (constant S_ .f32 0x00000000#32) reducesTo_S2x512_S2_d1 h_S_))))) := by
  unfold val1_2
  simp only [ops_part1_1, TRef.binary, TRef.nullary, TRef.unary, TRef.quaternary, TRef.toBuf, TRef.ofBuf, cast_eq]
  after_results_simp
  all_goals (simp (disch := decide) only [val0, val0_1_keep, val0_2_keep, val1_keep, val1_1_keep, val0_1_main_v11, val0_1_main_call4_v2, val0_2_main_v23, val0_2_main_v26, val0_2_main_v27, val0_2_main_v28, val1_main_v39, val1_main_v48, val1_1_main_v55, val1_1_main_v74, val1_1_main_cst_13] <;> rfl)
set_option maxRecDepth 8192 in
set_option maxHeartbeats 2000000 in
theorem val1_2_main_v95 (V0 : Valuation τ sig (Elt F)) : val1_2 V0 (no_index (Proc.devRef .tc main_v95)) = Host.tanh (addf (Host.dotGeneral dot_S2x16384x512_S512x256_S2x16384x256_2_0_01_1_n_n none (res_main_v23 V0) (V0 (Proc.devRef .tc main_arg7))) (broadcastInDim S2x16384x256 ![0, 1, 2] bcast_S1x1x256_S2x16384x256_0_1_2 (broadcastInDim S1x1x256 ![2] bcast_S256_S1x1x256_2 (V0 (Proc.devRef .tc main_arg8))))) := by
  unfold val1_2
  simp only [ops_part1_1, TRef.binary, TRef.nullary, TRef.unary, TRef.quaternary, TRef.toBuf, TRef.ofBuf, cast_eq]
  after_results_simp
  all_goals (simp (disch := decide) only [val0, val0_1_keep, val0_2_keep, val1_keep, val1_1_keep, val0_1_main_v11, val0_1_main_call4_v2, val0_2_main_v23, val0_2_main_v26, val0_2_main_v27, val0_2_main_v28, val1_main_v39, val1_main_v48, val1_1_main_v55, val1_1_main_v74, val1_1_main_cst_13] <;> rfl)

/-- The contents after `ops_part1_2`. -/
def val2 (V0 : Valuation τ sig (Elt F)) : Valuation τ sig (Elt F) := after ops_part1_2 (val1_2 V0)
theorem val2_keep (V0 : Valuation τ sig (Elt F)) (r : Ref sig .tc) (h : r ∉ W_part1_2) :
    val2 V0 (no_index (Proc.devRef .tc r)) = val1_2 V0 (Proc.devRef .tc r) :=
  after_of_writes_sub ops_part1_2 _ writes_part1_2 h
set_option maxRecDepth 8192 in
set_option maxHeartbeats 2000000 in
theorem val2_main_v101 (V0 : Valuation τ sig (Elt F)) : val2 V0 (no_index (Proc.devRef .tc main_v101)) = Host.exp (Host.negf (addf (Host.dotGeneral dot_S2x16384x512_S512x256_S2x16384x256_2_0_01_1_n_n none (res_main_v23 V0) (V0 (Proc.devRef .tc main_arg9))) (broadcastInDim S2x16384x256 ![0, 1, 2] bcast_S1x1x256_S2x16384x256_0_1_2 (broadcastInDim S1x1x256 ![2] bcast_S256_S1x1x256_2 (V0 (Proc.devRef .tc main_arg10)))))) := by
  unfold val2
  simp only [ops_part1_2, TRef.binary, TRef.nullary, TRef.unary, TRef.quaternary, TRef.toBuf, TRef.ofBuf, cast_eq]
  after_results_simp
  all_goals (simp (disch := decide) only [val0, val0_1_keep, val0_2_keep, val1_keep, val1_1_keep, val1_2_keep, val0_1_main_v11, val0_1_main_call4_v2, val0_2_main_v23, val0_2_main_v26, val0_2_main_v27, val0_2_main_v28, val1_main_v39, val1_main_v48, val1_1_main_v55, val1_1_main_v74, val1_1_main_cst_13, val1_2_main_v90, val1_2_main_v95] <;> rfl)

/-- The contents after `ops_part2_0`. -/
def val2_1 (V0 : Valuation τ sig (Elt F)) : Valuation τ sig (Elt F) := after ops_part2_0 (val2 V0)
theorem val2_1_keep (V0 : Valuation τ sig (Elt F)) (r : Ref sig .tc) (h : r ∉ W_part2_0) :
    val2_1 V0 (no_index (Proc.devRef .tc r)) = val2 V0 (Proc.devRef .tc r) :=
  after_of_writes_sub ops_part2_0 _ writes_part2_0 h
set_option maxRecDepth 8192 in
set_option maxHeartbeats 2000000 in
theorem val2_1_main_v121 (V0 : Valuation τ sig (Elt F)) : val2_1 V0 (no_index (Proc.devRef .tc main_v121)) = res_main_v121 V0 := by
  unfold val2_1
  simp only [ops_part2_0, TRef.binary, TRef.nullary, TRef.unary, TRef.quaternary, TRef.toBuf, TRef.ofBuf, cast_eq]
  after_results_simp
  all_goals (simp (disch := decide) only [val0, val0_1_keep, val0_2_keep, val1_keep, val1_1_keep, val1_2_keep, val2_keep, val0_1_main_v11, val0_1_main_call4_v2, val0_2_main_v23, val0_2_main_v26, val0_2_main_v27, val0_2_main_v28, val1_main_v39, val1_main_v48, val1_1_main_v55, val1_1_main_v74, val1_1_main_cst_13, val1_2_main_v90, val1_2_main_v95, val2_main_v101] <;> rfl)
set_option maxRecDepth 8192 in
set_option maxHeartbeats 2000000 in
theorem val2_1_main_v122 (V0 : Valuation τ sig (Elt F)) : val2_1 V0 (no_index (Proc.devRef .tc main_v122)) = Host.sqrt (broadcastInDim S2x1 ![0] bcast_S2_S2x1_0 (Host.reduceAdd (mulf (res_main_v121 V0) (res_main_v121 V0)) (constant S_ .f32 0x00000000#32) reducesTo_S2x512_S2_d1 h_S_)) := by
  unfold val2_1
  simp only [ops_part2_0, TRef.binary, TRef.nullary, TRef.unary, TRef.quaternary, TRef.toBuf, TRef.ofBuf, cast_eq]
  after_results_simp
  all_goals (simp (disch := decide) only [val0, val0_1_keep, val0_2_keep, val1_keep, val1_1_keep, val1_2_keep, val2_keep, val0_1_main_v11, val0_1_main_call4_v2, val0_2_main_v23, val0_2_main_v26, val0_2_main_v27, val0_2_main_v28, val1_main_v39, val1_main_v48, val1_1_main_v55, val1_1_main_v74, val1_1_main_cst_13, val1_2_main_v90, val1_2_main_v95, val2_main_v101] <;> rfl)

/-- The contents after `ops_part2_1`. -/
def val2_2 (V0 : Valuation τ sig (Elt F)) : Valuation τ sig (Elt F) := after ops_part2_1 (val2_1 V0)
theorem val2_2_keep (V0 : Valuation τ sig (Elt F)) (r : Ref sig .tc) (h : r ∉ W_part2_1) :
    val2_2 V0 (no_index (Proc.devRef .tc r)) = val2_1 V0 (Proc.devRef .tc r) :=
  after_of_writes_sub ops_part2_1 _ writes_part2_1 h
set_option maxRecDepth 8192 in
set_option maxHeartbeats 2000000 in
theorem val2_2_main_v135 (V0 : Valuation τ sig (Elt F)) : val2_2 V0 (no_index (Proc.devRef .tc main_v135)) = res_main_v135 V0 := by
  unfold val2_2
  simp only [ops_part2_1, TRef.binary, TRef.nullary, TRef.unary, TRef.quaternary, TRef.toBuf, TRef.ofBuf, cast_eq]
  after_results_simp
  all_goals (simp (disch := decide) only [val0, val0_1_keep, val0_2_keep, val1_keep, val1_1_keep, val1_2_keep, val2_keep, val2_1_keep, val0_1_main_v11, val0_1_main_call4_v2, val0_2_main_v23, val0_2_main_v26, val0_2_main_v27, val0_2_main_v28, val1_main_v39, val1_main_v48, val1_1_main_v55, val1_1_main_v74, val1_1_main_cst_13, val1_2_main_v90, val1_2_main_v95, val2_main_v101, val2_1_main_v121, val2_1_main_v122] <;> rfl)
set_option maxRecDepth 8192 in
set_option maxHeartbeats 2000000 in
theorem val2_2_main_v139 (V0 : Valuation τ sig (Elt F)) : val2_2 V0 (no_index (Proc.devRef .tc main_v139)) = broadcastInDim S2x1 ![0] bcast_S2_S2x1_0 (maximumf (broadcastInDim S2 ![] bcast_S_S2 (constant S_ .f32 0xFF800000#32)) (Host.reduce FloatOps.maximumf (res_main_v135 V0) (constant S_ .f32 0xFF800000#32) reducesTo_S2x4_S2_d1 h_S_)) := by
  unfold val2_2
  simp only [ops_part2_1, TRef.binary, TRef.nullary, TRef.unary, TRef.quaternary, TRef.toBuf, TRef.ofBuf, cast_eq]
  after_results_simp
  all_goals (simp (disch := decide) only [val0, val0_1_keep, val0_2_keep, val1_keep, val1_1_keep, val1_2_keep, val2_keep, val2_1_keep, val0_1_main_v11, val0_1_main_call4_v2, val0_2_main_v23, val0_2_main_v26, val0_2_main_v27, val0_2_main_v28, val1_main_v39, val1_main_v48, val1_1_main_v55, val1_1_main_v74, val1_1_main_cst_13, val1_2_main_v90, val1_2_main_v95, val2_main_v101, val2_1_main_v121, val2_1_main_v122] <;> rfl)

/-- The contents after `ops_part2_2`. -/
def val3 (V0 : Valuation τ sig (Elt F)) : Valuation τ sig (Elt F) := after ops_part2_2 (val2_2 V0)
theorem val3_keep (V0 : Valuation τ sig (Elt F)) (r : Ref sig .tc) (h : r ∉ W_part2_2) :
    val3 V0 (no_index (Proc.devRef .tc r)) = val2_2 V0 (Proc.devRef .tc r) :=
  after_of_writes_sub ops_part2_2 _ writes_part2_2 h
set_option maxRecDepth 8192 in
set_option maxHeartbeats 2000000 in
theorem val3_main_v146 (V0 : Valuation τ sig (Elt F)) : val3 V0 (no_index (Proc.devRef .tc main_v146)) = Host.divf (res_main_v142 V0) (broadcastInDim S2x4 ![0, 1] bcast_S2x1_S2x4_0_1 (broadcastInDim S2x1 ![0] bcast_S2_S2x1_0 (Host.reduceAdd (res_main_v142 V0) (constant S_ .f32 0x00000000#32) reducesTo_S2x4_S2_d1 h_S_))) := by
  unfold val3
  simp only [ops_part2_2, TRef.binary, TRef.nullary, TRef.unary, TRef.quaternary, TRef.toBuf, TRef.ofBuf, cast_eq]
  after_results_simp
  all_goals (simp (disch := decide) only [val0, val0_1_keep, val0_2_keep, val1_keep, val1_1_keep, val1_2_keep, val2_keep, val2_1_keep, val2_2_keep, val0_1_main_v11, val0_1_main_call4_v2, val0_2_main_v23, val0_2_main_v26, val0_2_main_v27, val0_2_main_v28, val1_main_v39, val1_main_v48, val1_1_main_v55, val1_1_main_v74, val1_1_main_cst_13, val1_2_main_v90, val1_2_main_v95, val2_main_v101, val2_1_main_v121, val2_1_main_v122, val2_2_main_v135, val2_2_main_v139] <;> rfl)
set_option maxRecDepth 8192 in
set_option maxHeartbeats 2000000 in
theorem val3_main_v147 (V0 : Valuation τ sig (Elt F)) : val3 V0 (no_index (Proc.devRef .tc main_v147)) = (fun j => (Host.argReduce reducer_argmax_f32_i32 (Host.divf (res_main_v142 V0) (broadcastInDim S2x4 ![0, 1] bcast_S2x1_S2x4_0_1 (broadcastInDim S2x1 ![0] bcast_S2_S2x1_0 (Host.reduceAdd (res_main_v142 V0) (constant S_ .f32 0x00000000#32) reducesTo_S2x4_S2_d1 h_S_)))) (iotaInDim S2x4 32 1) (constant S_ .f32 0xFF800000#32) (constantI S_ 32 0#32) reducesTo_S2x4_S2_d1 h_S_ j).2) := by
  unfold val3
  simp only [ops_part2_2, TRef.binary, TRef.nullary, TRef.unary, TRef.quaternary, TRef.toBuf, TRef.ofBuf, cast_eq]
  after_results_simp
  all_goals (simp (disch := decide) only [val0, val0_1_keep, val0_2_keep, val1_keep, val1_1_keep, val1_2_keep, val2_keep, val2_1_keep, val2_2_keep, val0_1_main_v11, val0_1_main_call4_v2, val0_2_main_v23, val0_2_main_v26, val0_2_main_v27, val0_2_main_v28, val1_main_v39, val1_main_v48, val1_1_main_v55, val1_1_main_v74, val1_1_main_cst_13, val1_2_main_v90, val1_2_main_v95, val2_main_v101, val2_1_main_v121, val2_1_main_v122, val2_2_main_v135, val2_2_main_v139] <;> rfl)

/-- What the first result holds at the end. -/
def prob (V0 : Valuation τ sig (Elt F)) : (⟨S2x4, .f32⟩ : BufTy).Contents (Elt F) := Host.divf (res_main_v142 V0) (broadcastInDim S2x4 ![0, 1] bcast_S2x1_S2x4_0_1 (broadcastInDim S2x1 ![0] bcast_S2_S2x1_0 (Host.reduceAdd (res_main_v142 V0) (constant S_ .f32 0x00000000#32) reducesTo_S2x4_S2_d1 h_S_)))
/-- What the second result holds at the end. -/
def label (V0 : Valuation τ sig (Elt F)) : (⟨S2, .i32⟩ : BufTy).Contents (Elt F) :=
  fun j => (Host.argReduce reducer_argmax_f32_i32 (prob V0) (iotaInDim S2x4 32 1) (constant S_ .f32 0xFF800000#32) (constantI S_ 32 0#32) reducesTo_S2x4_S2_d1 h_S_ j).2
/-- What the third result holds at the end. -/
def scoresS (V0 : Valuation τ sig (Elt F)) : (⟨S2x16384x4, .f32⟩ : BufTy).Contents (Elt F) := Host.dotGeneral dot_S2x16384x4x8_S2x16384x4x8_S2x16384x4_3_3_n_n_012_012 none (Host.divf (res_main_v33 V0) (broadcastInDim S2x16384x4x8 ![0, 1, 2, 3] bcast_S2x16384x4x1_S2x16384x4x8_0_1_2_3 (broadcastInDim S2x16384x4x1 ![0, 1, 2] bcast_S2x16384x4_S2x16384x4x1_0_1_2 (Host.reduceAdd (res_main_v33 V0) (constant S_ .f32 0x00000000#32) reducesTo_S2x16384x4x8_S2x16384x4_d3 h_S_)))) (Host.dotGeneral dot_S2x16384x512_S4x8x512_S2x16384x4x8_2_2_01_01_n_n none (res_main_v11 V0) (V0 (Proc.devRef .tc main_arg6)))
/-- What the fourth result holds at the end. -/
def scoresL (V0 : Valuation τ sig (Elt F)) : (⟨S2x16384x4, .f32⟩ : BufTy).Contents (Elt F) := Host.dotGeneral dot_S2x16384x4x8_S2x16384x4x8_S2x16384x4_3_3_n_n_012_012 none (Host.divf (res_main_v49 V0) (broadcastInDim S2x16384x4x8 ![0, 1, 2, 3] bcast_S2x16384x4x1_S2x16384x4x8_0_1_2_3 (broadcastInDim S2x16384x4x1 ![0, 1, 2] bcast_S2x16384x4_S2x16384x4x1_0_1_2 (Host.reduceAdd (res_main_v49 V0) (constant S_ .f32 0x00000000#32) reducesTo_S2x16384x4x8_S2x16384x4_d3 h_S_)))) (Host.dotGeneral dot_S2x16384x512_S4x8x512_S2x16384x4x8_2_2_01_01_n_n none (res_main_v23 V0) (V0 (Proc.devRef .tc main_arg6)))

theorem after_ops (V0 : Valuation τ sig (Elt F)) : after ops V0 = val3 V0 := by
  simp only [ops, ops_part0, ops_part1, ops_part2, after_append]
  rfl

/-- A buffer that no operation writes keeps its contents. -/
theorem keeps (V0 : Valuation τ sig (Elt F)) (r : Ref sig .tc)
    (h : r ∉ W_part0_0 ++ W_part0_1 ++ W_part0_2 ++ W_part1_0 ++ W_part1_1 ++ W_part1_2 ++ W_part2_0 ++ W_part2_1 ++ W_part2_2) : val3 V0 (Proc.devRef .tc r) = V0 (Proc.devRef .tc r) := by
  simp only [List.mem_append, not_or] at h
  obtain ⟨⟨⟨⟨⟨⟨⟨⟨h0, h1⟩, h2⟩, h3⟩, h4⟩, h5⟩, h6⟩, h7⟩, h8⟩ := h
  rw [val3_keep _ _ h8, val2_2_keep _ _ h7, val2_1_keep _ _ h6, val2_keep _ _ h5, val1_2_keep _ _ h4, val1_1_keep _ _ h3, val1_keep _ _ h2, val0_2_keep _ _ h1, val0_1_keep _ _ h0]
  rfl

set_option maxRecDepth 8192 in
theorem val3_main_v39 (V0 : Valuation τ sig (Elt F)) : val3 V0 (Proc.devRef .tc main_v39) = scoresS V0 := by
  simp (disch := decide) only [val0, val0_1_keep, val0_2_keep, val1_keep, val1_1_keep, val1_2_keep, val2_keep, val2_1_keep, val2_2_keep, val3_keep, val0_1_main_v11, val0_1_main_call4_v2, val0_2_main_v23, val0_2_main_v26, val0_2_main_v27, val0_2_main_v28, val1_main_v39, val1_main_v48, val1_1_main_v55, val1_1_main_v74, val1_1_main_cst_13, val1_2_main_v90, val1_2_main_v95, val2_main_v101, val2_1_main_v121, val2_1_main_v122, val2_2_main_v135, val2_2_main_v139] <;> rfl
set_option maxRecDepth 8192 in
theorem val3_main_v55 (V0 : Valuation τ sig (Elt F)) : val3 V0 (Proc.devRef .tc main_v55) = scoresL V0 := by
  simp (disch := decide) only [val0, val0_1_keep, val0_2_keep, val1_keep, val1_1_keep, val1_2_keep, val2_keep, val2_1_keep, val2_2_keep, val3_keep, val0_1_main_v11, val0_1_main_call4_v2, val0_2_main_v23, val0_2_main_v26, val0_2_main_v27, val0_2_main_v28, val1_main_v39, val1_main_v48, val1_1_main_v55, val1_1_main_v74, val1_1_main_cst_13, val1_2_main_v90, val1_2_main_v95, val2_main_v101, val2_1_main_v121, val2_1_main_v122, val2_2_main_v135, val2_2_main_v139] <;> rfl

set_option maxRecDepth 8192 in
/-- From any memory with zero counters every fair execution ends, with each result at its term of the arguments,
    every argument unchanged and every counter zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v146) = prob (launchContents m c)
      ∧ r.2.mem ((c.tc : Thread nD τ).loc main_v147) = label (launchContents m c)
      ∧ r.2.mem ((c.tc : Thread nD τ).loc main_v39) = scoresS (launchContents m c)
      ∧ r.2.mem ((c.tc : Thread nD τ).loc main_v55) = scoresL (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0 :=
  (θ_run defs _ _).mono (fun r h => ⟨fun c => ⟨(h c main_v146).trans ((congrFun (after_ops (launchContents m c)) (Proc.devRef .tc main_v146)).trans (val3_main_v146 (launchContents m c))),
      (h c main_v147).trans ((congrFun (after_ops (launchContents m c)) (Proc.devRef .tc main_v147)).trans (val3_main_v147 (launchContents m c))),
      (h c main_v39).trans ((congrFun (after_ops (launchContents m c)) (Proc.devRef .tc main_v39)).trans (val3_main_v39 (launchContents m c))),
      (h c main_v55).trans ((congrFun (after_ops (launchContents m c)) (Proc.devRef .tc main_v55)).trans (val3_main_v55 (launchContents m c))),
      (h c main_arg0).trans ((congrFun (after_ops (launchContents m c)) (Proc.devRef .tc main_arg0)).trans (keeps (launchContents m c) main_arg0 (by decide))),
      (h c main_arg1).trans ((congrFun (after_ops (launchContents m c)) (Proc.devRef .tc main_arg1)).trans (keeps (launchContents m c) main_arg1 (by decide))),
      (h c main_arg2).trans ((congrFun (after_ops (launchContents m c)) (Proc.devRef .tc main_arg2)).trans (keeps (launchContents m c) main_arg2 (by decide))),
      (h c main_arg3).trans ((congrFun (after_ops (launchContents m c)) (Proc.devRef .tc main_arg3)).trans (keeps (launchContents m c) main_arg3 (by decide))),
      (h c main_arg4).trans ((congrFun (after_ops (launchContents m c)) (Proc.devRef .tc main_arg4)).trans (keeps (launchContents m c) main_arg4 (by decide))),
      (h c main_arg5).trans ((congrFun (after_ops (launchContents m c)) (Proc.devRef .tc main_arg5)).trans (keeps (launchContents m c) main_arg5 (by decide))),
      (h c main_arg6).trans ((congrFun (after_ops (launchContents m c)) (Proc.devRef .tc main_arg6)).trans (keeps (launchContents m c) main_arg6 (by decide))),
      (h c main_arg7).trans ((congrFun (after_ops (launchContents m c)) (Proc.devRef .tc main_arg7)).trans (keeps (launchContents m c) main_arg7 (by decide))),
      (h c main_arg8).trans ((congrFun (after_ops (launchContents m c)) (Proc.devRef .tc main_arg8)).trans (keeps (launchContents m c) main_arg8 (by decide))),
      (h c main_arg9).trans ((congrFun (after_ops (launchContents m c)) (Proc.devRef .tc main_arg9)).trans (keeps (launchContents m c) main_arg9 (by decide))),
      (h c main_arg10).trans ((congrFun (after_ops (launchContents m c)) (Proc.devRef .tc main_arg10)).trans (keeps (launchContents m c) main_arg10 (by decide))),
      (h c main_arg11).trans ((congrFun (after_ops (launchContents m c)) (Proc.devRef .tc main_arg11)).trans (keeps (launchContents m c) main_arg11 (by decide))),
      (h c main_arg12).trans ((congrFun (after_ops (launchContents m c)) (Proc.devRef .tc main_arg12)).trans (keeps (launchContents m c) main_arg12 (by decide)))⟩,
      sem_eq_zero_of_no_sems rfl r.2⟩)
    (run_seq scopedRefs_eq scopedSems_eq defs main (fun _ => ops) main_eq (fun _ => ops_sub) m ρ fun _ => ops_fresh)

end Cert.ReferenceIdeal.Value

end
-- ==== Proof.Value.Math.lean ====
/- The arithmetic of the two programs over extended reals: normalised vectors and the literals. -/
module

public import Idealize.ShloMosaic.Lib.Pointwise
public import Idealize.ShloMosaic.Lib.IdealHost

@[expose] public section

noncomputable section

namespace Cert.Value

open Idealize.ShloMosaic

/-! ## The literals -/

/-- The reference's clip of a norm. -/
def eps : EReal := Ideal.ofBits .f32 0x2B8CBCCC#32
/-- The kernel's clip of a squared norm. -/
def epsSq : EReal := ((5316911940649 / 5316911983139663491615228241121378304 : ℝ) : EReal)
/-- The scale of a similarity. -/
def scale : EReal := Ideal.ofBits .f32 0x3D3504F3#32
/-- What a running maximum starts from. -/
def low : EReal := Ideal.ofBits .f32 0xFF800000#32

theorem low_eq : low = ⊥ := by simp [low, Ideal.ofBits, Ideal.ieee]
theorem high_eq : Ideal.ofBits .f32 0x7F800000#32 = ⊤ := by simp [Ideal.ofBits, Ideal.ieee]
theorem scale_real : ∃ r : ℝ, scale = r := by
  refine ⟨11863283 * (2 ^ 28)⁻¹, ?_⟩
  rw [EReal.coe_mul]
  simp [scale, Ideal.ofBits, Ideal.ieee]
  try rfl
/-- The clip as a real number. -/
def epsR : ℝ := 2305843 / 2305843009213693952
theorem epsR_pos : 0 < epsR := by unfold epsR; norm_num
theorem eps_eq : eps = (epsR : EReal) := by
  have h : epsR = 9223372 * (2 ^ 63)⁻¹ := by unfold epsR; norm_num
  rw [h, EReal.coe_mul]
  simp [eps, Ideal.ofBits, Ideal.ieee]
  try rfl
theorem epsSq_eq : epsSq = ((epsR * epsR : ℝ) : EReal) := by
  unfold epsSq epsR; congr 1; norm_num

/-! ## Sums of extended reals -/

/-- A sum of real numbers is real. -/
theorem sum_coe {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]
/-- A positive real factor comes out of a sum of two. -/
theorem add_mul_pos (a b : EReal) (c : ℝ) (hc : 0 < c) : (a + b) * (c : EReal) = a * c + b * c := by
  induction a with
  | bot => rw [EReal.bot_add, EReal.bot_mul_coe_of_pos hc, EReal.bot_add]
  | top =>
    induction b with
    | bot => rw [EReal.add_bot, EReal.bot_mul_coe_of_pos hc, EReal.add_bot]
    | top => rw [EReal.top_add_top, EReal.top_mul_coe_of_pos hc, EReal.top_add_top]
    | coe b => rw [EReal.top_add_coe, EReal.top_mul_coe_of_pos hc, ← EReal.coe_mul, EReal.top_add_coe]
  | coe a =>
    induction b with
    | bot => rw [EReal.add_bot, EReal.bot_mul_coe_of_pos hc, EReal.add_bot]
    | top => rw [EReal.coe_add_top, EReal.top_mul_coe_of_pos hc, ← EReal.coe_mul, EReal.coe_add_top]
    | coe b => rw [← EReal.coe_add, ← EReal.coe_mul, ← EReal.coe_mul, ← EReal.coe_mul, ← EReal.coe_add, add_mul]
/-- A positive real factor comes out of a sum. -/
theorem sum_mul_pos {ι : Type*} (s : Finset ι) (f : ι → EReal) (c : ℝ) (hc : 0 < c) :
    ∑ k ∈ s, f k * (c : EReal) = (∑ k ∈ s, f k) * c := by
  classical
  induction s using Finset.induction_on with
  | empty => simp
  | insert a s ha ih => rw [Finset.sum_insert ha, Finset.sum_insert ha, ih, add_mul_pos _ _ c hc]

/-- A square is not negative. -/
theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-! ## Normalised vectors -/

variable {n : ℕ}

/-- The sum of a vector's squares. -/
def sumSq (v : Fin n → EReal) : EReal := ∑ k, v k * v k
/-- A vector's norm. -/
def len (v : Fin n → EReal) : EReal := Ideal.sqrt (sumSq v)
/-- A vector divided by its clipped norm. -/
def unit (v : Fin n → EReal) (d : Fin n) : EReal := Ideal.div (v d) (max eps (len v))
/-- A vector times the reciprocal root of its clipped squared norm. -/
def unitK (v : Fin n → EReal) (d : Fin n) : EReal := v d * Ideal.rsqrt (max (sumSq v) epsSq)

theorem sumSq_coe (r : Fin n → ℝ) : sumSq (fun k => (r k : EReal)) = ((∑ k, r k * r k : ℝ) : EReal) := by
  unfold sumSq; rw [← sum_coe]; rfl
/-- A vector is real, or the sum of its squares is infinite. -/
theorem vec_cases (v : Fin n → EReal) : (∃ r : Fin n → ℝ, v = fun k => (r k : EReal)) ∨ sumSq v = ⊤ := by
  by_cases h : ∀ k, ∃ r : ℝ, v k = r
  · choose r hr using h
    exact .inl ⟨r, funext hr⟩
  · right
    obtain ⟨k, hk⟩ := not_forall.mp h
    have hsq : v k * v k = ⊤ := by
      generalize v k = x at hk
      induction x with
      | bot => exact EReal.bot_mul_bot
      | top => exact EReal.top_mul_top
      | coe r => exact absurd ⟨r, rfl⟩ hk
    unfold sumSq
    rw [← Finset.add_sum_erase _ _ (Finset.mem_univ k), hsq]
    have hnn : (0 : EReal) ≤ ∑ x ∈ Finset.univ.erase k, v x * v x := Finset.sum_nonneg fun i _ => sq_nonneg' _
    exact EReal.top_add_of_ne_bot (ne_of_gt (lt_of_lt_of_le EReal.bot_lt_zero hnn))
theorem sqs_nonneg (r : Fin n → ℝ) : 0 ≤ ∑ k, r k * r k := Finset.sum_nonneg fun i _ => mul_self_nonneg _
theorem len_coe (r : Fin n → ℝ) : len (fun k => (r k : EReal)) = (Real.sqrt (∑ k, r k * r k) : EReal) := by
  unfold len; rw [sumSq_coe, Ideal.sqrt_coe, if_neg (not_lt.mpr (sqs_nonneg r))]
theorem len_top {v : Fin n → EReal} (h : sumSq v = ⊤) : len v = ⊤ := by unfold len; rw [h]; rfl
theorem max_coe (a b : ℝ) : max (a : EReal) (b : EReal) = ((max a b : ℝ) : EReal) :=
  (EReal.coe_strictMono.monotone.map_max).symm
theorem div_real (a b : ℝ) (hb : b ≠ 0) : Ideal.div (a : EReal) (b : EReal) = ((a / b : ℝ) : EReal) := by
  rw [Ideal.div_coe hb, ← EReal.coe_mul, mul_one_div]
theorem clip_pos (r : ℝ) : 0 < max epsR r := lt_max_of_lt_left epsR_pos
theorem unit_coe (r : Fin n → ℝ) (d : Fin n) :
    unit (fun k => (r k : EReal)) d = ((r d / max epsR (Real.sqrt (∑ k, r k * r k)) : ℝ) : EReal) := by
  unfold unit; rw [len_coe, eps_eq, max_coe, div_real _ _ (clip_pos _).ne']
theorem unit_top {v : Fin n → EReal} (h : sumSq v = ⊤) (d : Fin n) : unit v d = 0 := by
  unfold unit
  rw [len_top h, max_eq_right le_top, Ideal.div, if_neg (by simp), EReal.inv_top, mul_zero]
/-- A normalised vector is real. -/
theorem unit_real (v : Fin n → EReal) : ∃ r : Fin n → ℝ, unit v = fun d => (r d : EReal) := by
  rcases vec_cases v with ⟨r, rfl⟩ | h
  · exact ⟨_, funext fun d => unit_coe r d⟩
  · exact ⟨fun _ => 0, funext fun d => (unit_top h d).trans EReal.coe_zero.symm⟩

/-- The kernel's way of normalising is the reference's. -/
theorem unitK_eq (v : Fin n → EReal) : unitK v = unit v := by
  funext d
  rcases vec_cases v with ⟨r, rfl⟩ | h
  · have hs := sqs_nonneg r
    have hm : (0:ℝ) < max (∑ k, r k * r k) (epsR * epsR) := lt_max_of_lt_right (mul_pos epsR_pos epsR_pos)
    rw [unit_coe]; unfold unitK
    rw [sumSq_coe, epsSq_eq, max_coe, Ideal.rsqrt_coe, if_neg (not_lt.mpr hm.le), if_neg hm.ne', ← EReal.coe_mul]
    congr 1
    rw [div_eq_mul_inv]; congr 2
    rw [(Real.sqrt_monotone).map_max, Real.sqrt_mul_self epsR_pos.le, max_comm]
  · rw [unit_top h]; unfold unitK
    rw [h, max_eq_left le_top, Ideal.rsqrt_top, mul_zero]

theorem unit_zero (d : Fin n) : unit (fun _ => (0 : EReal)) d = 0 := by
  have := unit_coe (fun _ : Fin n => (0:ℝ)) d
  simpa using this
/-- A vector of norm zero is zero. -/
theorem len_zero {v : Fin n → EReal} (h : len v = 0) : v = fun _ => 0 := by
  rcases vec_cases v with ⟨r, rfl⟩ | ht
  · rw [len_coe] at h
    have h0 : ∑ k, r k * r k = 0 := (Real.sqrt_eq_zero (sqs_nonneg r)).mp (EReal.coe_eq_zero.mp h)
    have := (Finset.sum_eq_zero_iff_of_nonneg (fun i _ => mul_self_nonneg (r i))).mp h0
    funext k
    exact EReal.coe_eq_zero.mpr (mul_self_eq_zero.mp (this k (Finset.mem_univ k)))
  · rw [len_top ht] at h; exact absurd h (by simp)

theorem sqrt_scaled (r : Fin n → ℝ) (c : ℝ) (hc : 0 < c) :
    Real.sqrt (∑ k, (r k * c) * (r k * c)) = Real.sqrt (∑ k, r k * r k) * c := by
  rw [show (∑ k, (r k * c) * (r k * c)) = (∑ k, r k * r k) * (c * c) by
    rw [Finset.sum_mul]; exact Finset.sum_congr rfl fun k _ => by ring]
  rw [Real.sqrt_mul (sqs_nonneg r), Real.sqrt_mul_self hc.le]
/-- The norm of a positive multiple. -/
theorem len_scaled (v : Fin n → EReal) (c : ℝ) (hc : 0 < c) : len (fun k => v k * c) = len v * c := by
  rcases vec_cases v with ⟨r, rfl⟩ | h
  · simp only [← EReal.coe_mul]
    rw [len_coe (fun k => r k * c), len_coe, sqrt_scaled r c hc, EReal.coe_mul]
  · rw [len_top h, EReal.top_mul_coe_of_pos hc]
    apply len_top
    rcases vec_cases (fun k => v k * (c : EReal)) with ⟨r, hr⟩ | h'
    · exfalso
      have : v = fun k => ((r k * c⁻¹ : ℝ) : EReal) := by
        funext k
        rw [EReal.coe_mul, ← congrFun hr k, mul_assoc, ← EReal.coe_mul, mul_inv_cancel₀ hc.ne', EReal.coe_one, mul_one]
      rw [this, sumSq_coe] at h
      exact EReal.coe_ne_top _ h
    · exact h'
/-- A positive multiple has the same normalised vector, where neither norm is clipped. -/
theorem unit_scaled (v : Fin n → EReal) (c : ℝ) (hc : 0 < c) (h1 : eps ≤ len v) (h2 : eps ≤ len (fun k => v k * c)) :
    unit (fun k => v k * c) = unit v := by
  funext d
  unfold unit
  rw [max_eq_right h1, max_eq_right h2, len_scaled v c hc]
  rcases vec_cases v with ⟨r, rfl⟩ | h
  · rw [len_coe] at h1 ⊢
    have hp : 0 < Real.sqrt (∑ k, r k * r k) := by
      rw [eps_eq] at h1; exact lt_of_lt_of_le epsR_pos (EReal.coe_le_coe_iff.mp h1)
    rw [← EReal.coe_mul]
    show Ideal.div ((r d : EReal) * (c : EReal)) _ = Ideal.div (r d : EReal) _
    rw [← EReal.coe_mul, div_real _ _ (mul_pos hp hc).ne', div_real _ _ hp.ne', mul_div_mul_right _ _ hc.ne']
  · rw [len_top h, EReal.top_mul_coe_of_pos hc]
    simp [Ideal.div]

/-! ## Projected rows -/

variable {p : ℕ}

/-- A row through a matrix. -/
def proj (W : Fin n → Fin p → EReal) (x : Fin n → EReal) (d : Fin p) : EReal := ∑ k, x k * W k d
/-- A vector of infinite norm is normalised to zero. -/
theorem unit_of_len {v : Fin n → EReal} (h : len v = ⊤) : unit v = fun _ => 0 := by
  rcases vec_cases v with ⟨r, rfl⟩ | ht
  · rw [len_coe] at h
    exact absurd h (EReal.coe_ne_top _)
  · exact funext (unit_top ht)
/-- Where the clip of the projected row's norm does not tell the row from its normalised row. -/
def Regular (W : Fin n → Fin p → EReal) (x : Fin n → EReal) : Prop :=
  (eps ≤ len (proj W x) ∧ eps ≤ len (proj W (unit x))) ∨ (len (proj W x) = 0 ∧ len (proj W (unit x)) = 0) ∨ len (proj W x) = ⊤

/-- The projection of a normalised real row is a positive multiple of the row's projection. -/
theorem proj_unit (W : Fin n → Fin p → EReal) (r : Fin n → ℝ) :
    ∃ c : ℝ, 0 < c ∧ proj W (unit fun k => (r k : EReal)) = fun d => proj W (fun k => (r k : EReal)) d * c := by
  have hc : 0 < (max epsR (Real.sqrt (∑ k, r k * r k)))⁻¹ := inv_pos.mpr (clip_pos _)
  generalize hcd : (max epsR (Real.sqrt (∑ k, r k * r k)))⁻¹ = c at hc
  refine ⟨c, hc, funext fun d => ?_⟩
  unfold proj
  rw [← sum_mul_pos _ _ c hc]
  refine Finset.sum_congr rfl fun k _ => ?_
  rw [unit_coe, div_eq_mul_inv, hcd, EReal.coe_mul, mul_right_comm]
/-- The projection of a normalised infinite row is zero. -/
theorem proj_unit_top (W : Fin n → Fin p → EReal) {x : Fin n → EReal} (h : sumSq x = ⊤) : proj W (unit x) = fun _ => ((0:ℝ) : EReal) := by
  funext d; unfold proj
  simp [unit_top h]
/-- On a regular row, normalising before the projection changes nothing after it. -/
theorem unit_proj_unit (W : Fin n → Fin p → EReal) (x : Fin n → EReal) (h : Regular W x) :
    unit (proj W (unit x)) = unit (proj W x) := by
  rcases h with ⟨h1, h2⟩ | ⟨h1, h2⟩ | h1
  · rcases vec_cases x with ⟨r, rfl⟩ | ht
    · obtain ⟨c, hc, e⟩ := proj_unit W r
      rw [e] at h2 ⊢
      exact unit_scaled _ c hc h1 h2
    · exfalso
      rw [proj_unit_top W ht, len_coe, eps_eq] at h2
      simp at h2
      exact absurd h2 (not_le.mpr epsR_pos)
  · rw [len_zero h1, len_zero h2]
  · rw [unit_of_len h1]
    rcases vec_cases x with ⟨r, rfl⟩ | ht
    · obtain ⟨c, hc, e⟩ := proj_unit W r
      rw [e]
      refine unit_of_len ?_
      rw [len_scaled _ _ hc, h1, EReal.top_mul_coe_of_pos hc]
    · rw [proj_unit_top W ht]
      exact funext unit_zero

end Cert.Value

end
-- ==== Proof.Value.Pool.lean ====
/- Softmax weights, attention scores, the pooled slide and the running sums, over extended reals. -/
module

public import proofs.«01_k».proof.Proof.Value.Math

@[expose] public section

noncomputable section

namespace Cert.Value

open Idealize.ShloMosaic

variable {n p : ℕ}

/-! ## Maxima -/

/-- The greatest entry. -/
def top {ι : Type*} [Fintype ι] (a : ι → EReal) : EReal := Finset.univ.sup a
theorem fold_eq {ι : Type*} [Fintype ι] (a : ι → EReal) : Finset.univ.fold max low a = top a := by
  rw [low_eq]; rfl
theorem le_top' {ι : Type*} [Fintype ι] (a : ι → EReal) (k : ι) : a k ≤ top a := Finset.le_sup (Finset.mem_univ k)
theorem top_mem {ι : Type*} [Fintype ι] [Nonempty ι] (a : ι → EReal) : ∃ k, a k = top a := by
  obtain ⟨k, _, h⟩ := Finset.exists_mem_eq_sup Finset.univ Finset.univ_nonempty a
  exact ⟨k, h.symm⟩
theorem top_real {ι : Type*} [Fintype ι] [Nonempty ι] (a : ι → ℝ) : ∃ M : ℝ, top (fun k => (a k : EReal)) = M := by
  obtain ⟨k, h⟩ := top_mem (fun k => (a k : EReal))
  exact ⟨a k, h.symm⟩
/-- Adding a real number to every entry adds it to the greatest. -/
theorem top_shift {ι : Type*} [Fintype ι] (a : ι → EReal) (b : ℝ) :
    top (fun k => a k + b) = top a + b := by
  have hm : Monotone fun x : EReal => x + (b : EReal) := fun x y h => add_le_add_left h _
  have := Finset.fold_hom (op := max) (op' := max) (m := fun x : EReal => x + (b : EReal)) (b := ⊥) (s := Finset.univ) (f := a)
    (fun x y => hm.map_max)
  rw [show (⊥ : EReal) + (b : EReal) = ⊥ from EReal.bot_add _] at this
  exact this

/-! ## Weights -/

theorem exp_real (x : ℝ) : Ideal.exp (x : EReal) = (Real.exp x : EReal) := Ideal.exp_coe x

/-- The difference of two entries does not see a shift. -/
theorem sub_shift (a m : EReal) (b : ℝ) : (a + b) - (m + b) = a - m := by
  induction a with
  | bot => rw [EReal.bot_add, EReal.bot_sub, EReal.bot_sub]
  | top =>
    induction m with
    | bot => simp
    | top => simp
    | coe m => rw [EReal.top_add_coe, ← EReal.coe_add, EReal.top_sub_coe, EReal.top_sub_coe]
  | coe a =>
    induction m with
    | bot => rw [EReal.bot_add, ← EReal.coe_add, EReal.coe_sub_bot, EReal.coe_sub_bot]
    | top => rw [EReal.top_add_coe, EReal.sub_top, EReal.sub_top]
    | coe m => rw [← EReal.coe_add, ← EReal.coe_add, ← EReal.coe_sub, ← EReal.coe_sub]; congr 1; ring

/-- A weight under the greatest entry is real and not negative. -/
theorem weight_real {a m : EReal} (h : a ≤ m) : ∃ w : ℝ, 0 ≤ w ∧ Ideal.exp (a - m) = w := by
  induction m with
  | bot => rw [le_bot_iff.mp h, EReal.bot_sub]; exact ⟨0, le_rfl, by simp⟩
  | top => rw [EReal.sub_top]; exact ⟨0, le_rfl, by simp⟩
  | coe m =>
    induction a with
    | bot => rw [EReal.bot_sub]; exact ⟨0, le_rfl, by simp⟩
    | top => exact absurd h (by simp)
    | coe a => rw [← EReal.coe_sub, exp_real]; exact ⟨_, (Real.exp_pos _).le, rfl⟩
/-- Rescaling a weight to a greater maximum. -/
theorem weight_mul {a m m' : EReal} (h : a ≤ m) (h' : m ≤ m') :
    Ideal.exp (a - m) * Ideal.exp (m - m') = Ideal.exp (a - m') := by
  induction a with
  | bot => simp
  | top =>
    rw [top_le_iff.mp h] at h' ⊢
    rw [top_le_iff.mp h']; simp
  | coe a =>
    induction m with
    | bot => exact absurd h (by simp)
    | top => rw [top_le_iff.mp h']; simp
    | coe m =>
      induction m' with
      | bot => exact absurd h' (by simp)
      | top => simp
      | coe m' =>
        rw [← EReal.coe_sub, ← EReal.coe_sub, ← EReal.coe_sub, exp_real, exp_real, exp_real, ← EReal.coe_mul, ← Real.exp_add]
        congr 2; ring

/-! ## Attention scores -/

/-- The attention of a row to one group of descriptions, from its similarities. -/
def attn (σ : EReal) (s : Fin n → EReal) : EReal :=
  Ideal.div (∑ k, Ideal.exp (s k * σ) * s k) (∑ k, Ideal.exp (s k * σ))

/-- The reference's softmax over a group, weighing the similarities, is that attention. -/
theorem softmax_attn [NeZero n] (σ : ℝ) (s : Fin n → ℝ) (t : Fin n → EReal) (ht : ∀ k, t k = (s k : EReal) * σ) :
    ∑ k, Ideal.div (Ideal.exp (t k - top t)) (0 + ∑ j, Ideal.exp (t j - top t)) * (s k : EReal)
      = attn σ (fun k => (s k : EReal)) := by
  have ht' : t = fun k => ((s k * σ : ℝ) : EReal) := funext fun k => (ht k).trans (EReal.coe_mul _ _).symm
  subst ht'
  obtain ⟨M, hM⟩ := top_real (fun k : Fin n => s k * σ)
  unfold attn
  simp only [hM, ← EReal.coe_sub, ← EReal.coe_mul, exp_real, sum_coe, zero_add]
  have hpos : ∀ g : Fin n → ℝ, 0 < ∑ j, Real.exp (g j) := fun g =>
    Finset.sum_pos (fun i _ => Real.exp_pos _) Finset.univ_nonempty
  simp only [div_real _ _ (hpos _).ne', ← EReal.coe_mul, sum_coe]
  congr 1
  simp only [Real.exp_sub, ← Finset.sum_div, div_div_div_cancel_right₀ (Real.exp_pos M).ne']
  rw [Finset.sum_div]
  exact Finset.sum_congr rfl fun k _ => by rw [div_mul_eq_mul_div]
theorem attn_real [NeZero n] {σ : EReal} (hσ : ∃ r : ℝ, σ = r) (s : Fin n → ℝ) :
    ∃ r : ℝ, attn σ (fun k => (s k : EReal)) = r := by
  obtain ⟨r, rfl⟩ := hσ
  unfold attn
  simp only [← EReal.coe_mul, exp_real, sum_coe]
  rw [div_real _ _ (Finset.sum_pos (fun i _ => Real.exp_pos _) Finset.univ_nonempty).ne']
  exact ⟨_, rfl⟩

/-! ## The pooled slide -/

/-- The rows' weighted sum under the greatest gate. -/
def gathered (a : Fin n → EReal) (f : Fin n → Fin p → EReal) (d : Fin p) : EReal :=
  ∑ k, f k d * Ideal.exp (a k - top a)
/-- The rows' mean under the softmax of the gates. -/
def pooled (a : Fin n → EReal) (f : Fin n → Fin p → EReal) (d : Fin p) : EReal :=
  ∑ k, Ideal.div (Ideal.exp (a k - top a)) (0 + ∑ j, Ideal.exp (a j - top a)) * f k d
/-- A sum of zeros and infinities is one of them. -/
theorem sum_extreme {ι : Type*} (s : Finset ι) (g : ι → EReal) (h : ∀ k ∈ s, g k = 0 ∨ g k = ⊥ ∨ g k = ⊤) :
    (∑ k ∈ s, g k) = 0 ∨ (∑ k ∈ s, g k) = ⊥ ∨ (∑ k ∈ s, g k) = ⊤ := by
  classical
  induction s using Finset.induction_on with
  | empty => simp
  | insert a s ha ih =>
    rw [Finset.sum_insert ha]
    rcases h a (Finset.mem_insert_self a s) with e | e | e <;>
      rcases ih (fun k hk => h k (Finset.mem_insert_of_mem hk)) with e' | e' | e' <;> rw [e, e'] <;> simp
/-- Normalised, the mean and the weighted sum agree where the mean's norm is not clipped. -/
theorem unit_pooled [NeZero n] (a : Fin n → EReal) (f : Fin n → Fin p → EReal) (hf : ∀ k d, ∃ r : ℝ, f k d = r)
    (h : eps ≤ len (pooled a f) ∨ len (pooled a f) = 0) : unit (pooled a f) = unit (gathered a f) := by
  choose w hw0 hw using fun k => weight_real (le_top' a k)
  choose r hr using hf
  have hg : gathered a f = fun d => ((∑ k, r k d * w k : ℝ) : EReal) := by
    funext d; unfold gathered; simp only [hr, hw, ← EReal.coe_mul, sum_coe]
  have hp : pooled a f = fun d => ∑ k, Ideal.div (w k : EReal) ((∑ j, w j : ℝ) : EReal) * (r k d : EReal) := by
    funext d; unfold pooled; simp only [hr, hw, sum_coe, zero_add]
  have hZ0 : 0 ≤ ∑ j, w j := Finset.sum_nonneg fun i _ => hw0 i
  rcases hZ0.eq_or_lt with hZ | hZ
  · have hz : ∀ k, w k = 0 := fun k => (Finset.sum_eq_zero_iff_of_nonneg (fun i _ => hw0 i)).mp hZ.symm k (Finset.mem_univ k)
    have hg0 : gathered a f = fun _ => 0 := by rw [hg]; funext d; simp [hz]
    have hx : ∀ d, pooled a f d = 0 ∨ pooled a f d = ⊥ ∨ pooled a f d = ⊤ := by
      intro d
      rw [hp]
      refine sum_extreme _ _ fun k _ => ?_
      rw [← hZ, hz k]
      have : Ideal.div ((0:ℝ) : EReal) ((0:ℝ) : EReal) = ⊥ := by simp [Ideal.div]
      rw [this]
      rcases lt_trichotomy (r k d) 0 with hlt | heq | hgt
      · exact .inr (.inr (EReal.bot_mul_coe_of_neg hlt))
      · left; rw [heq]; simp
      · exact .inr (.inl (EReal.bot_mul_coe_of_pos hgt))
    rw [hg0]
    funext d
    rw [unit_zero]
    rcases vec_cases (pooled a f) with ⟨q, hq⟩ | ht
    · have : pooled a f = fun _ => 0 := by
        funext d
        rcases hx d with e | e | e
        · exact e
        · rw [hq] at e; exact absurd e (EReal.coe_ne_bot _)
        · rw [hq] at e; exact absurd e (EReal.coe_ne_top _)
      rw [this, unit_zero]
    · exact unit_top ht d
  · have hZ1 : 1 ≤ ∑ j, w j := by
      obtain ⟨k, hk⟩ := top_mem a
      have hk1 : w k = 1 := by
        have hwk := hw k
        rw [hk] at hwk
        generalize htop : top a = M at *
        induction M with
        | bot =>
          exfalso
          refine hZ.ne' (Finset.sum_eq_zero fun j _ => ?_)
          have := hw j
          have e : a j = ⊥ := le_bot_iff.mp (htop ▸ le_top' a j)
          rw [e] at this
          simpa using this.symm
        | top =>
          exfalso
          refine hZ.ne' (Finset.sum_eq_zero fun j _ => ?_)
          have := hw j
          rw [EReal.sub_top] at this
          simpa using this.symm
        | coe M =>
          rw [← EReal.coe_sub, sub_self, exp_real, Real.exp_zero] at hwk
          exact (EReal.coe_eq_coe_iff.mp hwk).symm
      rw [← hk1]
      exact Finset.single_le_sum (fun i _ => hw0 i) (Finset.mem_univ k)
    have hpz : gathered a f = fun d => pooled a f d * ((∑ j, w j : ℝ) : EReal) := by
      rw [hg, hp]; funext d
      simp only [div_real _ _ hZ.ne', ← EReal.coe_mul, sum_coe]
      congr 1
      rw [Finset.sum_mul]
      refine Finset.sum_congr rfl fun k _ => ?_
      field_simp
    rcases h with h | h
    · have h2 : eps ≤ len (gathered a f) := by
        rw [hpz, len_scaled _ _ hZ]
        refine le_trans h ?_
        have h0 : (0 : EReal) ≤ len (pooled a f) := le_trans (by rw [eps_eq]; exact EReal.coe_nonneg.mpr epsR_pos.le) h
        calc len (pooled a f) = len (pooled a f) * ((1:ℝ) : EReal) := by rw [EReal.coe_one, mul_one]
          _ ≤ _ := mul_le_mul_of_nonneg_left (EReal.coe_le_coe_iff.mpr hZ1) h0
      rw [hpz] at h2 ⊢
      exact (unit_scaled _ _ hZ h h2).symm
    · rw [hpz, len_zero h]; simp

/-! ## Running sums over blocks of rows -/

variable {m : ℕ}

/-- The greatest gate of the first blocks. -/
def runTop (a : ℕ → Fin m → EReal) : ℕ → EReal
  | 0 => top (a 0)
  | t + 1 => max (runTop a t) (top (a (t + 1)))
/-- The weighted sum of some of the rows of the first blocks, under the greatest gate so far. -/
def runSum {ι : Type*} [Fintype ι] (q : ι → Fin m) (a : ℕ → Fin m → EReal) (f : ℕ → Fin m → EReal) : ℕ → EReal
  | 0 => ∑ g, f 0 (q g) * Ideal.exp (a 0 (q g) - runTop a 0)
  | t + 1 => runSum q a f t * Ideal.exp (runTop a t - runTop a (t + 1))
      + ∑ g, f (t + 1) (q g) * Ideal.exp (a (t + 1) (q g) - runTop a (t + 1))

theorem le_runTop (a : ℕ → Fin m → EReal) (t : ℕ) : ∀ t' ≤ t, ∀ i, a t' i ≤ runTop a t := by
  induction t with
  | zero => intro t' h i; obtain rfl := Nat.le_zero.mp h; exact le_top' _ i
  | succ t ih =>
    intro t' h i
    rcases Nat.lt_or_ge t' (t + 1) with h' | h'
    · exact le_trans (ih t' (Nat.lt_succ_iff.mp h') i) (le_max_left _ _)
    · obtain rfl := le_antisymm h h'; exact le_trans (le_top' _ i) (le_max_right _ _)
theorem runTop_mono (a : ℕ → Fin m → EReal) (t : ℕ) : runTop a t ≤ runTop a (t + 1) := le_max_left _ _
/-- The running sum is the sum under the final maximum. -/
theorem runSum_eq {ι : Type*} [Fintype ι] (q : ι → Fin m) (a f : ℕ → Fin m → EReal)
    (hf : ∀ t i, ∃ r : ℝ, f t i = r) (t : ℕ) :
    runSum q a f t = ∑ t' ∈ Finset.range (t + 1), ∑ g, f t' (q g) * Ideal.exp (a t' (q g) - runTop a t) := by
  induction t with
  | zero => simp [runSum]
  | succ t ih =>
    rw [runSum, Finset.sum_range_succ, ih]
    congr 1
    obtain ⟨w, hw0, hw⟩ := weight_real (runTop_mono a t)
    choose r hr using hf
    have hwt : ∀ t' ∈ Finset.range (t + 1), ∀ g, ∃ u : ℝ, Ideal.exp (a t' (q g) - runTop a t) = u := by
      intro t' h g
      obtain ⟨u, _, hu⟩ := weight_real (le_runTop a t t' (Nat.lt_succ_iff.mp (Finset.mem_range.mp h)) (q g))
      exact ⟨u, hu⟩
    have key : ∀ t' ∈ Finset.range (t + 1), ∃ u : ι → ℝ, ∀ g, Ideal.exp (a t' (q g) - runTop a t) = u g := by
      intro t' h
      choose u hu using hwt t' h
      exact ⟨u, hu⟩
    choose! u hu using key
    have e1 : ∀ t' ∈ Finset.range (t + 1), ∑ g, f t' (q g) * Ideal.exp (a t' (q g) - runTop a t)
        = ((∑ g, r t' (q g) * u t' g : ℝ) : EReal) := by
      intro t' h
      rw [← sum_coe]
      exact Finset.sum_congr rfl fun g _ => by rw [hr, hu t' h g, EReal.coe_mul]
    have e2 : ∀ t' ∈ Finset.range (t + 1), ∑ g, f t' (q g) * Ideal.exp (a t' (q g) - runTop a (t + 1))
        = ((∑ g, r t' (q g) * u t' g * w : ℝ) : EReal) := by
      intro t' h
      rw [← sum_coe]
      refine Finset.sum_congr rfl fun g _ => ?_
      rw [← weight_mul (le_runTop a t t' (Nat.lt_succ_iff.mp (Finset.mem_range.mp h)) (q g)) (runTop_mono a t), hr, hu t' h g, hw,
        ← EReal.coe_mul, ← EReal.coe_mul, mul_assoc]
    rw [Finset.sum_congr rfl e1, Finset.sum_congr rfl e2, sum_coe, sum_coe, hw, ← EReal.coe_mul, Finset.sum_mul]
    congr 1
    exact Finset.sum_congr rfl fun t' _ => by rw [Finset.sum_mul]

end Cert.Value

end
-- ==== Proof.Value.Payload.lean ====
/- What the kernel body's payloads compute, entry by entry. -/
module

public import proofs.«01_k».proof.Proof.Value.Pool
public import proofs.«01_k».proof.Proof.KernelIdeal.Runs
public import Idealize.ShloMosaic.Lib.Pipeline.ValueKit

@[expose] public section

set_option maxRecDepth 16384

noncomputable section

namespace Cert.Value

open Idealize.ShloMosaic Cert.KernelIdeal Cert.KernelIdeal.Gen

/-- The gated attention of a feature row. -/
def gate {n h : ℕ} (Wv Wu : Fin n → Fin h → EReal) (w : Fin h → EReal) (f : Fin n → EReal) : EReal :=
  ∑ j, Ideal.tanh (∑ k, f k * Wv k j) * Ideal.logistic (∑ k, f k * Wu k j) * w j

variable (W : Vec Ideal S512x512 .f32) (T : Vec Ideal S512x544 .f32) (w : Vec Ideal S1x256 .f32) (x : Vec Ideal S1x2048x512 .f32)

theorem named_eq : (Named.named (F := Ideal) κ "eps_sq" 0x179ABE15#32 : Ideal .f32) = epsSq := rfl

/-- The projected, normalised rows. -/
theorem pay10_at (i : Fin 2048) (d : Fin 512) : k0_pay10 (F := Ideal) W x (ix2 i d)
    = unit (proj (fun k d => W (ix2 k d)) fun k => x (ix3 0 i k)) d := by
  rw [← unitK_eq]
  unfold unitK sumSq proj
  pointwise [k0_pay10, named_eq]
/-- The gates. -/
theorem pay12_at (i : Fin 2048) : k0_pay12 (F := Ideal) W T w x (ix2 i 0)
    = gate (fun k (h : Fin 256) => T (ix2 k ⟨h.1, by omega⟩)) (fun k (h : Fin 256) => T (ix2 k ⟨256 + h.1, by omega⟩)) (fun h => w (ix2 0 h))
        (fun d => k0_pay10 (F := Ideal) W x (ix2 i d)) := by
  unfold gate
  pointwise [k0_pay12, k0_pay11, k0_pay9]
/-- The similarities. -/
theorem pay13_at (i : Fin 2048) (j : Fin 32) : k0_pay13 (F := Ideal) W T x (ix2 i j)
    = ∑ k, k0_pay10 (F := Ideal) W x (ix2 i k) * T (ix2 k ⟨512 + j.1, by omega⟩) := by
  pointwise [k0_pay13, k0_pay11]
/-- Their exponentials. -/
theorem pay14_at (i : Fin 2048) (j : Fin 32) : k0_pay14 (F := Ideal) W T x (ix2 i j)
    = Ideal.exp (k0_pay13 (F := Ideal) W T x (ix2 i j) * scale) := by
  unfold scale
  pointwise [k0_pay14]

/-- Whether a description is of a class, as the kernel computes it. -/
def inClass : Vec Ideal S32x4 .f32 :=
  let v32 : IVec S32x4 32 := iota .tc S32x4 32 [0] iota_S32x4_d0_w32
  let v33 : IVec S32x4 32 := iota .tc S32x4 32 [1] iota_S32x4_d1_w32
  let v42 : IVec S32x4 32 := subi k0_pay16 (extui 32 (cmpi .slt v32 (broadcast S32x4 0#32)) natLt_1_32)
  let v47 : BitVec 32 := Scalar.subi (Scalar.extui (Scalar.cmpi .sgt 8#32 0#32)) (Scalar.extui (Scalar.cmpi .slt 8#32 0#32))
  let v54 : IVec S32x4 1 := andi (cmpi .ne v42 (broadcast S32x4 v47)) (cmpi .ne (remsi v32 (broadcast S32x4 8#32)) (broadcast S32x4 0#32))
  sitofp (F := Ideal) .f32 (extui 32 (cmpi .eq (select v54 (subi k0_pay15 (broadcast S32x4 1#32)) k0_pay15) v33) natLt_1_32)

/-- One row's place among the rows cut into groups of eight. -/
def rowOf (r : Fin 8) (g : Fin 256) : Fin 2048 := ⟨g.1 * 8 + r.1, by omega⟩
/-- One description's place among all of them. -/
def descOf (c : Fin 4) (k : Fin 8) : Fin 32 := ⟨c.1 * 8 + k.1, by omega⟩

theorem inClass_at (j : Fin 32) (c : Fin 4) : inClass (ix2 j c) = if j.1 / 8 = c.1 then 1 else 0 := by
  have key : ∀ (j : Fin 32) (c : Fin 4), (BitVec.setWidth 32 (IntOp.cmpi CmpIPredicate.eq (Scalar.select
      (IntOp.andi (IntOp.cmpi CmpIPredicate.ne (IntOp.subi (BitVec.setWidth 32 (IntOp.cmpi CmpIPredicate.sgt (BitVec.ofNat 32 j.1) 0#32))
            (BitVec.setWidth 32 (IntOp.cmpi CmpIPredicate.slt (BitVec.ofNat 32 j.1) 0#32)))
          (Scalar.subi (Scalar.extui (Scalar.cmpi CmpIPredicate.sgt 8#32 0#32)) (Scalar.extui (Scalar.cmpi CmpIPredicate.slt 8#32 0#32))))
        (IntOp.cmpi CmpIPredicate.ne (IntOp.remsi ArithUnit.vector (BitVec.ofNat 32 j.1) 8#32) 0#32))
      (IntOp.subi (IntOp.divsi ArithUnit.vector (BitVec.ofNat 32 j.1) 8#32) 1#32)
      (IntOp.divsi ArithUnit.vector (BitVec.ofNat 32 j.1) 8#32)) (BitVec.ofNat 32 c.1))) = if j.1 / 8 = c.1 then 1#32 else 0#32 := by
    decide +kernel
  pointwise [inClass, k0_pay15, k0_pay16]
  rw [key]
  split
  · show (((1#32 : BitVec 32).toInt : ℝ) : EReal) = 1
    rw [show (1#32 : BitVec 32).toInt = 1 by decide]; simp
  · show (((0#32 : BitVec 32).toInt : ℝ) : EReal) = 0
    rw [show (0#32 : BitVec 32).toInt = 0 by decide]; simp
/-- Summing under the class is summing the class's descriptions. -/
theorem class_sum (g : Fin 32 → EReal) (c : Fin 4) : ∑ j, g j * inClass (ix2 j c) = ∑ k, g (descOf c k) := by
  have e : ∀ j, g j * inClass (ix2 j c) = if j.1 / 8 = c.1 then g j else 0 := fun j => by
    rw [inClass_at]; split
    · exact mul_one _
    · exact mul_zero _
  rw [Finset.sum_congr rfl fun j _ => e j, ← Finset.sum_filter]
  refine (Finset.sum_bij (fun k _ => descOf c k) (fun k _ => ?_) (fun a _ b _ h => ?_) (fun j hj => ?_) fun k _ => rfl).symm
  · simp only [Finset.mem_filter, Finset.mem_univ, true_and, descOf]; omega
  · have := congrArg Fin.val h
    simp only [descOf] at this
    exact Fin.ext (by omega)
  · simp only [Finset.mem_filter, Finset.mem_univ, true_and] at hj
    exact ⟨⟨j.1 % 8, by omega⟩, Finset.mem_univ _, Fin.ext (by simp only [descOf]; omega)⟩

/-- The attention scores of a block. -/
theorem pay17_at (z e : Vec Ideal S2048x32 .f32) (i : Fin 2048) (c : Fin 4) :
    k0_pay17 (F := Ideal) z e (iota .tc S32x4 32 [0] iota_S32x4_d0_w32) (iota .tc S32x4 32 [1] iota_S32x4_d1_w32) 8#32 k0_pay15 k0_pay16 (ix3 0 i c)
      = Ideal.div (∑ j, e (ix2 i j) * z (ix2 i j) * inClass (ix2 j c)) (∑ j, e (ix2 i j) * inClass (ix2 j c)) := by
  have h : k0_pay17 (F := Ideal) z e (iota .tc S32x4 32 [0] iota_S32x4_d0_w32) (iota .tc S32x4 32 [1] iota_S32x4_d1_w32) 8#32 k0_pay15 k0_pay16
      = shapeCast S1x2048x4 (divf (matmul (F := Ideal) dot_S2048x32_S32x4_S2048x4_1_0_0_1_n_n none (mulf e z) inClass (constant S2048x4 .f32 0x00000000#32))
          (matmul (F := Ideal) dot_S2048x32_S32x4_S2048x4_1_0_0_1_n_n none e inClass (constant S2048x4 .f32 0x00000000#32))) shapeCasts_S2048x4_S1x2048x4 := rfl
  rw [h]
  pointwise []

theorem colMax_at (a : Vec Ideal S2048x1 .f32) : colMax (F := Ideal) a = top fun i : Fin 2048 => a (ix2 i 0) := by
  pointwise [colMax]
  refine (fold_eq fun x : Fin 2048 × Fin 1 => a (ix2 x.1 0)).trans (le_antisymm ?_ ?_)
  · exact Finset.sup_le fun x _ => le_top' (fun i : Fin 2048 => a (ix2 i 0)) x.1
  · exact Finset.sup_le fun i _ => le_top' (fun x : Fin 2048 × Fin 1 => a (ix2 x.1 0)) (i, 0)
theorem pay18_at (n : BitVec 32) (hn : n ≠ 0#32) (a : Vec Ideal S2048x1 .f32) (m : Ideal .f32) :
    k0_pay18 (F := Ideal) n a m = max m (top fun i : Fin 2048 => a (ix2 i 0)) := by
  rw [← colMax_at]
  have hb : (n == 0#32) = false := by simpa using hn
  show Scalar.select (Scalar.cmpi .eq n 0#32) (colMax (F := Ideal) a) (max m (colMax (F := Ideal) a)) = _
  simp [Scalar.cmpi, IntOp.cmpi, hb, Scalar.select]

theorem pay1_at (f : Vec Ideal S2048x512 .f32) (a : Vec Ideal S2048x1 .f32) (m : Ideal .f32) (r : Fin 8) (d : Fin 512) :
    k0_pay1 (F := Ideal) f a m (ix2 r d) = ∑ g, f (ix2 (rowOf r g) d) * Ideal.exp (a (ix2 (rowOf r g) 0) - m) := by
  unfold rowOf
  pointwise [k0_pay1]
theorem pay2_at (f : Vec Ideal S2048x512 .f32) (a : Vec Ideal S2048x1 .f32) (m : Ideal .f32) (r : Fin 8) (d : Fin 512) :
    k0_pay2 (F := Ideal) f a m (ix3 0 r d) = k0_pay1 (F := Ideal) f a m (ix2 r d) := by
  pointwise [k0_pay2]
theorem pay3_at (f : Vec Ideal S2048x512 .f32) (a : Vec Ideal S2048x1 .f32) (m m' : Ideal .f32) (s : Vec Ideal S1x8x512 .f32) (r : Fin 8) (d : Fin 512) :
    k0_pay3 (F := Ideal) f a m m' s (ix3 0 r d) = s (ix3 0 r d) * Ideal.exp (m - m') + k0_pay1 (F := Ideal) f a m' (ix2 r d) := by
  pointwise [k0_pay3]
  rfl
theorem pay4_at (s : Vec Ideal S1x8x512 .f32) (d : Fin 512) :
    k0_pay4 (F := Ideal) s (ix2 0 d) = unit (fun d => ∑ r, s (ix3 0 r d)) d := by
  rw [← unitK_eq]
  unfold unitK sumSq
  pointwise [k0_pay4, named_eq]
theorem pay6_at (v : Vec Ideal S512x256 .f32) (k : Fin 512) (h : Fin 256) : k0_pay6 (F := Ideal) v (ix2 k h) = v (ix2 k h) := by
  pointwise [k0_pay6]
theorem pay7_at (v : Vec Ideal S512x256 .f32) (k : Fin 512) (h : Fin 256) : k0_pay7 (F := Ideal) v (ix2 k h) = v (ix2 k h) := by
  pointwise [k0_pay7]
theorem pay8_at (v : Vec Ideal S32x512 .f32) (k : Fin 512) (j : Fin 32) : k0_pay8 (F := Ideal) v (ix2 k j) = v (ix2 j k) := by
  pointwise [k0_pay8]

/-- The softmax of a row of logits. -/
def softmax {n : ℕ} (l : Fin n → EReal) (c : Fin n) : EReal :=
  Ideal.div (Ideal.exp (l c - top l)) (∑ k, Ideal.exp (l k - top l))
/-- The probabilities, of the two streams' slides and the descriptions. -/
theorem pay5_at (u v : Vec Ideal S2x512 .f32) (D : Vec Ideal S32x512 .f32) (b : Fin 2) (c : Fin 4) :
    k0_pay5 (F := Ideal) u v D (ix2 b c)
      = softmax (fun c => ∑ d, (u (ix2 b d) + v (ix2 b d)) * unit (fun d => top fun k => D (ix2 (descOf c k) d)) d) c := by
  simp only [softmax, ← unitK_eq, unitK, sumSq, ← fold_eq, low, descOf]
  pointwise [k0_pay5, named_eq]

/-! ## The other streams' payloads are the first's -/

section Streams
variable (v : Vec Ideal S1x256 .f32) (n : BitVec 32) (f : FVec Ideal S2048x512 .f32) (a : FVec Ideal S2048x1 .f32) (m m' : Ideal .f32)
  (s : Vec Ideal S1x8x512 .f32) (z e : FVec Ideal S2048x32 .f32)
theorem pay24_eq : k0_pay24 (F := Ideal) W x = k0_pay10 (F := Ideal) W x := rfl
theorem pay37_eq : k0_pay37 (F := Ideal) W x = k0_pay10 (F := Ideal) W x := rfl
theorem pay48_eq : k0_pay48 (F := Ideal) W x = k0_pay10 (F := Ideal) W x := rfl
theorem pay26_eq : k0_pay26 (F := Ideal) W T (k0_pay9 w) x = k0_pay12 (F := Ideal) W T w x := rfl
theorem pay39_eq : k0_pay39 (F := Ideal) W T (k0_pay9 w) x = k0_pay12 (F := Ideal) W T w x := rfl
theorem pay50_eq : k0_pay50 (F := Ideal) W T (k0_pay9 w) x = k0_pay12 (F := Ideal) W T w x := rfl
theorem pay27_eq : k0_pay27 (F := Ideal) W T x = k0_pay13 (F := Ideal) W T x := rfl
theorem pay40_eq : k0_pay40 (F := Ideal) W T x = k0_pay13 (F := Ideal) W T x := rfl
theorem pay51_eq : k0_pay51 (F := Ideal) W T x = k0_pay13 (F := Ideal) W T x := rfl
theorem pay28_eq : k0_pay28 (F := Ideal) W T x = k0_pay14 (F := Ideal) W T x := rfl
theorem pay41_eq : k0_pay41 (F := Ideal) W T x = k0_pay14 (F := Ideal) W T x := rfl
theorem pay52_eq : k0_pay52 (F := Ideal) W T x = k0_pay14 (F := Ideal) W T x := rfl
theorem pay30_eq : k0_pay30 (F := Ideal) z e (iota .tc S32x4 32 [0] iota_S32x4_d0_w32) (iota .tc S32x4 32 [1] iota_S32x4_d1_w32) 8#32 k0_pay29 0#32
    = k0_pay17 (F := Ideal) z e (iota .tc S32x4 32 [0] iota_S32x4_d0_w32) (iota .tc S32x4 32 [1] iota_S32x4_d1_w32) 8#32 k0_pay15 k0_pay16 := rfl
theorem pay42_eq : k0_pay42 (F := Ideal) z e (iota .tc S32x4 32 [0] iota_S32x4_d0_w32) (iota .tc S32x4 32 [1] iota_S32x4_d1_w32) 8#32
    = k0_pay17 (F := Ideal) z e (iota .tc S32x4 32 [0] iota_S32x4_d0_w32) (iota .tc S32x4 32 [1] iota_S32x4_d1_w32) 8#32 k0_pay15 k0_pay16 := rfl
theorem pay53_eq : k0_pay53 (F := Ideal) z e
    = k0_pay17 (F := Ideal) z e (iota .tc S32x4 32 [0] iota_S32x4_d0_w32) (iota .tc S32x4 32 [1] iota_S32x4_d1_w32) 8#32 k0_pay15 k0_pay16 := rfl
theorem pay31_eq : k0_pay31 (F := Ideal) n a m = k0_pay18 (F := Ideal) n a m := rfl
theorem pay43_eq : k0_pay43 (F := Ideal) n a m = k0_pay18 (F := Ideal) n a m := rfl
theorem pay54_eq : k0_pay54 (F := Ideal) n a m = k0_pay18 (F := Ideal) n a m := rfl
theorem pay22_eq : k0_pay22 (F := Ideal) m (k0_pay18 n a m) (k0_pay19 n f a m) s = k0_pay3 (F := Ideal) f a m (k0_pay18 n a m) s := rfl
theorem pay35_eq : k0_pay35 (F := Ideal) f m (k0_pay18 n a m) (k0_pay32 n a m) s = k0_pay3 (F := Ideal) f a m (k0_pay18 n a m) s := rfl
theorem pay46_eq : k0_pay46 (F := Ideal) f a m m' s = k0_pay3 (F := Ideal) f a m m' s := rfl
theorem pay21_eq : k0_pay21 (F := Ideal) (weighted f a m) = k0_pay2 (F := Ideal) f a m := rfl
theorem pay34_eq : k0_pay34 (F := Ideal) f (colExp a m) = k0_pay2 (F := Ideal) f a m := rfl
theorem pay45_eq : k0_pay45 (F := Ideal) f a m = k0_pay2 (F := Ideal) f a m := rfl
theorem pay23_eq : k0_pay23 (F := Ideal) s = k0_pay4 (F := Ideal) s := rfl
theorem pay36_eq : k0_pay36 (F := Ideal) s = k0_pay4 (F := Ideal) s := rfl
theorem pay47_eq : k0_pay47 (F := Ideal) s = k0_pay4 (F := Ideal) s := rfl
end Streams

end Cert.Value
end
-- ==== Proof.Value.Model.lean ====
/- The two programs' results as functions of the arguments, and the kernel's blocks in their terms. -/
module

public import proofs.«01_k».proof.Proof.Value.Payload

@[expose] public section

set_option maxRecDepth 16384

noncomputable section

namespace Cert.Value

open Idealize.ShloMosaic Cert.KernelIdeal Cert.KernelIdeal.Gen

/-- The weights: projection, descriptions, the gate's two matrices and its vector. -/
structure Weights where
  W : Fin 512 → Fin 512 → EReal
  D : Fin 4 → Fin 8 → Fin 512 → EReal
  Wv : Fin 512 → Fin 256 → EReal
  Wu : Fin 512 → Fin 256 → EReal
  w : Fin 256 → EReal

variable (P : Weights) (X : Fin 16384 → Fin 512 → EReal)

/-- A row's feature. -/
def feat (x : Fin 512 → EReal) : Fin 512 → EReal := unit (proj P.W x)
/-- The gates of one slide's rows. -/
def gates (n : Fin 16384) : EReal := gate P.Wv P.Wu P.w (feat P (X n))
/-- A row's scores. -/
def score (x : Fin 512 → EReal) (c : Fin 4) : EReal := attn scale fun k => ∑ d, feat P x d * P.D c k d
/-- One slide's feature. -/
def slide : Fin 512 → EReal := unit (gathered (gates P X) fun n => feat P (X n))
/-- A class's feature. -/
def text (c : Fin 4) : Fin 512 → EReal := unit fun d => top fun k => P.D c k d
/-- The class probabilities of two slides. -/
def prob (Y : Fin 16384 → Fin 512 → EReal) : Fin 4 → EReal :=
  softmax fun c => ∑ d, (slide P X d + slide P Y d) * text P c d

/-- A row's number among all rows, from its number in a block. -/
def rowAt (t : ℕ) (i : Fin 2048) : Fin 16384 := ⟨(t * 2048 + i.1) % 16384, by omega⟩
/-- The gates of a block. -/
def gateBlk (t : ℕ) (i : Fin 2048) : EReal := gates P X (rowAt t i)
/-- One feature of a block's rows. -/
def featBlk (d : Fin 512) (t : ℕ) (i : Fin 2048) : EReal := feat P (X (rowAt t i)) d

theorem featBlk_real (d : Fin 512) (t : ℕ) (i : Fin 2048) : ∃ r : ℝ, featBlk P X d t i = r := by
  obtain ⟨r, hr⟩ := unit_real (proj P.W (X (rowAt t i)))
  exact ⟨r d, congrFun hr d⟩

/-- The rows in order are the blocks in order. -/
theorem sum_rows (g : Fin 16384 → EReal) :
    ∑ n, g n = ∑ r : Fin 8, ∑ t ∈ Finset.range 8, ∑ q : Fin 256, g (rowAt t (rowOf r q)) := by
  rw [Fin.sum_univ_tiles 8 2048 (by norm_num) g, Finset.sum_comm' (t' := Finset.range 8) (s' := fun _ => Finset.univ) (by simp),
    Finset.sum_range]
  refine Finset.sum_congr rfl fun t _ => ?_
  rw [Fin.sum_univ_tiles 256 8 (by norm_num), Finset.sum_comm]
  refine Finset.sum_congr rfl fun r _ => Finset.sum_congr rfl fun q _ => ?_
  congr 1
  apply Fin.ext
  simp only [rowAt, rowOf]
  omega
/-- The last running maximum is the greatest of all. -/
theorem runTop_rows (a : Fin 16384 → EReal) : runTop (fun t i => a (rowAt t i)) 7 = top a := by
  refine le_antisymm ?_ (Finset.sup_le fun n _ => ?_)
  · have h : ∀ t, runTop (fun t i => a (rowAt t i)) t ≤ top a := by
      intro t
      induction t with
      | zero => rw [runTop]; exact Finset.sup_le (f := fun i => a (rowAt 0 i)) fun i _ => le_top' a _
      | succ t ih => rw [runTop]; exact max_le ih (Finset.sup_le fun i _ => le_top' a _)
    exact h 7
  · have h := le_runTop (fun t i => a (rowAt t i)) 7 (n.1 / 2048) (by omega) ⟨n.1 % 2048, by omega⟩
    have e : rowAt (n.1 / 2048) ⟨n.1 % 2048, by omega⟩ = n := Fin.ext (by simp only [rowAt]; omega)
    rwa [e] at h
/-- The slide from the last running sums. -/
theorem slide_eq : unit (fun d => ∑ r : Fin 8, runSum (rowOf r) (gateBlk P X) (featBlk P X d) 7) = slide P X := by
  unfold slide
  refine congrArg unit (funext fun d => ?_)
  unfold gathered
  rw [sum_rows, ← runTop_rows]
  refine Finset.sum_congr rfl fun r _ => ?_
  exact runSum_eq (rowOf r) _ _ (featBlk_real P X d) 7

/-! ## One block -/

variable (WB : Vec Ideal S512x512 .f32) (TB : Vec Ideal S512x544 .f32) (wB : Vec Ideal S1x256 .f32) (x : Vec Ideal S1x2048x512 .f32)

/-- What the kernel's weight table holds. -/
structure IsTable : Prop where
  v : ∀ k (h : Fin 256), TB (ix2 k ⟨h.1, by omega⟩) = P.Wv k h
  u : ∀ k (h : Fin 256), TB (ix2 k ⟨256 + h.1, by omega⟩) = P.Wu k h
  d : ∀ k (c : Fin 4) (j : Fin 8), TB (ix2 k ⟨512 + (descOf c j).1, by omega⟩) = P.D c j k

section Block
variable {P} {X} {WB} {TB} {wB} {x} (t : ℕ) (hW : ∀ k d, WB (ix2 k d) = P.W k d) (hT : IsTable P TB) (hw : ∀ h, wB (ix2 0 h) = P.w h)
  (hx : ∀ i k, x (ix3 0 i k) = X (rowAt t i) k)
include hW hx
theorem feat_block (i : Fin 2048) (d : Fin 512) : k0_pay10 (F := Ideal) WB x (ix2 i d) = feat P (X (rowAt t i)) d := by
  rw [pay10_at]
  simp only [hW, hx]
  rfl
include hT
theorem gate_block (i : Fin 2048) : k0_pay12 (F := Ideal) WB TB wB x (ix2 i 0) = gate P.Wv P.Wu (fun h => wB (ix2 0 h)) (feat P (X (rowAt t i))) := by
  rw [pay12_at]
  simp only [feat_block t hW hx, hT.v, hT.u]
theorem score_block (i : Fin 2048) (c : Fin 4) :
    k0_pay17 (F := Ideal) (k0_pay13 (F := Ideal) WB TB x) (k0_pay14 (F := Ideal) WB TB x) (iota .tc S32x4 32 [0] iota_S32x4_d0_w32) (iota .tc S32x4 32 [1] iota_S32x4_d1_w32) 8#32 k0_pay15 k0_pay16 (ix3 0 i c)
      = score P (X (rowAt t i)) c := by
  rw [pay17_at, class_sum (fun j => k0_pay14 (F := Ideal) WB TB x (ix2 i j) * k0_pay13 (F := Ideal) WB TB x (ix2 i j)),
    class_sum (fun j => k0_pay14 (F := Ideal) WB TB x (ix2 i j))]
  simp only [pay14_at, pay13_at, feat_block t hW hx, hT.d]
  rfl
include hw
theorem gate_block' (i : Fin 2048) : k0_pay12 (F := Ideal) WB TB wB x (ix2 i 0) = gateBlk P X t i := by
  rw [gate_block t hW hT hx]
  simp only [hw]
  rfl
/-- A block's greatest gate. -/
theorem top_block : colMax (F := Ideal) (k0_pay12 (F := Ideal) WB TB wB x) = top (gateBlk P X t) := by
  rw [colMax_at]
  exact congrArg top (funext fun i => gate_block' t hW hT hw hx i)
theorem top_next (n : BitVec 32) (hn : n ≠ 0#32) (s : Ideal .f32) :
    k0_pay18 (F := Ideal) n (k0_pay12 (F := Ideal) WB TB wB x) s = max s (top (gateBlk P X t)) := by
  rw [pay18_at n hn]
  exact congrArg (max s) (congrArg top (funext fun i => gate_block' t hW hT hw hx i))
/-- A block's weighted rows. -/
theorem sum_block (s : Ideal .f32) (r : Fin 8) (d : Fin 512) :
    k0_pay1 (F := Ideal) (k0_pay10 (F := Ideal) WB x) (k0_pay12 (F := Ideal) WB TB wB x) s (ix2 r d)
      = ∑ q, featBlk P X d t (rowOf r q) * Ideal.exp (gateBlk P X t (rowOf r q) - s) := by
  rw [pay1_at]
  refine Finset.sum_congr rfl fun q _ => ?_
  rw [feat_block t hW hx, gate_block' t hW hT hw hx]
  rfl
end Block

end Cert.Value
end
-- ==== Proof.Value.Points.lean ====
/- What the kernel's buffers hold after each grid point, in terms of the arguments. -/
module

public import proofs.«01_k».proof.Proof.Value.Model
public import proofs.«01_k».proof.Proof.KernelIdeal.Launch

@[expose] public section

set_option maxRecDepth 16384

noncomputable section

namespace Cert.Value

open Idealize.ShloMosaic Idealize.ShloMosaic.TcCoe Cert.KernelIdeal Cert.KernelIdeal.Gen

variable (m : (ℓ : Loc nD τ sig) → Buf (Elt Ideal) ℓ) (c : Dev nD)

/-- The first slide's rows. -/
def xsOf (b : Fin 2) (n : Fin 16384) (k : Fin 512) : EReal := (m ((c : Thread nD τ).loc main_arg0) : Vec Ideal S2x16384x512 .f32) (ix3 b n k)
/-- The second slide's rows. -/
def xlOf (b : Fin 2) (n : Fin 16384) (k : Fin 512) : EReal := (m ((c : Thread nD τ).loc main_arg2) : Vec Ideal S2x16384x512 .f32) (ix3 b n k)
/-- The weights the kernel is given. -/
def weightsOf : Weights where
  W k d := (m ((c : Thread nD τ).loc main_arg4) : Vec Ideal S512x512 .f32) (ix2 k d)
  D i j k := (m ((c : Thread nD τ).loc main_arg6) : Vec Ideal S4x8x512 .f32) (ix3 i j k)
  Wv k h := (m ((c : Thread nD τ).loc main_arg7) : Vec Ideal S512x256 .f32) (ix2 k h)
  Wu k h := (m ((c : Thread nD τ).loc main_arg9) : Vec Ideal S512x256 .f32) (ix2 k h)
  w h := (m ((c : Thread nD τ).loc main_arg11) : Vec Ideal S256 .f32) (ix1 h)

/-! ## The blocks -/

theorem idx : ∀ t : Fin cfg0.N, win0_0.index t = ![0, t.val, 0] ∧ win0_1.index t = ![0, t.val, 0] ∧ win0_2.index t = ![0, 0]
    ∧ win0_3.index t = ![0, 0] ∧ win0_4.index t = ![0, 0] ∧ win0_5.index t = ![0, 0] ∧ win0_6.index t = ![0, 0]
    ∧ win0_7.index t = ![0, t.val, 0] ∧ win0_8.index t = ![0, t.val, 0] ∧ win0_9.index t = ![0, 0] ∧ t.val < 8 :=
  (by decide +kernel : ∀ t : Fin grid0.N, _)

theorem blk2 (t : Fin cfg0.N) (k d : Fin 512) : (iblk m c 2 t : Vec Ideal S512x512 .f32) (ix2 k d) = (weightsOf m c).W k d := by
  unfold weightsOf
  blk_ext [iblk, V, idx t]
theorem blk3 (t : Fin cfg0.N) (k : Fin 512) (h : Fin 256) : (iblk m c 3 t : Vec Ideal S512x256 .f32) (ix2 k h) = (weightsOf m c).Wv k h := by
  unfold weightsOf
  blk_ext [iblk, V, idx t]
theorem blk4 (t : Fin cfg0.N) (k : Fin 512) (h : Fin 256) : (iblk m c 4 t : Vec Ideal S512x256 .f32) (ix2 k h) = (weightsOf m c).Wu k h := by
  unfold weightsOf
  blk_ext [iblk, V, idx t]
theorem V_v0 : (V m c main_v0 : Vec Ideal S32x512 .f32) = shapeCast S32x512 (show Vec Ideal S4x8x512 .f32 from m ((c : Thread nD τ).loc main_arg6)) (by decide) := by
  show StableHlo.after hostOps0 (fun b => m (c, b)) (Proc.tc.devRef main_v0) = _
  after_results
  rfl
theorem V_v1 : (V m c main_v1 : Vec Ideal S1x256 .f32) = broadcastInDim S1x256 ![1] bcast_S256_S1x256_1 (show Vec Ideal S256 .f32 from m ((c : Thread nD τ).loc main_arg11)) := by
  show StableHlo.after hostOps0 (fun b => m (c, b)) (Proc.tc.devRef main_v1) = _
  after_results
theorem cast_desc (x : Vec Ideal S4x8x512 .f32) (h) (i : Fin 4) (j : Fin 8) (k : Fin 512) : shapeCast S32x512 x h (ix2 (descOf i j) k) = x (ix3 i j k) := by
  unfold descOf
  pointwise []
theorem blk5 (t : Fin cfg0.N) (k : Fin 512) (i : Fin 4) (j : Fin 8) : (iblk m c 5 t : Vec Ideal S32x512 .f32) (ix2 (descOf i j) k) = (weightsOf m c).D i j k := by
  have h : (iblk m c 5 t : Vec Ideal S32x512 .f32) (ix2 (descOf i j) k) = (V m c main_v0 : Vec Ideal S32x512 .f32) (ix2 (descOf i j) k) := by
    blk_ext [iblk, idx t]
  rw [h, V_v0, cast_desc]
  rfl
theorem blk6 (t : Fin cfg0.N) (h : Fin 256) : (iblk m c 6 t : Vec Ideal S1x256 .f32) (ix2 0 h) = (weightsOf m c).w h := by
  have h' : (iblk m c 6 t : Vec Ideal S1x256 .f32) (ix2 0 h) = (V m c main_v1 : Vec Ideal S1x256 .f32) (ix2 0 h) := by
    blk_ext [iblk, idx t]
  rw [h', V_v1]
  pointwise []
  rfl
theorem blk0 (t : Fin cfg0.N) (b : Fin 2) (i : Fin 2048) (k : Fin 512) :
    (iblk m c 0 t : Vec Ideal S2x2048x512 .f32) (ix3 b i k) = xsOf m c b (rowAt t.val i) k := by
  unfold xsOf rowAt
  blk_ext [iblk, V, idx t]
theorem blk1 (t : Fin cfg0.N) (b : Fin 2) (i : Fin 2048) (k : Fin 512) :
    (iblk m c 1 t : Vec Ideal S2x2048x512 .f32) (ix3 b i k) = xlOf m c b (rowAt t.val i) k := by
  unfold xlOf rowAt
  blk_ext [iblk, V, idx t]
theorem ld_0 (x : Vec Ideal S2x2048x512 .f32) (hb) (i : Fin 2048) (k : Fin 512) :
    View.ld x (Rect.unit (s := S2x2048x512) ![0, 0, 0] ![1, 2048, 512] hb) (ix3 (0 : Fin 1) i k) = x (ix3 0 i k) := by
  refine View.ld_unit_apply_of x _ _ hb _ _ fun a => ?_
  fin_cases a <;> simp
theorem ld_1 (x : Vec Ideal S2x2048x512 .f32) (hb) (i : Fin 2048) (k : Fin 512) :
    View.ld x (Rect.unit (s := S2x2048x512) ![1, 0, 0] ![1, 2048, 512] hb) (ix3 (0 : Fin 1) i k) = x (ix3 1 i k) := by
  refine View.ld_unit_apply_of x _ _ hb _ _ fun a => ?_
  fin_cases a <;> simp

/-! ## The table -/

theorem eq_ix2_of {p q : ℕ} (x : Shape.Idx ⟨2, ![p, q]⟩) (a : Fin p) (b : Fin q) (ha : (x 0).val = a.val) (hb : (x 1).val = b.val) : x = ix2 a b := by
  funext e
  apply Fin.ext
  fin_cases e
  exacts [ha, hb]

section Table
variable (t : Fin cfg0.N)

/-- The three parts stored at the first point, read back whole, are the table. -/
theorem table_read (h1 h2 h3 hb) : IsTable (weightsOf m c) ((View.whole cc0_scratch0).readCov
    [⟨Rect.unit (s := S512x544) ![0, 512] ![512, 32] h1, k0_pay8 (F := Ideal) (iblk m c 5 t)⟩,
     ⟨Rect.unit (s := S512x544) ![0, 256] ![512, 256] h2, k0_pay7 (F := Ideal) (iblk m c 4 t)⟩,
     ⟨Rect.unit (s := S512x544) ![0, 0] ![512, 256] h3, k0_pay6 (F := Ideal) (iblk m c 3 t)⟩]
    (Rect.unit (s := S512x544) ![0, 0] ![512, 544] hb).toLoadRect) := by
  rw [View.readCov_eq_canon']
  constructor
  · intro k h
    show View.canon _ _ = _
    canon_tiles x hx using (View.cover_of_tiledBy (s := S512x544) _ ![512, 32] (by sl_kernel_rfl) _)
    all_goals simp at hx0 hx1
    · omega
    · omega
    · rw [show x = ix2 k h from eq_ix2_of x k h (by omega) (by omega), pay6_at, blk3]
  · intro k h
    show View.canon _ _ = _
    canon_tiles x hx using (View.cover_of_tiledBy (s := S512x544) _ ![512, 32] (by sl_kernel_rfl) _)
    all_goals simp at hx0 hx1
    · omega
    · rw [show x = ix2 k h from eq_ix2_of x k h (by omega) (by omega), pay7_at, blk4]
    · omega
  · intro k i j
    show View.canon _ _ = _
    canon_tiles x hx using (View.cover_of_tiledBy (s := S512x544) _ ![512, 32] (by sl_kernel_rfl) _)
    all_goals simp at hx0 hx1
    · rw [show x = ix2 k (descOf i j) from eq_ix2_of x k _ (by omega) (by omega), pay8_at, blk5]
    · omega
    · omega
end Table

end Cert.Value
end
-- ==== Proof.Value.Tiles.lean ====
/- How the kernel's slot-by-slot stores are read back. -/
module

public import proofs.«01_k».proof.Proof.Value.Points

@[expose] public section

set_option maxRecDepth 16384

noncomputable section

namespace Cert.Value

open Idealize.ShloMosaic Idealize.ShloMosaic.TcCoe Cert.KernelIdeal Cert.KernelIdeal.Gen

theorem eq_ix3_of {p q r : ℕ} (x : Shape.Idx ⟨3, ![p, q, r]⟩) (a : Fin p) (b : Fin q) (c : Fin r) (ha : (x 0).val = a.val) (hb : (x 1).val = b.val) (hc : (x 2).val = c.val) : x = ix3 a b c := by
  funext e
  apply Fin.ext
  fin_cases e
  exacts [ha, hb, hc]

theorem scores_tiles (q1 q0 : Vec Ideal S1x2048x4 .f32) (h1 h0) (b : Fin 2) (i : Fin 2048) (k : Fin 4) :
    View.canon (Val := Elt Ideal) (s := S2x2048x4) (e := .f32)
      [⟨Rect.unit (s := S2x2048x4) ![1, 0, 0] ![1, 2048, 4] h1, q1⟩, ⟨Rect.unit (s := S2x2048x4) ![0, 0, 0] ![1, 2048, 4] h0, q0⟩] (ix3 b i k)
      = (![q0, q1] b : Vec Ideal S1x2048x4 .f32) (ix3 0 i k) := by
  canon_tiles x hx using (View.cover_of_tiledL (s := S2x2048x4) _ S1x2048x4.size (by sl_kernel_rfl) _)
  all_goals simp at hx0 hx1 hx2
  · obtain rfl : b = 1 := Fin.ext (show b.val = 1 by omega)
    rw [eq_ix3_of x 0 i k (show _ = 0 by omega) (by omega) (by omega)]
    rfl
  · obtain rfl : b = 0 := Fin.ext (show b.val = 0 by omega)
    rw [eq_ix3_of x 0 i k (show _ = 0 by omega) (by omega) (by omega)]
    rfl
theorem sums_tiles (q3 q2 q1 q0 : Vec Ideal S1x8x512 .f32) (h3 h2 h1 h0) (s : Fin 4) (r : Fin 8) (d : Fin 512) :
    View.canon (Val := Elt Ideal) (s := S4x8x512) (e := .f32)
      [⟨Rect.unit (s := S4x8x512) ![3, 0, 0] ![1, 8, 512] h3, q3⟩, ⟨Rect.unit (s := S4x8x512) ![2, 0, 0] ![1, 8, 512] h2, q2⟩, ⟨Rect.unit (s := S4x8x512) ![1, 0, 0] ![1, 8, 512] h1, q1⟩, ⟨Rect.unit (s := S4x8x512) ![0, 0, 0] ![1, 8, 512] h0, q0⟩] (ix3 s r d)
      = (![q0, q1, q2, q3] s : Vec Ideal S1x8x512 .f32) (ix3 0 r d) := by
  canon_tiles x hx using (View.cover_of_tiledL (s := S4x8x512) _ S1x8x512.size (by sl_kernel_rfl) _)
  all_goals simp at hx0 hx1 hx2
  · obtain rfl : s = 3 := Fin.ext (show s.val = 3 by omega)
    rw [eq_ix3_of x 0 r d (show _ = 0 by omega) (by omega) (by omega)]
    rfl
  · obtain rfl : s = 2 := Fin.ext (show s.val = 2 by omega)
    rw [eq_ix3_of x 0 r d (show _ = 0 by omega) (by omega) (by omega)]
    rfl
  · obtain rfl : s = 1 := Fin.ext (show s.val = 1 by omega)
    rw [eq_ix3_of x 0 r d (show _ = 0 by omega) (by omega) (by omega)]
    rfl
  · obtain rfl : s = 0 := Fin.ext (show s.val = 0 by omega)
    rw [eq_ix3_of x 0 r d (show _ = 0 by omega) (by omega) (by omega)]
    rfl

theorem tops_tiles (q3 q2 q1 q0 : Ideal .f32) (h3 h2 h1 h0) (s : Fin 4) :
    View.canon (Val := Elt Ideal) (s := S4) (e := .f32)
      [⟨Rect.unit (s := S4) ![3] ![1] h3, fun _ => q3⟩, ⟨Rect.unit (s := S4) ![2] ![1] h2, fun _ => q2⟩,
       ⟨Rect.unit (s := S4) ![1] ![1] h1, fun _ => q1⟩, ⟨Rect.unit (s := S4) ![0] ![1] h0, fun _ => q0⟩] (ix1 s)
      = (![q0, q1, q2, q3] s : Ideal .f32) := by
  canon_tiles x hx using (View.cover_of_tiledL (s := S4) _ S1.size (by sl_kernel_rfl) _)
  all_goals simp at hx0
  · obtain rfl : s = 3 := Fin.ext (show s.val = 3 by omega)
    rfl
  · obtain rfl : s = 2 := Fin.ext (show s.val = 2 by omega)
    rfl
  · obtain rfl : s = 1 := Fin.ext (show s.val = 1 by omega)
    rfl
  · obtain rfl : s = 0 := Fin.ext (show s.val = 0 by omega)
    rfl

theorem slides_tiles (q3 q2 q1 q0 : Vec Ideal S1x512 .f32) (h3 h2 h1 h0) (o : ℕ) (ho : o ≤ 2) (hb) (b : Fin 2) (d : Fin 512) :
    (View.whole cc0_scratch2).readCov (Val := Elt Ideal)
      [⟨Rect.unit (s := S8x512) ![3, 0] ![1, 512] h3, q3⟩, ⟨Rect.unit (s := S8x512) ![2, 0] ![1, 512] h2, q2⟩,
       ⟨Rect.unit (s := S8x512) ![1, 0] ![1, 512] h1, q1⟩, ⟨Rect.unit (s := S8x512) ![0, 0] ![1, 512] h0, q0⟩]
      (Rect.unit (s := S8x512) ![o, 0] ![2, 512] hb).toLoadRect (ix2 b d)
      = (![q0, q1, q2, q3] ⟨o + b.val, by omega⟩ : Vec Ideal S1x512 .f32) (ix2 0 d) := by
  rw [View.readCov_eq_canon']
  show View.canon _ _ = _
  have hc : ∃ p ∈ ([⟨Rect.unit (s := S8x512) ![3, 0] ![1, 512] h3, q3⟩, ⟨Rect.unit (s := S8x512) ![2, 0] ![1, 512] h2, q2⟩,
       ⟨Rect.unit (s := S8x512) ![1, 0] ![1, 512] h1, q1⟩, ⟨Rect.unit (s := S8x512) ![0, 0] ![1, 512] h0, q0⟩] : List (View.Piece (Elt Ideal) S8x512 .f32)),
      (Rect.unit (s := S8x512) ![o, 0] ![2, 512] hb).idx (ix2 b d) ∈ p.1.set := by
    have key : ∀ n, o + b.val = n → ∀ hn, (Rect.unit (s := S8x512) ![o, 0] ![2, 512] hb).idx (ix2 b d) ∈ (Rect.unit (s := S8x512) ![n, 0] ![1, 512] hn).set := by
      intro n e hn
      rw [Rect.mem_set_unit]
      intro a
      fin_cases a
      · simp
        omega
      · simp
    have : o + b.val = 0 ∨ o + b.val = 1 ∨ o + b.val = 2 ∨ o + b.val = 3 := by omega
    rcases this with e | e | e | e
    · exact ⟨_, .tail _ (.tail _ (.tail _ (.head _))), key 0 e h0⟩
    · exact ⟨_, .tail _ (.tail _ (.head _)), key 1 e h1⟩
    · exact ⟨_, .tail _ (.head _), key 2 e h2⟩
    · exact ⟨_, .head _, key 3 e h3⟩
  canon_tiles x hx using hc
  all_goals simp at hx0 hx1
  · rw [show (⟨o + b.val, by omega⟩ : Fin 4) = 3 from Fin.ext (show o + b.val = 3 by omega), eq_ix2_of x 0 d (show _ = 0 by omega) (by omega)]
    rfl
  · rw [show (⟨o + b.val, by omega⟩ : Fin 4) = 2 from Fin.ext (show o + b.val = 2 by omega), eq_ix2_of x 0 d (show _ = 0 by omega) (by omega)]
    rfl
  · rw [show (⟨o + b.val, by omega⟩ : Fin 4) = 1 from Fin.ext (show o + b.val = 1 by omega), eq_ix2_of x 0 d (show _ = 0 by omega) (by omega)]
    rfl
  · rw [show (⟨o + b.val, by omega⟩ : Fin 4) = 0 from Fin.ext (show o + b.val = 0 by omega), eq_ix2_of x 0 d (show _ = 0 by omega) (by omega)]
    rfl

end Cert.Value
end
-- ==== Proof.Value.Steps.lean ====
/- What each grid point leaves in the kernel's buffers, in terms of the arguments. -/
module

public import proofs.«01_k».proof.Proof.Value.Tiles

@[expose] public section

set_option maxRecDepth 16384

noncomputable section

namespace Cert.Value

open Idealize.ShloMosaic Idealize.ShloMosaic.TcCoe Cert.KernelIdeal Cert.KernelIdeal.Gen

variable (m : (ℓ : Loc nD τ sig) → Buf (Elt Ideal) ℓ) (c : Dev nD)

/-- The four slides' rows: two of the first stream, two of the second. -/
def rows : Fin 4 → Fin 16384 → Fin 512 → EReal := ![xsOf m c 0, xsOf m c 1, xlOf m c 0, xlOf m c 1]
/-- A slide's rows of one point. -/
def slotBlk (t : Fin cfg0.N) (s : Fin 4) : Vec Ideal S1x2048x512 .f32 := fun j : S1x2048x512.Idx => rows m c s (rowAt t.val (j 1)) (j 2)

section Loads
variable (t : Fin cfg0.N) (hb : _)
theorem eq_slotBlk (s : Fin 4) (x : Vec Ideal S1x2048x512 .f32) (h : ∀ i k, x (ix3 0 i k) = rows m c s (rowAt t.val i) k) : x = slotBlk m c t s := by
  funext j
  have e : j = ix3 0 (j 1) (j 2) := eq_ix3_of j 0 (j 1) (j 2) (by have : (j 0).val < 1 := (j 0).isLt; show _ = 0; omega) rfl rfl
  rw [e]
  exact h (j 1) (j 2)
theorem slot_0 : View.ld (iblk m c 0 t) (Rect.unit (s := S2x2048x512) ![0, 0, 0] ![1, 2048, 512] hb) = slotBlk m c t 0 :=
  eq_slotBlk m c t 0 _ fun i k => (ld_0 _ hb i k).trans (blk0 m c t 0 i k)
theorem slot_1 (hb) : View.ld (iblk m c 0 t) (Rect.unit (s := S2x2048x512) ![1, 0, 0] ![1, 2048, 512] hb) = slotBlk m c t 1 :=
  eq_slotBlk m c t 1 _ fun i k => (ld_1 _ hb i k).trans (blk0 m c t 1 i k)
theorem slot_2 (hb) : View.ld (iblk m c 1 t) (Rect.unit (s := S2x2048x512) ![0, 0, 0] ![1, 2048, 512] hb) = slotBlk m c t 2 :=
  eq_slotBlk m c t 2 _ fun i k => (ld_0 _ hb i k).trans (blk1 m c t 0 i k)
theorem slot_3 (hb) : View.ld (iblk m c 1 t) (Rect.unit (s := S2x2048x512) ![1, 0, 0] ![1, 2048, 512] hb) = slotBlk m c t 3 :=
  eq_slotBlk m c t 3 _ fun i k => (ld_1 _ hb i k).trans (blk1 m c t 1 i k)
theorem ld_top (x : Vec Ideal S4 .f32) (n : ℕ) (h) (hf) (hn : n < 4) : View.ld x (Rect.unit (s := S4) ![n] ![1] h) (Shape.Idx.first hf) = x (ix1 ⟨n, hn⟩) := by
  refine View.ld_unit_apply_of x _ _ h _ _ fun a => ?_
  fin_cases a
  simp
theorem ld_sum (x : Vec Ideal S4x8x512 .f32) (n : ℕ) (h) (hn : n < 4) (r : Fin 8) (d : Fin 512) :
    View.ld x (Rect.unit (s := S4x8x512) ![n, 0, 0] ![1, 8, 512] h) (ix3 (0 : Fin 1) r d) = x (ix3 ⟨n, hn⟩ r d) := by
  refine View.ld_unit_apply_of x _ _ h _ _ fun a => ?_
  fin_cases a <;> simp
/-- What a buffer is set to is what is read of it. -/
theorem rd0 (x : Vec Ideal S512x544 .f32) (h : Memref.IsWhole sc0) : View.read (Elt Ideal) (View.whole cc0_scratch0) (h.unread x) = x := h.read_unread x
theorem rd1 (x : Vec Ideal S4x8x512 .f32) (h : Memref.IsWhole sc1) : View.read (Elt Ideal) (View.whole cc0_scratch1) (h.unread x) = x := h.read_unread x
theorem rd3 (x : Vec Ideal S4 .f32) (h : Memref.IsWhole sc3) : View.read (Elt Ideal) (View.whole cc0_scratch3) (h.unread x) = x := h.read_unread x
end Loads

/-! ## One slide at one point -/

section Slot
variable {m} {c} (t : Fin cfg0.N) {T : Vec Ideal S512x544 .f32} (hT : IsTable (weightsOf m c) T) (s : Fin 4)
include hT
/-- A slide's scores. -/
theorem slot_score (i : Fin 2048) (k : Fin 4) :
    k0_pay17 (F := Ideal) (k0_pay13 (F := Ideal) (iblk m c 2 t) T (slotBlk m c t s)) (k0_pay14 (F := Ideal) (iblk m c 2 t) T (slotBlk m c t s))
      (iota .tc S32x4 32 [0] iota_S32x4_d0_w32) (iota .tc S32x4 32 [1] iota_S32x4_d1_w32) 8#32 k0_pay15 k0_pay16 (ix3 0 i k)
      = score (weightsOf m c) (rows m c s (rowAt t.val i)) k :=
  score_block (X := rows m c s) t.val (blk2 m c t) hT (fun _ _ => rfl) i k
/-- A slide's greatest gate, at the first point. -/
theorem slot_top_first (h : t.val = 0) :
    colMax (F := Ideal) (k0_pay12 (F := Ideal) (iblk m c 2 t) T (iblk m c 6 t) (slotBlk m c t s)) = runTop (gateBlk (weightsOf m c) (rows m c s)) t.val := by
  rw [top_block (X := rows m c s) t.val (blk2 m c t) hT (blk6 m c t) (fun _ _ => rfl), h, runTop]
/-- A slide's greatest gate, at a later point. -/
theorem slot_top_next (h : t.val ≠ 0) (n : BitVec 32) (hn : n ≠ 0#32) (a : Ideal .f32) (ha : a = runTop (gateBlk (weightsOf m c) (rows m c s)) (t.val - 1)) :
    k0_pay18 (F := Ideal) n (k0_pay12 (F := Ideal) (iblk m c 2 t) T (iblk m c 6 t) (slotBlk m c t s)) a = runTop (gateBlk (weightsOf m c) (rows m c s)) t.val := by
  rw [top_next (X := rows m c s) t.val (blk2 m c t) hT (blk6 m c t) (fun _ _ => rfl) n hn, ha]
  obtain ⟨k, hk⟩ := Nat.exists_eq_succ_of_ne_zero h
  rw [hk, runTop]
  rfl
/-- A slide's weighted sums, at the first point. -/
theorem slot_sum_first (h : t.val = 0) (r : Fin 8) (d : Fin 512) :
    k0_pay2 (F := Ideal) (k0_pay10 (F := Ideal) (iblk m c 2 t) (slotBlk m c t s)) (k0_pay12 (F := Ideal) (iblk m c 2 t) T (iblk m c 6 t) (slotBlk m c t s))
      (colMax (F := Ideal) (k0_pay12 (F := Ideal) (iblk m c 2 t) T (iblk m c 6 t) (slotBlk m c t s))) (ix3 0 r d)
      = runSum (rowOf r) (gateBlk (weightsOf m c) (rows m c s)) (featBlk (weightsOf m c) (rows m c s) d) t.val := by
  rw [pay2_at, slot_top_first t hT s h, sum_block (X := rows m c s) t.val (blk2 m c t) hT (blk6 m c t) (fun _ _ => rfl), h, runSum]
/-- A slide's weighted sums, at a later point. -/
theorem slot_sum_next (h : t.val ≠ 0) (n : BitVec 32) (hn : n ≠ 0#32) (a : Ideal .f32) (ha : a = runTop (gateBlk (weightsOf m c) (rows m c s)) (t.val - 1))
    (S : Vec Ideal S1x8x512 .f32) (r : Fin 8) (d : Fin 512)
    (hS : S (ix3 0 r d) = runSum (rowOf r) (gateBlk (weightsOf m c) (rows m c s)) (featBlk (weightsOf m c) (rows m c s) d) (t.val - 1)) :
    k0_pay3 (F := Ideal) (k0_pay10 (F := Ideal) (iblk m c 2 t) (slotBlk m c t s)) (k0_pay12 (F := Ideal) (iblk m c 2 t) T (iblk m c 6 t) (slotBlk m c t s))
      a (k0_pay18 (F := Ideal) n (k0_pay12 (F := Ideal) (iblk m c 2 t) T (iblk m c 6 t) (slotBlk m c t s)) a) S (ix3 0 r d)
      = runSum (rowOf r) (gateBlk (weightsOf m c) (rows m c s)) (featBlk (weightsOf m c) (rows m c s) d) t.val := by
  rw [pay3_at, slot_top_next t hT s h n hn a ha, sum_block (X := rows m c s) t.val (blk2 m c t) hT (blk6 m c t) (fun _ _ => rfl), hS, ha]
  obtain ⟨k, hk⟩ := Nat.exists_eq_succ_of_ne_zero h
  rw [hk, runSum]
  rfl
/-- A slide's feature, at the last point. -/
theorem slot_slide (h : t.val = 7) (n : BitVec 32) (hn : n ≠ 0#32) (a : Ideal .f32) (ha : a = runTop (gateBlk (weightsOf m c) (rows m c s)) (t.val - 1))
    (S : Vec Ideal S1x8x512 .f32)
    (hS : ∀ r d, S (ix3 0 r d) = runSum (rowOf r) (gateBlk (weightsOf m c) (rows m c s)) (featBlk (weightsOf m c) (rows m c s) d) (t.val - 1)) (d : Fin 512) :
    k0_pay4 (F := Ideal) (k0_pay3 (F := Ideal) (k0_pay10 (F := Ideal) (iblk m c 2 t) (slotBlk m c t s)) (k0_pay12 (F := Ideal) (iblk m c 2 t) T (iblk m c 6 t) (slotBlk m c t s))
      a (k0_pay18 (F := Ideal) n (k0_pay12 (F := Ideal) (iblk m c 2 t) T (iblk m c 6 t) (slotBlk m c t s)) a) S) (ix2 0 d)
      = slide (weightsOf m c) (rows m c s) d := by
  rw [pay4_at, ← slide_eq]
  refine congrArg (fun v => unit v d) (funext fun d => Finset.sum_congr rfl fun r _ => ?_)
  rw [slot_sum_next t hT s (by omega) n hn a ha S r d (hS r d), h]
end Slot

/-! ## The points -/

/-- What the buffers that are carried between points hold after a point. -/
structure Carried (t : ℕ) (p : Held Ideal) : Prop where
  table : IsTable (weightsOf m c) p.table
  tops : ∀ s, p.tops (ix1 s) = runTop (gateBlk (weightsOf m c) (rows m c s)) t
  sums : ∀ s r d, p.sums (ix3 s r d) = runSum (rowOf r) (gateBlk (weightsOf m c) (rows m c s)) (featBlk (weightsOf m c) (rows m c s) d) t

theorem word_ne : ∀ t : Fin cfg0.N, t.val ≠ 0 → BitVec.ofNat 32 (grid0.coords t 0 : ℕ) ≠ 0#32 :=
  (by decide +kernel : ∀ t : Fin grid0.N, t.val ≠ 0 → BitVec.ofNat 32 (grid0.coords t 0 : ℕ) ≠ 0#32)

/-- The table the first point stores. -/
def tableAt (t : Fin cfg0.N) : Vec Ideal S512x544 .f32 := (View.whole cc0_scratch0).readCov
    [⟨Rect.unit (s := S512x544) ![0, 512] ![512, 32] inb_S512x544_S512x32_0_512, k0_pay8 (F := Ideal) (iblk m c 5 t)⟩,
     ⟨Rect.unit (s := S512x544) ![0, 256] ![512, 256] inb_S512x544_S512x256_0_256, k0_pay7 (F := Ideal) (iblk m c 4 t)⟩,
     ⟨Rect.unit (s := S512x544) ![0, 0] ![512, 256] inb_S512x544_S512x256_0_0, k0_pay6 (F := Ideal) (iblk m c 3 t)⟩]
    (Rect.unit (s := S512x544) ![0, 0] ![512, 544] inb_S512x544_S512x544_0_0).toLoadRect
theorem isTable (t : Fin cfg0.N) : IsTable (weightsOf m c) (tableAt m c t) := table_read m c t _ _ _ _
theorem tableAt_eq (t : Fin cfg0.N) : (View.whole cc0_scratch0).readCov
    [⟨Rect.unit (s := S512x544) ![0, 512] ![512, 32] inb_S512x544_S512x32_0_512, k0_pay8 (F := Ideal) (iblk m c 5 t)⟩,
     ⟨Rect.unit (s := S512x544) ![0, 256] ![512, 256] inb_S512x544_S512x256_0_256, k0_pay7 (F := Ideal) (iblk m c 4 t)⟩,
     ⟨Rect.unit (s := S512x544) ![0, 0] ![512, 256] inb_S512x544_S512x256_0_0, k0_pay6 (F := Ideal) (iblk m c 3 t)⟩]
    (Rect.unit (s := S512x544) ![0, 0] ![512, 544] inb_S512x544_S512x544_0_0).toLoadRect = tableAt m c t := rfl

theorem four {α : Type*} (g : Fin 4 → α) {q0 q1 q2 q3 : α} (e0 : q0 = g 0) (e1 : q1 = g 1) (e2 : q2 = g 2) (e3 : q3 = g 3) (s : Fin 4) : ![q0, q1, q2, q3] s = g s := by
  fin_cases s
  exacts [e0, e1, e2, e3]
theorem four_at {ι α : Type*} (j : ι) (g : Fin 4 → α) {q0 q1 q2 q3 : ι → α} (e0 : q0 j = g 0) (e1 : q1 j = g 1) (e2 : q2 j = g 2) (e3 : q3 j = g 3) (s : Fin 4) :
    (![q0, q1, q2, q3] s : ι → α) j = g s := by
  fin_cases s
  exacts [e0, e1, e2, e3]
theorem two_at {ι α : Type*} (j : ι) (g : Fin 2 → α) {q0 q1 : ι → α} (e0 : q0 j = g 0) (e1 : q1 j = g 1) (s : Fin 2) : (![q0, q1] s : ι → α) j = g s := by
  fin_cases s
  exacts [e0, e1]

theorem first_table (t : Fin cfg0.N) (h : t.val = 0) : (firstHeld m c t h).table = tableAt m c t := by
  unfold firstHeld tableAt
  dsimp only
  rw [View.read_writes_junk_eq_canon, View.readCov_eq_canon']
  unfold atA runA
  dsimp only
  frame_out
  funext j
  refine congrArg (View.canon _) (funext fun a => Fin.ext ?_)
  fin_cases a <;> simp
theorem first_tops (t : Fin cfg0.N) (h : t.val = 0) (s : Fin 4) : (firstHeld m c t h).tops (ix1 s) = runTop (gateBlk (weightsOf m c) (rows m c s)) t.val := by
  unfold firstHeld
  dsimp only
  rw [View.read_writes_junk_eq_canon]
  unfold atA runA
  dsimp only
  frame_out
  rw [tops_tiles]
  simp only [slot_0, slot_1, slot_2, slot_3, pay24_eq, pay37_eq, pay48_eq, pay26_eq, pay39_eq, pay50_eq]
  have hT := isTable m c t
  refine four (fun s => runTop (gateBlk (weightsOf m c) (rows m c s)) t.val) ?_ ?_ ?_ ?_ s
  exacts [slot_top_first t hT 0 h, slot_top_first t hT 1 h, slot_top_first t hT 2 h, slot_top_first t hT 3 h]
theorem first_sums (t : Fin cfg0.N) (h : t.val = 0) (s : Fin 4) (r : Fin 8) (d : Fin 512) :
    (firstHeld m c t h).sums (ix3 s r d) = runSum (rowOf r) (gateBlk (weightsOf m c) (rows m c s)) (featBlk (weightsOf m c) (rows m c s) d) t.val := by
  unfold firstHeld
  dsimp only
  rw [View.read_writes_junk_eq_canon]
  unfold atA runA
  dsimp only
  frame_out
  rw [sums_tiles]
  simp only [slot_0, slot_1, slot_2, slot_3, pay24_eq, pay37_eq, pay48_eq, pay26_eq, pay39_eq, pay50_eq, pay21_eq, pay34_eq, pay45_eq]
  have hT := isTable m c t
  refine four_at _ (fun s => runSum (rowOf r) (gateBlk (weightsOf m c) (rows m c s)) (featBlk (weightsOf m c) (rows m c s) d) t.val) ?_ ?_ ?_ ?_ s
  exacts [slot_sum_first t hT 0 h r d, slot_sum_first t hT 1 h r d, slot_sum_first t hT 2 h r d, slot_sum_first t hT 3 h r d]
/-- After the first point. -/
theorem first_carried (t : Fin cfg0.N) (h : t.val = 0) : Carried m c t.val (firstHeld m c t h) where
  table := by rw [first_table]; exact isTable m c t
  tops := first_tops m c t h
  sums := first_sums m c t h
theorem first_scoresS (t : Fin cfg0.N) (h : t.val = 0) (b : Fin 2) (i : Fin 2048) (k : Fin 4) :
    (firstHeld m c t h).scoresS (ix3 b i k) = score (weightsOf m c) (xsOf m c b (rowAt t.val i)) k := by
  unfold firstHeld
  dsimp only
  rw [View.read_writes_junk_eq_canon]
  unfold atA runA
  dsimp only
  frame_out
  rw [scores_tiles]
  simp only [slot_0, slot_1, slot_2, slot_3, pay27_eq, pay28_eq, pay30_eq]
  have hT := isTable m c t
  refine two_at _ (fun b => score (weightsOf m c) (xsOf m c b (rowAt t.val i)) k) ?_ ?_ b
  exacts [slot_score t hT 0 i k, slot_score t hT 1 i k]
theorem first_scoresL (t : Fin cfg0.N) (h : t.val = 0) (b : Fin 2) (i : Fin 2048) (k : Fin 4) :
    (firstHeld m c t h).scoresL (ix3 b i k) = score (weightsOf m c) (xlOf m c b (rowAt t.val i)) k := by
  unfold firstHeld
  dsimp only
  rw [View.read_writes_junk_eq_canon]
  unfold atA runA
  dsimp only
  frame_out
  rw [scores_tiles]
  simp only [slot_0, slot_1, slot_2, slot_3, pay40_eq, pay41_eq, pay51_eq, pay52_eq, pay42_eq, pay53_eq]
  have hT := isTable m c t
  refine two_at _ (fun b => score (weightsOf m c) (xlOf m c b (rowAt t.val i)) k) ?_ ?_ b
  exacts [slot_score t hT 2 i k, slot_score t hT 3 i k]

/-! A point between. -/

section Middle
variable {m} {c} (t : Fin cfg0.N) (h : t.val ≠ 0) (h2 : t.val ≠ 7) {p : Held Ideal} (hp : Carried m c (t.val - 1) p)
include hp
theorem middle_tops (s : Fin 4) : (middleHeld m c t h h2 p).tops (ix1 s) = runTop (gateBlk (weightsOf m c) (rows m c s)) t.val := by
  unfold middleHeld
  dsimp only
  rw [View.read_writes_junk_eq_canon]
  unfold atB runB
  dsimp only
  frame_out
  rw [tops_tiles]
  simp only [slot_0, slot_1, slot_2, slot_3, pay24_eq, pay37_eq, pay48_eq, pay26_eq, pay39_eq, pay50_eq, pay31_eq, pay43_eq, pay54_eq, rd0, rd1, rd3]
  have hT := hp.table
  have hn := word_ne t h
  refine four (fun s => runTop (gateBlk (weightsOf m c) (rows m c s)) t.val) ?_ ?_ ?_ ?_ s
  exacts [slot_top_next t hT 0 h _ hn _ ((ld_top _ 0 _ _ (by decide)).trans (hp.tops 0)), slot_top_next t hT 1 h _ hn _ ((ld_top _ 1 _ _ (by decide)).trans (hp.tops 1)),
    slot_top_next t hT 2 h _ hn _ ((ld_top _ 2 _ _ (by decide)).trans (hp.tops 2)), slot_top_next t hT 3 h _ hn _ ((ld_top _ 3 _ _ (by decide)).trans (hp.tops 3))]
theorem middle_sums (s : Fin 4) (r : Fin 8) (d : Fin 512) :
    (middleHeld m c t h h2 p).sums (ix3 s r d) = runSum (rowOf r) (gateBlk (weightsOf m c) (rows m c s)) (featBlk (weightsOf m c) (rows m c s) d) t.val := by
  unfold middleHeld
  dsimp only
  rw [View.read_writes_junk_eq_canon]
  unfold atB runB
  dsimp only
  frame_out
  rw [sums_tiles]
  simp only [slot_0, slot_1, slot_2, slot_3, pay24_eq, pay37_eq, pay48_eq, pay26_eq, pay39_eq, pay50_eq, pay31_eq, pay43_eq, pay54_eq, pay22_eq, pay35_eq, pay46_eq, rd0, rd1, rd3]
  have hT := hp.table
  have hn := word_ne t h
  have hs0 := fun r d => (ld_sum _ 0 inb_S4x8x512_S1x8x512_0_0_0 (by decide) r d).trans (hp.sums 0 r d)
  have hs1 := fun r d => (ld_sum _ 1 inb_S4x8x512_S1x8x512_1_0_0 (by decide) r d).trans (hp.sums 1 r d)
  have hs2 := fun r d => (ld_sum _ 2 inb_S4x8x512_S1x8x512_2_0_0 (by decide) r d).trans (hp.sums 2 r d)
  have hs3 := fun r d => (ld_sum _ 3 inb_S4x8x512_S1x8x512_3_0_0 (by decide) r d).trans (hp.sums 3 r d)
  have ht0 := (ld_top _ 0 inb_S4_S1_0 (by decide) (by decide)).trans (hp.tops 0)
  have ht1 := (ld_top _ 1 inb_S4_S1_1 (by decide) (by decide)).trans (hp.tops 1)
  have ht2 := (ld_top _ 2 inb_S4_S1_2 (by decide) (by decide)).trans (hp.tops 2)
  have ht3 := (ld_top _ 3 inb_S4_S1_3 (by decide) (by decide)).trans (hp.tops 3)
  refine four_at _ (fun s => runSum (rowOf r) (gateBlk (weightsOf m c) (rows m c s)) (featBlk (weightsOf m c) (rows m c s) d) t.val) ?_ ?_ ?_ ?_ s
  exacts [slot_sum_next t hT 0 h _ hn _ ht0 _ r d (hs0 r d),
    slot_sum_next t hT 1 h _ hn _ ht1 _ r d (hs1 r d),
    slot_sum_next t hT 2 h _ hn _ ht2 _ r d (hs2 r d),
    slot_sum_next t hT 3 h _ hn _ ht3 _ r d (hs3 r d)]
/-- After a point between. -/
theorem middle_carried : Carried m c t.val (middleHeld m c t h h2 p) where
  table := by
    unfold middleHeld
    exact hp.table
  tops := middle_tops t h h2 hp
  sums := middle_sums t h h2 hp
theorem middle_scoresS (b : Fin 2) (i : Fin 2048) (k : Fin 4) :
    (middleHeld m c t h h2 p).scoresS (ix3 b i k) = score (weightsOf m c) (xsOf m c b (rowAt t.val i)) k := by
  unfold middleHeld
  dsimp only
  rw [View.read_writes_junk_eq_canon]
  unfold atB runB
  dsimp only
  frame_out
  rw [scores_tiles]
  simp only [slot_0, slot_1, slot_2, slot_3, pay27_eq, pay28_eq, pay30_eq, rd0]
  have hT := hp.table
  refine two_at _ (fun b => score (weightsOf m c) (xsOf m c b (rowAt t.val i)) k) ?_ ?_ b
  exacts [slot_score t hT 0 i k, slot_score t hT 1 i k]
theorem middle_scoresL (b : Fin 2) (i : Fin 2048) (k : Fin 4) :
    (middleHeld m c t h h2 p).scoresL (ix3 b i k) = score (weightsOf m c) (xlOf m c b (rowAt t.val i)) k := by
  unfold middleHeld
  dsimp only
  rw [View.read_writes_junk_eq_canon]
  unfold atB runB
  dsimp only
  frame_out
  rw [scores_tiles]
  simp only [slot_0, slot_1, slot_2, slot_3, pay40_eq, pay41_eq, pay51_eq, pay52_eq, pay42_eq, pay53_eq, rd0]
  have hT := hp.table
  refine two_at _ (fun b => score (weightsOf m c) (xlOf m c b (rowAt t.val i)) k) ?_ ?_ b
  exacts [slot_score t hT 2 i k, slot_score t hT 3 i k]
end Middle

/-! The last point. -/

section Last
variable {m} {c} (t : Fin cfg0.N) (h7 : t.val = 7) {p : Held Ideal} (hp : Carried m c (t.val - 1) p)
include hp
theorem last_scoresS (b : Fin 2) (i : Fin 2048) (k : Fin 4) :
    (lastHeld m c t h7 p).scoresS (ix3 b i k) = score (weightsOf m c) (xsOf m c b (rowAt t.val i)) k := by
  unfold lastHeld
  dsimp only
  rw [View.read_writes_junk_eq_canon]
  unfold atC runC
  dsimp only
  frame_out
  rw [scores_tiles]
  simp only [slot_0, slot_1, slot_2, slot_3, pay27_eq, pay28_eq, pay30_eq, rd0]
  have hT := hp.table
  refine two_at _ (fun b => score (weightsOf m c) (xsOf m c b (rowAt t.val i)) k) ?_ ?_ b
  exacts [slot_score t hT 0 i k, slot_score t hT 1 i k]
theorem last_scoresL (b : Fin 2) (i : Fin 2048) (k : Fin 4) :
    (lastHeld m c t h7 p).scoresL (ix3 b i k) = score (weightsOf m c) (xlOf m c b (rowAt t.val i)) k := by
  unfold lastHeld
  dsimp only
  rw [View.read_writes_junk_eq_canon]
  unfold atC runC
  dsimp only
  frame_out
  rw [scores_tiles]
  simp only [slot_0, slot_1, slot_2, slot_3, pay40_eq, pay41_eq, pay51_eq, pay52_eq, pay42_eq, pay53_eq, rd0]
  have hT := hp.table
  refine two_at _ (fun b => score (weightsOf m c) (xlOf m c b (rowAt t.val i)) k) ?_ ?_ b
  exacts [slot_score t hT 2 i k, slot_score t hT 3 i k]

theorem last_prob (b : Fin 2) (k : Fin 4) :
    (lastHeld m c t h7 p).prob (ix2 b k) = prob (weightsOf m c) (xsOf m c b) (xlOf m c b) k := by
  unfold lastHeld
  dsimp only
  rw [View.read_writes_junk_eq_canon]
  unfold atC runC
  dsimp only
  frame_out
  simp only [View.readCov_cons_toLoadRect]
  have h : t.val ≠ 0 := by omega
  have hT := hp.table
  have hn := word_ne t h
  rw [pay5_at]
  simp only [slot_0, slot_1, slot_2, slot_3, pay24_eq, pay37_eq, pay48_eq, pay26_eq, pay39_eq, pay50_eq, pay31_eq, pay43_eq, pay54_eq, pay22_eq, pay35_eq, pay46_eq, pay23_eq, pay36_eq, pay47_eq, rd0, rd1, rd3]
  have hs0 := slot_slide t hT 0 h7 _ hn _ ((ld_top _ 0 inb_S4_S1_0 (by decide) (by decide)).trans (hp.tops 0)) _ fun r d => (ld_sum _ 0 inb_S4x8x512_S1x8x512_0_0_0 (by decide) r d).trans (hp.sums 0 r d)
  have hs1 := slot_slide t hT 1 h7 _ hn _ ((ld_top _ 1 inb_S4_S1_1 (by decide) (by decide)).trans (hp.tops 1)) _ fun r d => (ld_sum _ 1 inb_S4x8x512_S1x8x512_1_0_0 (by decide) r d).trans (hp.sums 1 r d)
  have hs2 := slot_slide t hT 2 h7 _ hn _ ((ld_top _ 2 inb_S4_S1_2 (by decide) (by decide)).trans (hp.tops 2)) _ fun r d => (ld_sum _ 2 inb_S4x8x512_S1x8x512_2_0_0 (by decide) r d).trans (hp.sums 2 r d)
  have hs3 := slot_slide t hT 3 h7 _ hn _ ((ld_top _ 3 inb_S4_S1_3 (by decide) (by decide)).trans (hp.tops 3)) _ fun r d => (ld_sum _ 3 inb_S4x8x512_S1x8x512_3_0_0 (by decide) r d).trans (hp.sums 3 r d)
  refine congrArg (fun l => softmax l k) (funext fun c' => Finset.sum_congr rfl fun d _ => congrArg₂ (· * ·) (congrArg₂ (· + ·) ?_ ?_) ?_)
  · refine (slides_tiles _ _ _ _ _ _ _ _ 0 (by omega) _ b d).trans ?_
    refine (four_at (ix2 0 d) (fun s => slide (weightsOf m c) (rows m c s) d) (hs0 d) (hs1 d) (hs2 d) (hs3 d) _).trans ?_
    fin_cases b <;> rfl
  · refine (slides_tiles _ _ _ _ _ _ _ _ 2 (by omega) _ b d).trans ?_
    refine (four_at (ix2 0 d) (fun s => slide (weightsOf m c) (rows m c s) d) (hs0 d) (hs1 d) (hs2 d) (hs3 d) _).trans ?_
    fin_cases b <;> rfl
  · exact congrArg (fun v => unit v d) (funext fun d => congrArg top (funext fun j => blk5 m c t d c' j))
end Last

end Cert.Value
end
-- ==== Proof.Value.Final.lean ====
/- What the kernel's result arrays hold at the end, in terms of the arguments. -/
module

public import proofs.«01_k».proof.Proof.Value.Steps

@[expose] public section

set_option maxRecDepth 16384

noncomputable section

namespace Cert.Value

open Idealize.ShloMosaic Idealize.ShloMosaic.TcCoe Cert.KernelIdeal Cert.KernelIdeal.Gen

variable (m : (ℓ : Loc nD τ sig) → Buf (Elt Ideal) ℓ) (c : Dev nD)

/-- What the buffers carry after every point but the last. -/
theorem carried : ∀ (n : ℕ) (hn : n < cfg0.N), n ≠ 7 → Carried m c n (held m c n hn)
  | 0, hn, _ => by
    rw [held_first m c ⟨0, hn⟩ rfl]
    exact first_carried m c ⟨0, hn⟩ rfl
  | n + 1, hn, h => by
    have hN : n + 1 < 8 := (idx ⟨n + 1, hn⟩).2.2.2.2.2.2.2.2.2.2
    rw [held_middle m c ⟨n + 1, hn⟩ (Nat.succ_ne_zero n) h]
    exact middle_carried ⟨n + 1, hn⟩ (Nat.succ_ne_zero n) h (carried n (Nat.lt_of_succ_lt hn) (by omega))

section Point
variable (t : Fin cfg0.N)
theorem before (h : t.val ≠ 0) : Carried m c (t.val - 1) (held m c (t.val - 1) (by omega)) := by
  have hN : t.val < 8 := (idx t).2.2.2.2.2.2.2.2.2.2
  exact carried m c (t.val - 1) _ (by omega)
theorem held_scoresS (b : Fin 2) (i : Fin 2048) (k : Fin 4) :
    (held m c t.val t.isLt).scoresS (ix3 b i k) = score (weightsOf m c) (xsOf m c b (rowAt t.val i)) k := by
  by_cases h : t.val = 0
  · rw [held_first m c t h]
    exact first_scoresS m c t h b i k
  by_cases h7 : t.val = 7
  · rw [held_last m c t h7]
    exact last_scoresS t h7 (before m c t h) b i k
  · rw [held_middle m c t h h7]
    exact middle_scoresS t h h7 (before m c t h) b i k
theorem held_scoresL (b : Fin 2) (i : Fin 2048) (k : Fin 4) :
    (held m c t.val t.isLt).scoresL (ix3 b i k) = score (weightsOf m c) (xlOf m c b (rowAt t.val i)) k := by
  by_cases h : t.val = 0
  · rw [held_first m c t h]
    exact first_scoresL m c t h b i k
  by_cases h7 : t.val = 7
  · rw [held_last m c t h7]
    exact last_scoresL t h7 (before m c t h) b i k
  · rw [held_middle m c t h h7]
    exact middle_scoresL t h h7 (before m c t h) b i k
theorem held_prob (h7 : t.val = 7) (b : Fin 2) (k : Fin 4) :
    (held m c t.val t.isLt).prob (ix2 b k) = prob (weightsOf m c) (xsOf m c b) (xlOf m c b) k := by
  rw [held_last m c t h7]
  exact last_prob t h7 (before m c t (by omega)) b k
end Point

/-- The first stream's scores. -/
def scoresSOf : Vec Ideal S2x16384x4 .f32 := fun j : S2x16384x4.Idx => score (weightsOf m c) (xsOf m c (j 0) (j 1)) (j 2)
/-- The second stream's scores. -/
def scoresLOf : Vec Ideal S2x16384x4 .f32 := fun j : S2x16384x4.Idx => score (weightsOf m c) (xlOf m c (j 0) (j 1)) (j 2)
/-- The class probabilities. -/
def probOf : Vec Ideal S2x4 .f32 := fun j : S2x4.Idx => prob (weightsOf m c) (xsOf m c (j 0)) (xlOf m c (j 0)) (j 1)

theorem at_7 (t : Fin cfg0.N) (G : Vec Ideal S2x16384x4 .f32) (b : Fin 2) (i : Fin 2048) (k : Fin 4) :
    G ((win0_7.blk t).view.emb (ix3 b i k)) = G (ix3 b (rowAt t.val i) k) := by
  unfold rowAt
  blk_ext [idx t]
theorem tile_7 (t : Fin cfg0.N) (y : S2x2048x4.Idx) : (held m c t.val t.isLt).scoresS y = scoresSOf m c ((win0_7.blk t).view.emb y) := by
  rw [show y = ix3 (y 0) (y 1) (y 2) from eq_ix3 y]
  exact (held_scoresS m c t (y 0) (y 1) (y 2)).trans (at_7 t (scoresSOf m c) (y 0) (y 1) (y 2)).symm
theorem array7 : (dats m 0 c).arrAt 7 cfg0.N = scoresSOf m c := by
  refine (dats m 0 c).arrAt_eq_of_covers 7 _ (by decide +kernel) fun t _ y => ?_
  blk_simp
  rw [after_7]
  exact tile_7 m c t y
theorem at_8 (t : Fin cfg0.N) (G : Vec Ideal S2x16384x4 .f32) (b : Fin 2) (i : Fin 2048) (k : Fin 4) :
    G ((win0_8.blk t).view.emb (ix3 b i k)) = G (ix3 b (rowAt t.val i) k) := by
  unfold rowAt
  blk_ext [idx t]
theorem tile_8 (t : Fin cfg0.N) (y : S2x2048x4.Idx) : (held m c t.val t.isLt).scoresL y = scoresLOf m c ((win0_8.blk t).view.emb y) := by
  rw [show y = ix3 (y 0) (y 1) (y 2) from eq_ix3 y]
  exact (held_scoresL m c t (y 0) (y 1) (y 2)).trans (at_8 t (scoresLOf m c) (y 0) (y 1) (y 2)).symm
theorem array8 : (dats m 0 c).arrAt 8 cfg0.N = scoresLOf m c := by
  refine (dats m 0 c).arrAt_eq_of_covers 8 _ (by decide +kernel) fun t _ y => ?_
  blk_simp
  rw [after_8]
  exact tile_8 m c t y
theorem at_9 (t : Fin cfg0.N) (G : Vec Ideal S2x4 .f32) (b : Fin 2) (k : Fin 4) :
    G ((win0_9.blk t).view.emb (ix2 b k)) = G (ix2 b k) := by
  blk_ext [idx t]
theorem tile_9 (t : Fin cfg0.N) (h : t.val = 7) (y : S2x4.Idx) : (held m c t.val t.isLt).prob y = probOf m c ((win0_9.blk t).view.emb y) := by
  rw [show y = ix2 (y 0) (y 1) from eq_ix2 y]
  exact (held_prob m c t h (y 0) (y 1)).trans (at_9 t (probOf m c) (y 0) (y 1)).symm
theorem flush_9 : ∀ t : Fin cfg0.N, win0_9.flush t = true → t.val = 7 :=
  (by decide +kernel : ∀ t : Fin grid0.N, win0_9.flush t = true → t.val = 7)
theorem array9 : (dats m 0 c).arrAt 9 cfg0.N = probOf m c := by
  refine (dats m 0 c).arrAt_eq_of_covers 9 _ (by decide +kernel) fun t hf y => ?_
  have h := flush_9 t hf
  blk_simp
  rw [after_9]
  exact tile_9 m c t h y

end Cert.Value
end
-- ==== Proof.Value.KernelRun.lean ====
/- The kernel's run: what each result holds at the end, in terms of the arguments. -/
module

public import proofs.«01_k».proof.Proof.Value.Final

@[expose] public section

set_option maxRecDepth 16384

noncomputable section

namespace Cert.Value

open Idealize.ShloMosaic Idealize.ShloMosaic.TcCoe Idealize.SL.Sem Cert.KernelIdeal Cert.KernelIdeal.Gen

/-- Each row's most probable class. -/
def labels (p : Vec Ideal S2x4 .f32) : Vec Ideal S2 .i32 := fun j =>
  (Host.argReduce (Cert.KernelIdeal.reducer_argmax_f32_i32 (F := Ideal)) p (iotaInDim S2x4 32 1) (constant S_ .f32 0xFF800000#32) (constantI S_ 32 0#32) reducesTo_S2x4_S2_d1 h_S_ j).2

variable (m : (ℓ : Loc nD τ sig) → Buf (Elt Ideal) ℓ) (ρ : Dev nD → PrngReg) (c : Dev nD)

theorem tail_label : Pipeline.afterTail₀ cfgs (dats m) 0 (V0 m) [hostOps1] c main_v3 = labels (probOf m c) := by
  unfold Pipeline.afterTail₀
  show StableHlo.after hostOps1 _ (Proc.devRef .tc main_v3) = _
  after_results
  rw [← array9]
  refine congrArg labels ?_
  exact Pipeline.Dat.withArrays_arrAt (dats m 0 c) (by decide) _ (arr_eq m c) 9

/-- The results at the end, and the arguments as they were. -/
theorem kernel_run : θ_run defs (onTc (τ := τ) (main (F := Ideal))) ⟨m, fun _ => 0, ρ⟩ (fun r => ∀ c : Dev nD,
      r.2.mem ((c.tc : Thread nD τ).loc main_v2_2) = probOf m c
      ∧ r.2.mem ((c.tc : Thread nD τ).loc main_v3) = labels (probOf m c)
      ∧ r.2.mem ((c.tc : Thread nD τ).loc main_v2_0) = scoresSOf m c
      ∧ r.2.mem ((c.tc : Thread nD τ).loc main_v2_1) = scoresLOf m c) :=
  (θ_run defs _ _).mono (fun r h c =>
    ⟨((h c).1 9).trans (array9 m c),
      ((h c).2 main_v3 (by decide)).trans (tail_label m c),
      ((h c).1 7).trans (array7 m c), ((h c).1 8).trans (array8 m c)⟩) (run_post m ρ)

end Cert.Value
end
-- ==== Proof.Value.Terms.lean ====
/- The reference's intermediate arrays at an index. -/
module

public import proofs.«01_k».proof.Proof.Value.Model
public import proofs.«01_k».proof.Proof.ReferenceIdeal.Run

@[expose] public section

set_option maxRecDepth 16384

noncomputable section

namespace Cert.Value

open Idealize.ShloMosaic Cert.ReferenceIdeal Cert.ReferenceIdeal.Gen

/-! ## Normalised rows -/

/-- Rows divided by their clipped norms. -/
def normed (X : FVec Ideal S2x16384x512 .f32) : FVec Ideal S2x16384x512 .f32 :=
  Host.divf X (broadcastInDim S2x16384x512 ![0, 1, 2] bcast_S2x16384x1_S2x16384x512_0_1_2 (maximumf (broadcastInDim S2x16384x1 ![] bcast_S_S2x16384x1 (id (constant S_ .f32 0x2B8CBCCC#32))) (Host.sqrt (broadcastInDim S2x16384x1 ![0, 1] bcast_S2x16384_S2x16384x1_0_1 (Host.reduceAdd (mulf X X) (constant S_ .f32 0x00000000#32) reducesTo_S2x16384x512_S2x16384_d2 h_S_)))))
/-- Rows through the projection. -/
def through (X : FVec Ideal S2x16384x512 .f32) (W : FVec Ideal S512x512 .f32) : FVec Ideal S2x16384x512 .f32 :=
  Host.dotGeneral dot_S2x16384x512_S512x512_S2x16384x512_2_0_01_1_n_n none X W
/-- The projected rows of a slide, normalised before and after. -/
def feats (X : FVec Ideal S2x16384x512 .f32) (W : FVec Ideal S512x512 .f32) (p : FVec Ideal S512 .f32) : FVec Ideal S2x16384x512 .f32 :=
  normed (addf (through (normed X) W) (broadcastInDim S2x16384x512 ![0, 1, 2] bcast_S1x1x512_S2x16384x512_0_1_2 (broadcastInDim S1x1x512 ![2] bcast_S512_S1x1x512_2 p)))

theorem normed_at (X : FVec Ideal S2x16384x512 .f32) (b : Fin 2) (n : Fin 16384) (d : Fin 512) :
    normed X (ix3 b n d) = unit (fun k => X (ix3 b n k)) d := by
  unfold unit len sumSq eps
  pointwise [normed]
  rfl
theorem through_at (X : FVec Ideal S2x16384x512 .f32) (W : FVec Ideal S512x512 .f32) (b : Fin 2) (n : Fin 16384) (d : Fin 512) :
    through X W (ix3 b n d) = proj (fun k d => W (ix2 k d)) (fun k => X (ix3 b n k)) d := by
  unfold proj
  pointwise [through]
theorem feats_at (X : FVec Ideal S2x16384x512 .f32) (W : FVec Ideal S512x512 .f32) (p : FVec Ideal S512 .f32) (hp : ∀ d, p (ix1 d) = 0)
    (b : Fin 2) (n : Fin 16384) (d : Fin 512) :
    feats X W p (ix3 b n d) = unit (proj (fun k d => W (ix2 k d)) (unit fun k => X (ix3 b n k))) d := by
  unfold feats
  rw [normed_at]
  refine congrFun (congrArg unit (funext fun k => ?_)) d
  have h : ∀ Y : FVec Ideal S2x16384x512 .f32, addf Y (broadcastInDim S2x16384x512 ![0, 1, 2] bcast_S1x1x512_S2x16384x512_0_1_2 (broadcastInDim S1x1x512 ![2] bcast_S512_S1x1x512_2 p)) (ix3 b n k) = Y (ix3 b n k) + p (ix1 k) := by
    intro Y
    pointwise []
  rw [h, hp, add_zero, through_at]
  simp only [normed_at]

/-! ## Scores -/

section Scores
variable (f : FVec Ideal S2x16384x512 .f32) (D : FVec Ideal S4x8x512 .f32)

/-- The similarities of rows to descriptions. -/
def sims : FVec Ideal S2x16384x4x8 .f32 := Host.dotGeneral dot_S2x16384x512_S4x8x512_S2x16384x4x8_2_2_01_01_n_n none f D
/-- The scaled similarities. -/
def scaled : FVec Ideal S2x16384x4x8 .f32 := mulf (sims f D) (broadcastInDim S2x16384x4x8 ![] bcast_S_S2x16384x4x8 (constant S_ .f32 0x3D3504F3#32))
/-- Exponentials of a group under its greatest entry. -/
def expGroup (t : FVec Ideal S2x16384x4x8 .f32) : FVec Ideal S2x16384x4x8 .f32 :=
  Host.exp (subf t (broadcastInDim S2x16384x4x8 ![0, 1, 2, 3] bcast_S2x16384x4x1_S2x16384x4x8_0_1_2_3 (broadcastInDim S2x16384x4x1 ![0, 1, 2] bcast_S2x16384x4_S2x16384x4x1_0_1_2 (maximumf (broadcastInDim S2x16384x4 ![] bcast_S_S2x16384x4 (constant S_ .f32 0xFF800000#32)) (Host.reduce FloatOps.maximumf t (constant S_ .f32 0xFF800000#32) reducesTo_S2x16384x4x8_S2x16384x4_d3 h_S_)))))
/-- Similarities weighed by their group's weights. -/
def weighed (e s : FVec Ideal S2x16384x4x8 .f32) : FVec Ideal S2x16384x4 .f32 :=
  Host.dotGeneral dot_S2x16384x4x8_S2x16384x4x8_S2x16384x4_3_3_n_n_012_012 none (Host.divf e (broadcastInDim S2x16384x4x8 ![0, 1, 2, 3] bcast_S2x16384x4x1_S2x16384x4x8_0_1_2_3 (broadcastInDim S2x16384x4x1 ![0, 1, 2] bcast_S2x16384x4_S2x16384x4x1_0_1_2 (Host.reduceAdd e (constant S_ .f32 0x00000000#32) reducesTo_S2x16384x4x8_S2x16384x4_d3 h_S_)))) s

theorem sims_at (b : Fin 2) (n : Fin 16384) (c : Fin 4) (k : Fin 8) :
    sims f D (ix4 b n c k) = ∑ d, f (ix3 b n d) * D (ix3 c k d) := by
  pointwise [sims]
theorem scaled_at (b : Fin 2) (n : Fin 16384) (c : Fin 4) (k : Fin 8) :
    scaled f D (ix4 b n c k) = sims f D (ix4 b n c k) * scale := by
  unfold scale
  pointwise [scaled]
theorem low_max (x : EReal) : max low x = x := by rw [low_eq]; exact max_eq_right bot_le
theorem expGroup_at (t : FVec Ideal S2x16384x4x8 .f32) (b : Fin 2) (n : Fin 16384) (c : Fin 4) (k : Fin 8) :
    expGroup t (ix4 b n c k) = Ideal.exp (t (ix4 b n c k) - top fun j => t (ix4 b n c j)) := by
  rw [← fold_eq, ← low_max (Finset.univ.fold max low _)]
  unfold low
  pointwise [expGroup]
theorem weighed_at (e s : FVec Ideal S2x16384x4x8 .f32) (b : Fin 2) (n : Fin 16384) (c : Fin 4) :
    weighed e s (ix3 b n c) = ∑ k, Ideal.div (e (ix4 b n c k)) (0 + ∑ j, e (ix4 b n c j)) * s (ix4 b n c k) := by
  pointwise [weighed]
end Scores

/-! ## Gates and the pooled slide -/

section Pool
variable (f : FVec Ideal S2x16384x512 .f32) (Wv Wu : FVec Ideal S512x256 .f32) (bv bu w : FVec Ideal S256 .f32) (a : FVec Ideal S_ .f32)

/-- Rows through a gate's weights. -/
def branch (W : FVec Ideal S512x256 .f32) (b : FVec Ideal S256 .f32) : FVec Ideal S2x16384x256 .f32 :=
  addf (Host.dotGeneral dot_S2x16384x512_S512x256_S2x16384x256_2_0_01_1_n_n none f W) (broadcastInDim S2x16384x256 ![0, 1, 2] bcast_S1x1x256_S2x16384x256_0_1_2 (broadcastInDim S1x1x256 ![2] bcast_S256_S1x1x256_2 b))
/-- The gates of a slide's rows. -/
def gateArr : FVec Ideal S2x16384 .f32 :=
  addf (Host.dotGeneral dot_S2x16384x256_S256_S2x16384_2_0_01_n_n_n none (mulf (Host.tanh (branch f Wv bv)) (Host.divf (broadcastInDim S2x16384x256 ![] bcast_S_S2x16384x256 (constant S_ .f32 0x3F800000#32)) (addf (broadcastInDim S2x16384x256 ![] bcast_S_S2x16384x256 (constant S_ .f32 0x3F800000#32)) (Host.exp (Host.negf (branch f Wu bu)))))) w) (broadcastInDim S2x16384 ![] bcast_S_S2x16384 a)
/-- Exponentials of a slide's gates under the greatest. -/
def expRow (t : FVec Ideal S2x16384 .f32) : FVec Ideal S2x16384 .f32 :=
  Host.exp (subf t (broadcastInDim S2x16384 ![0, 1] bcast_S2x1_S2x16384_0_1 (broadcastInDim S2x1 ![0] bcast_S2_S2x1_0 (maximumf (broadcastInDim S2 ![] bcast_S_S2 (constant S_ .f32 0xFF800000#32)) (Host.reduce FloatOps.maximumf t (constant S_ .f32 0xFF800000#32) reducesTo_S2x16384_S2_d1 h_S_)))))
/-- The mean of a slide's rows under the softmax of its gates. -/
def pool (t : FVec Ideal S2x16384 .f32) : FVec Ideal S2x512 .f32 :=
  Host.dotGeneral dot_S2x16384_S2x16384x512_S2x512_1_1_n_2_0_0 none (Host.divf (expRow t) (broadcastInDim S2x16384 ![0, 1] bcast_S2x1_S2x16384_0_1 (broadcastInDim S2x1 ![0] bcast_S2_S2x1_0 (Host.reduceAdd (expRow t) (constant S_ .f32 0x00000000#32) reducesTo_S2x16384_S2_d1 h_S_)))) f

theorem branch_at (W : FVec Ideal S512x256 .f32) (b : FVec Ideal S256 .f32) (s : Fin 2) (n : Fin 16384) (h : Fin 256) :
    branch f W b (ix3 s n h) = (∑ d, f (ix3 s n d) * W (ix2 d h)) + b (ix1 h) := by
  pointwise [branch]
theorem logistic_eq (x : EReal) : Ideal.div 1 (1 + Ideal.exp (-x)) = Ideal.logistic x := rfl
theorem gateArr_raw (s : Fin 2) (n : Fin 16384) : gateArr f Wv Wu bv bu w a (ix2 s n)
    = (∑ h, Ideal.tanh (branch f Wv bv (ix3 s n h)) * Ideal.div 1 (1 + Ideal.exp (-(branch f Wu bu (ix3 s n h)))) * w (ix1 h)) + a ix0 := by
  pointwise [gateArr]
/-- Without biases a gate is the kernel's, but for the shift all gates share. -/
theorem gateArr_at (hv : ∀ h, bv (ix1 h) = 0) (hu : ∀ h, bu (ix1 h) = 0) (s : Fin 2) (n : Fin 16384) : gateArr f Wv Wu bv bu w a (ix2 s n)
    = gate (fun k h => Wv (ix2 k h)) (fun k h => Wu (ix2 k h)) (fun h => w (ix1 h)) (fun d => f (ix3 s n d)) + a ix0 := by
  rw [gateArr_raw]
  simp only [branch_at, hv, hu, add_zero, logistic_eq]
  rfl
theorem expRow_at (t : FVec Ideal S2x16384 .f32) (s : Fin 2) (n : Fin 16384) :
    expRow t (ix2 s n) = Ideal.exp (t (ix2 s n) - top fun j => t (ix2 s j)) := by
  rw [← fold_eq, ← low_max (Finset.univ.fold max low _)]
  unfold low
  pointwise [expRow]
theorem pool_raw (t : FVec Ideal S2x16384 .f32) (s : Fin 2) (d : Fin 512) :
    pool f t (ix2 s d) = ∑ n, Ideal.div (expRow t (ix2 s n)) (0 + ∑ j, expRow t (ix2 s j)) * f (ix3 s n d) := by
  pointwise [pool]
theorem pool_at (t : FVec Ideal S2x16384 .f32) (s : Fin 2) (d : Fin 512) :
    pool f t (ix2 s d) = pooled (fun n => t (ix2 s n)) (fun n d => f (ix3 s n d)) d := by
  rw [pool_raw]
  simp only [expRow_at]
  rfl
end Pool

/-! ## Classes -/

section Classes
/-- Pooled slides divided by their clipped norms. -/
def normed2 (X : FVec Ideal S2x512 .f32) : FVec Ideal S2x512 .f32 :=
  Host.divf X (broadcastInDim S2x512 ![0, 1] bcast_S2x1_S2x512_0_1 (maximumf (broadcastInDim S2x1 ![] bcast_S_S2x1 (id (constant S_ .f32 0x2B8CBCCC#32))) (Host.sqrt (broadcastInDim S2x1 ![0] bcast_S2_S2x1_0 (Host.reduceAdd (mulf X X) (constant S_ .f32 0x00000000#32) reducesTo_S2x512_S2_d1 h_S_)))))
/-- Class texts divided by their clipped norms. -/
def normed4 (X : FVec Ideal S4x512 .f32) : FVec Ideal S4x512 .f32 :=
  Host.divf X (broadcastInDim S4x512 ![0, 1] bcast_S4x1_S4x512_0_1 (maximumf (broadcastInDim S4x1 ![] bcast_S_S4x1 (id (constant S_ .f32 0x2B8CBCCC#32))) (Host.sqrt (broadcastInDim S4x1 ![0] bcast_S4_S4x1_0 (Host.reduceAdd (mulf X X) (constant S_ .f32 0x00000000#32) reducesTo_S4x512_S4_d1 h_S_)))))
/-- The greatest description of each class, coordinate by coordinate. -/
def greatest (D : FVec Ideal S4x8x512 .f32) : FVec Ideal S4x512 .f32 :=
  Host.reduce FloatOps.maximumf D (constant S_ .f32 0xFF800000#32) reducesTo_S4x8x512_S4x512_d1 h_S_
/-- Two slides against the class texts. -/
def logits (u v : FVec Ideal S2x512 .f32) (t : FVec Ideal S4x512 .f32) : FVec Ideal S2x4 .f32 :=
  addf (Host.dotGeneral dot_S2x512_S512x4_S2x4_1_0_0_1_n_n none u (transpose S512x4 [1, 0] t transposes_S4x512_S512x4_1_0)) (Host.dotGeneral dot_S2x512_S512x4_S2x4_1_0_0_1_n_n none v (transpose S512x4 [1, 0] t transposes_S4x512_S512x4_1_0))
/-- Exponentials of the classes under the greatest. -/
def expClass (l : FVec Ideal S2x4 .f32) : FVec Ideal S2x4 .f32 :=
  Host.exp (subf l (broadcastInDim S2x4 ![0, 1] bcast_S2x1_S2x4_0_1 (broadcastInDim S2x1 ![0] bcast_S2_S2x1_0 (maximumf (broadcastInDim S2 ![] bcast_S_S2 (constant S_ .f32 0xFF800000#32)) (Host.reduce FloatOps.maximumf l (constant S_ .f32 0xFF800000#32) reducesTo_S2x4_S2_d1 h_S_)))))
/-- Exponentials divided by their sum. -/
def shares (e : FVec Ideal S2x4 .f32) : FVec Ideal S2x4 .f32 :=
  Host.divf e (broadcastInDim S2x4 ![0, 1] bcast_S2x1_S2x4_0_1 (broadcastInDim S2x1 ![0] bcast_S2_S2x1_0 (Host.reduceAdd e (constant S_ .f32 0x00000000#32) reducesTo_S2x4_S2_d1 h_S_)))

theorem normed2_at (X : FVec Ideal S2x512 .f32) (b : Fin 2) (d : Fin 512) : normed2 X (ix2 b d) = unit (fun k => X (ix2 b k)) d := by
  unfold unit len sumSq eps
  pointwise [normed2]
  rfl
theorem normed4_at (X : FVec Ideal S4x512 .f32) (b : Fin 4) (d : Fin 512) : normed4 X (ix2 b d) = unit (fun k => X (ix2 b k)) d := by
  unfold unit len sumSq eps
  pointwise [normed4]
  rfl
theorem greatest_at (D : FVec Ideal S4x8x512 .f32) (c : Fin 4) (d : Fin 512) : greatest D (ix2 c d) = top fun k => D (ix3 c k d) := by
  rw [← fold_eq]
  unfold low
  pointwise [greatest]
theorem logits_at (u v : FVec Ideal S2x512 .f32) (t : FVec Ideal S4x512 .f32) (b : Fin 2) (c : Fin 4) :
    logits u v t (ix2 b c) = (∑ d, u (ix2 b d) * t (ix2 c d)) + ∑ d, v (ix2 b d) * t (ix2 c d) := by
  pointwise [logits]
theorem expClass_at (l : FVec Ideal S2x4 .f32) (b : Fin 2) (c : Fin 4) :
    expClass l (ix2 b c) = Ideal.exp (l (ix2 b c) - top fun j => l (ix2 b j)) := by
  rw [← fold_eq, ← low_max (Finset.univ.fold max low _)]
  unfold low
  pointwise [expClass]
theorem shares_at (e : FVec Ideal S2x4 .f32) (b : Fin 2) (c : Fin 4) :
    shares e (ix2 b c) = Ideal.div (e (ix2 b c)) (∑ j, e (ix2 b j)) := by
  pointwise [shares]
end Classes

end Cert.Value
end
-- ==== Proof.Value.Reference.lean ====
/- The reference's results are the kernel's, on regular inputs. -/
module

public import proofs.«01_k».proof.Proof.Value.Terms

@[expose] public section

set_option maxRecDepth 16384

noncomputable section

namespace Cert.Value

open Idealize.ShloMosaic Cert.ReferenceIdeal Cert.ReferenceIdeal.Gen

section
variable (W : FVec Ideal S512x512 .f32) (p : FVec Ideal S512 .f32) (D : FVec Ideal S4x8x512 .f32) (Wv : FVec Ideal S512x256 .f32)
  (bv : FVec Ideal S256 .f32) (Wu : FVec Ideal S512x256 .f32) (bu w : FVec Ideal S256 .f32) (a : FVec Ideal S_ .f32)

/-- The weights as the reference is given them. -/
def weights : Weights where
  W k d := W (ix2 k d)
  D i j k := D (ix3 i j k)
  Wv k h := Wv (ix2 k h)
  Wu k h := Wu (ix2 k h)
  w h := w (ix1 h)

/-- The reference's pooled slide. -/
def pooledSlide (X : FVec Ideal S2x16384x512 .f32) : FVec Ideal S2x512 .f32 :=
  pool (feats X W p) (gateArr (feats X W p) Wv Wu bv bu w a)
/-- The reference's scores of a slide. -/
def scoresTerm (X : FVec Ideal S2x16384x512 .f32) : FVec Ideal S2x16384x4 .f32 :=
  weighed (expGroup (scaled (feats X W p) D)) (sims (feats X W p) D)
/-- The reference's class probabilities. -/
def probTerm (X Y : FVec Ideal S2x16384x512 .f32) : FVec Ideal S2x4 .f32 :=
  shares (expClass (logits (normed2 (pooledSlide W p Wv bv Wu bu w a X)) (normed2 (pooledSlide W p Wv bv Wu bu w a Y)) (normed4 (greatest D))))

/-- The weights on which the two programs are compared. -/
structure Plain : Prop where
  proj_zero : ∀ d, p (ix1 d) = 0
  v_zero : ∀ h, bv (ix1 h) = 0
  u_zero : ∀ h, bu (ix1 h) = 0
  desc : ∀ i j k, ∃ r : ℝ, D (ix3 i j k) = r
  shift : ∃ r : ℝ, a ix0 = r
/-- The slides on which they are. -/
structure Tame (X : FVec Ideal S2x16384x512 .f32) : Prop where
  rows : ∀ b n, Regular (fun k d => W (ix2 k d)) fun k => X (ix3 b n k)
  slide : ∀ b, eps ≤ len (fun d => pooledSlide W p Wv bv Wu bu w a X (ix2 b d)) ∨ len (fun d => pooledSlide W p Wv bv Wu bu w a X (ix2 b d)) = 0

variable {W p D Wv bv Wu bu w a}
variable (hP : Plain p D bv bu a) {X Y : FVec Ideal S2x16384x512 .f32} (hX : Tame W p Wv bv Wu bu w a X) (hY : Tame W p Wv bv Wu bu w a Y)
include hP hX

theorem feats_eq (b : Fin 2) (n : Fin 16384) (d : Fin 512) :
    feats X W p (ix3 b n d) = feat (weights W D Wv Wu w) (fun k => X (ix3 b n k)) d := by
  rw [feats_at X W p hP.proj_zero, unit_proj_unit _ _ (hX.rows b n)]
  rfl
/-- The scores. -/
theorem scores_eq (b : Fin 2) (n : Fin 16384) (c : Fin 4) :
    scoresTerm W p D X (ix3 b n c) = score (weights W D Wv Wu w) (fun k => X (ix3 b n k)) c := by
  have hs : ∀ k, ∃ r : ℝ, sims (feats X W p) D (ix4 b n c k) = r := by
    intro k
    obtain ⟨f, hf⟩ := unit_real (proj (weights W D Wv Wu w).W (fun k => X (ix3 b n k)))
    choose g hg using hP.desc
    refine ⟨∑ d, f d * g c k d, ?_⟩
    rw [sims_at, ← sum_coe]
    refine Finset.sum_congr rfl fun d _ => ?_
    rw [feats_eq (D := D) hP hX b n d, hg, EReal.coe_mul]
    exact congrArg (· * _) (congrFun hf d)
  choose s hs using hs
  obtain ⟨σ, hσ⟩ := scale_real
  unfold scoresTerm
  rw [weighed_at]
  simp only [expGroup_at]
  have e := softmax_attn σ s (fun k => scaled (feats X W p) D (ix4 b n c k)) (fun k => by rw [scaled_at, hs, hσ])
  simp only [hs]
  rw [e]
  unfold score
  rw [hσ]
  refine congrArg (attn (σ : EReal)) (funext fun k => ?_)
  rw [← hs k, sims_at]
  simp only [feats_eq (D := D) hP hX]
  rfl
/-- The normalised pooled slide. -/
theorem pooled_slide_eq (b : Fin 2) (d : Fin 512) :
    normed2 (pooledSlide W p Wv bv Wu bu w a X) (ix2 b d) = slide (weights W D Wv Wu w) (fun n k => X (ix3 b n k)) d := by
  obtain ⟨r, hr⟩ := hP.shift
  have e : (fun d => pooledSlide W p Wv bv Wu bu w a X (ix2 b d))
      = pooled (gates (weights W D Wv Wu w) fun n k => X (ix3 b n k)) fun n => feat (weights W D Wv Wu w) fun k => X (ix3 b n k) := by
    funext d
    unfold pooledSlide
    rw [pool_at]
    have hg : ∀ n, gateArr (feats X W p) Wv Wu bv bu w a (ix2 b n) = gates (weights W D Wv Wu w) (fun n k => X (ix3 b n k)) n + (r : EReal) := by
      intro n
      rw [gateArr_at _ _ _ _ _ _ _ hP.v_zero hP.u_zero, hr]
      refine congrArg (· + (r : EReal)) (congrArg (gate _ _ _) (funext fun d => ?_))
      exact feats_eq hP hX b n d
    unfold pooled
    simp only [hg, top_shift, sub_shift]
    simp only [feats_eq (D := D) hP hX]
  have h := hX.slide b
  rw [normed2_at]
  rw [e] at h ⊢
  refine congrFun (unit_pooled _ _ (fun n d => ?_) h) d
  obtain ⟨q, hq⟩ := unit_real (proj (weights W D Wv Wu w).W (fun k => X (ix3 b n k)))
  exact ⟨q d, congrFun hq d⟩
include hY
/-- The class probabilities. -/
theorem prob_eq (b : Fin 2) (c : Fin 4) :
    probTerm W p D Wv bv Wu bu w a X Y (ix2 b c)
      = prob (weights W D Wv Wu w) (fun n k => X (ix3 b n k)) (fun n k => Y (ix3 b n k)) c := by
  have hl : ∀ c, logits (normed2 (pooledSlide W p Wv bv Wu bu w a X)) (normed2 (pooledSlide W p Wv bv Wu bu w a Y)) (normed4 (greatest D)) (ix2 b c)
      = ∑ d, (slide (weights W D Wv Wu w) (fun n k => X (ix3 b n k)) d + slide (weights W D Wv Wu w) (fun n k => Y (ix3 b n k)) d) * text (weights W D Wv Wu w) c d := by
    intro c
    obtain ⟨f, hf⟩ : ∃ f : Fin 512 → ℝ, slide (weights W D Wv Wu w) (fun n k => X (ix3 b n k)) = fun d => (f d : EReal) := unit_real _
    obtain ⟨g, hg⟩ : ∃ g : Fin 512 → ℝ, slide (weights W D Wv Wu w) (fun n k => Y (ix3 b n k)) = fun d => (g d : EReal) := unit_real _
    obtain ⟨t, ht⟩ : ∃ t : Fin 512 → ℝ, text (weights W D Wv Wu w) c = fun d => (t d : EReal) := unit_real _
    have htx : ∀ d, normed4 (greatest D) (ix2 c d) = text (weights W D Wv Wu w) c d := by
      intro d
      rw [normed4_at]
      simp only [greatest_at]
      rfl
    rw [logits_at]
    simp only [pooled_slide_eq (D := D) hP hX, pooled_slide_eq (D := D) hP hY, htx, hf, hg, ht]
    simp only [← EReal.coe_mul, ← EReal.coe_add, sum_coe, add_mul, Finset.sum_add_distrib]
  unfold probTerm
  rw [shares_at]
  simp only [expClass_at, hl]
  rfl
end

/-! ## The reference's own terms -/

section
open Cert.ReferenceIdeal.Value
variable (V : Valuation τ sig (Elt Ideal))

theorem scoresS_term : scoresS V = scoresTerm (V (Proc.devRef .tc main_arg4)) (V (Proc.devRef .tc main_arg5)) (V (Proc.devRef .tc main_arg6)) (V (Proc.devRef .tc main_arg0)) := rfl
theorem scoresL_term : scoresL V = scoresTerm (V (Proc.devRef .tc main_arg4)) (V (Proc.devRef .tc main_arg5)) (V (Proc.devRef .tc main_arg6)) (V (Proc.devRef .tc main_arg2)) := rfl
theorem prob_term : Cert.ReferenceIdeal.Value.prob V = probTerm (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg0)) (V (Proc.devRef .tc main_arg2)) := rfl
end

end Cert.Value
end
-- ==== Proof.Value.Pre.lean ====
/- The precondition read off its printed form. -/
module

public import proofs.«01_k».proof.Proof.Value.Reference
public import proofs.«01_k».proof.Pre_regular
public import Idealize.ShloMosaic.Lib.ReduceAll

@[expose] public section

set_option maxRecDepth 16384

noncomputable section

namespace Cert.Value

open Idealize.ShloMosaic

theorem regular_facts : Cert.Pre_regular.Facts where
  bcast_S_S512 := by decide
  reducesTo_S512_S_d0 := by decide
  h_S_ := by decide
  bcast_S_S256 := by decide
  reducesTo_S256_S_d0 := by decide
  bcast_S_S4x8x512 := by decide
  reducesTo_S4x8x512_S_d0_1_2 := by decide
  reducesTo_S2x16384x512_S2x16384_d2 := by decide
  bcast_S2x16384_S2x16384x1_0_1 := by decide
  bcast_S_S2x16384x1 := by decide
  bcast_S2x16384x1_S2x16384x512_0_1_2 := by decide
  bcast_S_S2x16384 := by decide
  reducesTo_S2x16384_S_d0_1 := by decide
  bcast_S512_S1x1x512_2 := by decide
  bcast_S1x1x512_S2x16384x512_0_1_2 := by decide
  bcast_S256_S1x1x256_2 := by decide
  bcast_S1x1x256_S2x16384x256_0_1_2 := by decide
  bcast_S_S2x16384x256 := by decide
  reducesTo_S2x16384_S2_d1 := by decide
  bcast_S_S2 := by decide
  bcast_S2_S2x1_0 := by decide
  bcast_S2x1_S2x16384_0_1 := by decide
  reducesTo_S2x512_S2_d1 := by decide
  reducesTo_S2_S_d0 := by decide
  dot_S2x16384x512_S512x512_S2x16384x512_2_0_01_1_n_n_wf := by decide
  dot_S2x16384x512_S512x256_S2x16384x256_2_0_01_1_n_n_wf := by decide
  dot_S2x16384x256_S256_S2x16384_2_0_01_n_n_n_wf := by decide
  dot_S2x16384_S2x16384x512_S2x512_1_1_n_2_0_0_wf := by decide

section
open Cert.Pre_regular Cert.Pre_regular.Facts
variable [Cert.Pre_regular.Facts]

/-! ## The parts of the precondition -/

/-- Every row's norm before and after, tested. -/
def rowsBits (X : FVec Ideal S2x16384x512 .f32) (W : FVec Ideal S512x512 .f32) : IVec S2x16384 1 :=
  ori (ori (andi (cmpf .oge (fn_norm (through X W)) (broadcastInDim S2x16384 ![] bcast_S_S2x16384 (constant S_ .f32 0x2B8CBCCC#32)))
      (cmpf .oge (fn_norm (through (normed X) W)) (broadcastInDim S2x16384 ![] bcast_S_S2x16384 (constant S_ .f32 0x2B8CBCCC#32))))
    (andi (cmpf .oeq (fn_norm (through X W)) (broadcastInDim S2x16384 ![] bcast_S_S2x16384 (constant S_ .f32 0x00000000#32)))
      (cmpf .oeq (fn_norm (through (normed X) W)) (broadcastInDim S2x16384 ![] bcast_S_S2x16384 (constant S_ .f32 0x00000000#32)))))
    (cmpf .oeq (fn_norm (through X W)) (broadcastInDim S2x16384 ![] bcast_S_S2x16384 (constant S_ .f32 0x7F800000#32)))
/-- Every pooled slide's norm, tested. -/
def slideBits (S : FVec Ideal S2x512 .f32) : IVec S2 1 :=
  ori (cmpf .oge (fn_norm_2 S) (broadcastInDim S2 ![] bcast_S_S2 (constant S_ .f32 0x2B8CBCCC#32)))
    (cmpf .oeq (fn_norm_2 S) (broadcastInDim S2 ![] bcast_S_S2 (constant S_ .f32 0x00000000#32)))
/-- The descriptions' entries, tested. -/
def descBits (D : FVec Ideal S4x8x512 .f32) : IVec S4x8x512 1 :=
  cmpf .olt (Host.absf D) (broadcastInDim S4x8x512 ![] bcast_S_S4x8x512 (constant S_ .f32 0x7F800000#32))
/-- A bias of 256 entries, tested. -/
def biasBits (v : FVec Ideal S256 .f32) : IVec S256 1 := cmpf .oeq v (broadcastInDim S256 ![] bcast_S_S256 (constant S_ .f32 0x00000000#32))
/-- The projection's bias, tested. -/
def projBits (v : FVec Ideal S512 .f32) : IVec S512 1 := cmpf .oeq v (broadcastInDim S512 ![] bcast_S_S512 (constant S_ .f32 0x00000000#32))
/-- The attention bias, tested. -/
def shiftBit (a : FVec Ideal S_ .f32) : IVec S_ 1 := cmpf .olt (Host.absf a) (constant S_ .f32 0x7F800000#32)

theorem or_one {c d : BitVec 1} (h : IntOp.ori c d = 1#1) : c = 1#1 ∨ d = 1#1 := by revert c d; decide
theorem bool_one {b : Bool} (h : BitVec.ofBool b = 1#1) : b = true := by revert b; decide
theorem ge_one {x y : EReal} (h : Ideal.cmp .oge x y = 1#1) : y ≤ x := of_decide_eq_true (bool_one h)
theorem eq_one {x y : EReal} (h : Ideal.cmp .oeq x y = 1#1) : x = y := of_decide_eq_true (bool_one h)
theorem lt_one {x y : EReal} (h : Ideal.cmp .olt x y = 1#1) : x < y := of_decide_eq_true (bool_one h)
theorem rowsBits_of (X : FVec Ideal S2x16384x512 .f32) (W : FVec Ideal S512x512 .f32) (h : ∀ i, rowsBits X W i = 1#1) (b : Fin 2) (n : Fin 16384) :
    Regular (fun k d => W (ix2 k d)) fun k => X (ix3 b n k) := by
  have e : ∀ Y : FVec Ideal S2x16384x512 .f32, fn_norm Y (ix2 b n) = len fun d => Y (ix3 b n d) := by
    intro Y
    unfold len sumSq
    pointwise [fn_norm]
  have hb := h (ix2 b n)
  have hr : rowsBits X W (ix2 b n) = IntOp.ori (IntOp.ori (IntOp.andi (Ideal.cmp .oge (fn_norm (through X W) (ix2 b n)) eps) (Ideal.cmp .oge (fn_norm (through (normed X) W) (ix2 b n)) eps))
      (IntOp.andi (Ideal.cmp .oeq (fn_norm (through X W) (ix2 b n)) 0) (Ideal.cmp .oeq (fn_norm (through (normed X) W) (ix2 b n)) 0)))
      (Ideal.cmp .oeq (fn_norm (through X W) (ix2 b n)) (Ideal.ofBits .f32 0x7F800000#32)) := by
    unfold eps
    pointwise [rowsBits]
  rw [hr, e, e, high_eq] at hb
  have ex : (fun d => through X W (ix3 b n d)) = proj (fun k d => W (ix2 k d)) fun k => X (ix3 b n k) := funext fun d => through_at X W b n d
  have ey : (fun d => through (normed X) W (ix3 b n d)) = proj (fun k d => W (ix2 k d)) (unit fun k => X (ix3 b n k)) := by
    funext d
    rw [through_at]
    simp only [normed_at]
  rw [ex, ey] at hb
  rcases or_one hb with hb | hb
  on_goal 2 => exact .inr (.inr (eq_one hb))
  rcases or_one hb with hb | hb
  · exact .inl ⟨ge_one (IntOp.andi_eq_one.1 hb).1, ge_one (IntOp.andi_eq_one.1 hb).2⟩
  · exact .inr (.inl ⟨eq_one (IntOp.andi_eq_one.1 hb).1, eq_one (IntOp.andi_eq_one.1 hb).2⟩)
theorem slideBits_of (S : FVec Ideal S2x512 .f32) (h : ∀ i, slideBits S i = 1#1) (b : Fin 2) :
    eps ≤ len (fun d => S (ix2 b d)) ∨ len (fun d => S (ix2 b d)) = 0 := by
  have e : fn_norm_2 S (ix1 b) = len fun d => S (ix2 b d) := by
    unfold len sumSq
    pointwise [fn_norm_2]
  have hb := h (ix1 b)
  have hr : slideBits S (ix1 b) = IntOp.ori (Ideal.cmp .oge (fn_norm_2 S (ix1 b)) eps) (Ideal.cmp .oeq (fn_norm_2 S (ix1 b)) 0) := by
    unfold eps
    pointwise [slideBits]
  rw [hr, e] at hb
  exact (or_one hb).imp ge_one eq_one
/-- An extended real of finite magnitude is real. -/
theorem real_of_abs {x : EReal} (h : max x (-x) < ⊤) : ∃ r : ℝ, x = r := by
  induction x with
  | bot => simp at h
  | top => simp at h
  | coe r => exact ⟨r, rfl⟩
theorem descBits_of (D : FVec Ideal S4x8x512 .f32) (h : ∀ i, descBits D i = 1#1) (i : Fin 4) (j : Fin 8) (k : Fin 512) : ∃ r : ℝ, D (ix3 i j k) = r := by
  have hr : descBits D (ix3 i j k) = Ideal.cmp .olt (max (D (ix3 i j k)) (-(D (ix3 i j k)))) (Ideal.ofBits .f32 0x7F800000#32) := by
    pointwise [descBits]
    rfl
  have hb := (hr.symm.trans (h _))
  rw [high_eq] at hb
  exact real_of_abs (lt_one hb)
theorem shiftBit_of (a : FVec Ideal S_ .f32) (h : shiftBit a ix0 = 1#1) : ∃ r : ℝ, a ix0 = r := by
  have hr : shiftBit a ix0 = Ideal.cmp .olt (max (a ix0) (-(a ix0))) (Ideal.ofBits .f32 0x7F800000#32) := by
    pointwise [shiftBit]
    rfl
  have hb := (hr.symm.trans h)
  rw [high_eq] at hb
  exact real_of_abs (lt_one hb)
theorem biasBits_of (v : FVec Ideal S256 .f32) (h : ∀ i, biasBits v i = 1#1) (k : Fin 256) : v (ix1 k) = 0 := by
  have hr : biasBits v (ix1 k) = Ideal.cmp .oeq (v (ix1 k)) 0 := by
    pointwise [biasBits]
  exact eq_one (hr.symm.trans (h _))
theorem projBits_of (v : FVec Ideal S512 .f32) (h : ∀ i, projBits v i = 1#1) (k : Fin 512) : v (ix1 k) = 0 := by
  have hr : projBits v (ix1 k) = Ideal.cmp .oeq (v (ix1 k)) 0 := by
    pointwise [projBits]
  exact eq_one (hr.symm.trans (h _))

/-! ## The whole -/

variable (X : FVec Ideal S2x16384x512 .f32) (cX : FVec Ideal S2x16384x2 .f32) (Y : FVec Ideal S2x16384x512 .f32) (cY : FVec Ideal S2x16384x2 .f32)
  (W : FVec Ideal S512x512 .f32) (p : FVec Ideal S512 .f32) (D : FVec Ideal S4x8x512 .f32) (Wv : FVec Ideal S512x256 .f32) (bv : FVec Ideal S256 .f32)
  (Wu : FVec Ideal S512x256 .f32) (bu w : FVec Ideal S256 .f32) (a : FVec Ideal S_ .f32)

theorem fn_eq : fn (F := Ideal) X cX Y cY W p D Wv bv Wu bu w a
    = andi (andi (andi (andi (andi (andi (andi (Host.reduce IntOp.andi (projBits p) (constantI S_ 1 1#1) reducesTo_S512_S_d0 h_S_) (Host.reduce IntOp.andi (biasBits bv) (constantI S_ 1 1#1) reducesTo_S256_S_d0 h_S_))
            (Host.reduce IntOp.andi (biasBits bu) (constantI S_ 1 1#1) reducesTo_S256_S_d0 h_S_))
          (andi (Host.reduce IntOp.andi (descBits D) (constantI S_ 1 1#1) reducesTo_S4x8x512_S_d0_1_2 h_S_) (shiftBit a)))
        (Host.reduce IntOp.andi (rowsBits X W) (constantI S_ 1 1#1) reducesTo_S2x16384_S_d0_1 h_S_))
      (Host.reduce IntOp.andi (rowsBits Y W) (constantI S_ 1 1#1) reducesTo_S2x16384_S_d0_1 h_S_))
    (Host.reduce IntOp.andi (slideBits (pooledSlide W p Wv bv Wu bu w a X)) (constantI S_ 1 1#1) reducesTo_S2_S_d0 h_S_))
  (Host.reduce IntOp.andi (slideBits (pooledSlide W p Wv bv Wu bu w a Y)) (constantI S_ 1 1#1) reducesTo_S2_S_d0 h_S_) := rfl

variable {X cX Y cY W p D Wv bv Wu bu w a}

/-- What the precondition says. -/
theorem regular_iff (h : fn (F := Ideal) X cX Y cY W p D Wv bv Wu bu w a = fun _ => 1#1) :
    Plain p D bv bu a ∧ Tame W p Wv bv Wu bu w a X ∧ Tame W p Wv bv Wu bu w a Y := by
  have h0 := congrFun ((fn_eq X cX Y cY W p D Wv bv Wu bu w a).symm.trans h) ix0
  simp only [andi_apply, IntOp.andi_eq_one] at h0
  obtain ⟨⟨⟨⟨⟨⟨⟨hp, hv⟩, hu⟩, hd, ha⟩, hx⟩, hy⟩, hs⟩, hl⟩ := h0
  refine ⟨⟨?_, ?_, ?_, ?_, ?_⟩, ⟨?_, ?_⟩, ?_, ?_⟩
  · exact projBits_of p (Host.reduce_andi_all _ _ _ _ _ hp)
  · exact biasBits_of bv (Host.reduce_andi_all _ _ _ _ _ hv)
  · exact biasBits_of bu (Host.reduce_andi_all _ _ _ _ _ hu)
  · exact descBits_of D (Host.reduce_andi_all _ _ _ _ _ hd)
  · exact shiftBit_of a ha
  · exact rowsBits_of X W (Host.reduce_andi_all _ _ _ _ _ hx)
  · exact slideBits_of _ (Host.reduce_andi_all _ _ _ _ _ hs)
  · exact rowsBits_of Y W (Host.reduce_andi_all _ _ _ _ _ hy)
  · exact slideBits_of _ (Host.reduce_andi_all _ _ _ _ _ hl)
end

end Cert.Value
end
-- ==== Proof.Value.Agree.lean ====
/- The two programs' results are equal, on regular inputs. -/
module

public import proofs.«01_k».proof.Proof.Value.KernelRun
public import proofs.«01_k».proof.Proof.Value.Pre

@[expose] public section

set_option maxRecDepth 16384

noncomputable section

namespace Cert.Value

open Idealize.ShloMosaic Idealize.ShloMosaic.TcCoe

section
variable {W W' : FVec Ideal Cert.ReferenceIdeal.S512x512 .f32} {p p' : FVec Ideal Cert.ReferenceIdeal.S512 .f32} {D D' : FVec Ideal Cert.ReferenceIdeal.S4x8x512 .f32}
  {Wv Wv' Wu Wu' : FVec Ideal Cert.ReferenceIdeal.S512x256 .f32} {bv bv' bu bu' w w' : FVec Ideal Cert.ReferenceIdeal.S256 .f32}
  {a a' : FVec Ideal Cert.ReferenceIdeal.S_ .f32} {X X' Y Y' : FVec Ideal Cert.ReferenceIdeal.S2x16384x512 .f32}

theorem scoresTerm_congr (hW : W' = W) (hp : p' = p) (hD : D' = D) (hX : X' = X) : scoresTerm W' p' D' X' = scoresTerm W p D X := by
  subst hW hp hD hX; rfl
theorem probTerm_congr (hW : W' = W) (hp : p' = p) (hD : D' = D) (hWv : Wv' = Wv) (hbv : bv' = bv) (hWu : Wu' = Wu) (hbu : bu' = bu) (hw : w' = w)
    (ha : a' = a) (hX : X' = X) (hY : Y' = Y) : probTerm W' p' D' Wv' bv' Wu' bu' w' a' X' Y' = probTerm W p D Wv bv Wu bu w a X Y := by
  subst hW hp hD hWv hbv hWu hbu hw ha hX hY; rfl
end

variable (m : (ℓ : Loc Cert.KernelIdeal.nD Cert.KernelIdeal.τ Cert.KernelIdeal.sig) → Buf (Elt Ideal) ℓ) (c : Dev Cert.KernelIdeal.nD)

section Kernel
open Cert.KernelIdeal
/-- The first slide as an array. -/
def argXs : FVec Ideal Cert.ReferenceIdeal.S2x16384x512 .f32 := m ((c : Thread nD τ).loc main_arg0)
/-- The second slide as an array. -/
def argXl : FVec Ideal Cert.ReferenceIdeal.S2x16384x512 .f32 := m ((c : Thread nD τ).loc main_arg2)
/-- The projection as an array. -/
def argW : FVec Ideal Cert.ReferenceIdeal.S512x512 .f32 := m ((c : Thread nD τ).loc main_arg4)
/-- The projection's bias. -/
def argP : FVec Ideal Cert.ReferenceIdeal.S512 .f32 := m ((c : Thread nD τ).loc main_arg5)
/-- The descriptions as an array. -/
def argD : FVec Ideal Cert.ReferenceIdeal.S4x8x512 .f32 := m ((c : Thread nD τ).loc main_arg6)
/-- The first branch's weights. -/
def argWv : FVec Ideal Cert.ReferenceIdeal.S512x256 .f32 := m ((c : Thread nD τ).loc main_arg7)
/-- The first branch's bias. -/
def argBv : FVec Ideal Cert.ReferenceIdeal.S256 .f32 := m ((c : Thread nD τ).loc main_arg8)
/-- The second branch's weights. -/
def argWu : FVec Ideal Cert.ReferenceIdeal.S512x256 .f32 := m ((c : Thread nD τ).loc main_arg9)
/-- The second branch's bias. -/
def argBu : FVec Ideal Cert.ReferenceIdeal.S256 .f32 := m ((c : Thread nD τ).loc main_arg10)
/-- The attention weights. -/
def argA : FVec Ideal Cert.ReferenceIdeal.S256 .f32 := m ((c : Thread nD τ).loc main_arg11)
/-- The attention bias. -/
def argS : FVec Ideal Cert.ReferenceIdeal.S_ .f32 := m ((c : Thread nD τ).loc main_arg12)

/-- The inputs of one device are regular. -/
structure RegularAt : Prop where
  plain : Plain (argP m c) (argD m c) (argBv m c) (argBu m c) (argS m c)
  first : Tame (argW m c) (argP m c) (argWv m c) (argBv m c) (argWu m c) (argBu m c) (argA m c) (argS m c) (argXs m c)
  second : Tame (argW m c) (argP m c) (argWv m c) (argBv m c) (argWu m c) (argBu m c) (argA m c) (argS m c) (argXl m c)

variable {m c} (h : RegularAt m c)
include h
theorem scoresS_agree : scoresTerm (argW m c) (argP m c) (argD m c) (argXs m c) = scoresSOf m c := by
  funext j
  rw [show j = ix3 (j 0) (j 1) (j 2) from eq_ix3 j]
  exact scores_eq h.plain h.first (j 0) (j 1) (j 2)
theorem scoresL_agree : scoresTerm (argW m c) (argP m c) (argD m c) (argXl m c) = scoresLOf m c := by
  funext j
  rw [show j = ix3 (j 0) (j 1) (j 2) from eq_ix3 j]
  exact scores_eq h.plain h.second (j 0) (j 1) (j 2)
theorem prob_agree : probTerm (argW m c) (argP m c) (argD m c) (argWv m c) (argBv m c) (argWu m c) (argBu m c) (argA m c) (argS m c) (argXs m c) (argXl m c) = probOf m c := by
  funext j
  rw [show j = ix2 (j 0) (j 1) from eq_ix2 j]
  exact prob_eq h.plain h.first h.second (j 0) (j 1)
end Kernel

section Reference
open Cert.ReferenceIdeal Cert.ReferenceIdeal.Value
variable (V : Valuation τ sig (Elt Ideal))

/-- The reference's arguments are the kernel's. -/
structure SameArgs : Prop where
  xs : V (Proc.devRef .tc main_arg0) = argXs m c
  xl : V (Proc.devRef .tc main_arg2) = argXl m c
  W : V (Proc.devRef .tc main_arg4) = argW m c
  p : V (Proc.devRef .tc main_arg5) = argP m c
  D : V (Proc.devRef .tc main_arg6) = argD m c
  Wv : V (Proc.devRef .tc main_arg7) = argWv m c
  bv : V (Proc.devRef .tc main_arg8) = argBv m c
  Wu : V (Proc.devRef .tc main_arg9) = argWu m c
  bu : V (Proc.devRef .tc main_arg10) = argBu m c
  w : V (Proc.devRef .tc main_arg11) = argA m c
  s : V (Proc.devRef .tc main_arg12) = argS m c

variable {m c V} (h : RegularAt m c) (e : SameArgs m c V)
include h e
theorem scoresS_same : scoresS V = scoresSOf m c :=
  (scoresS_term V).trans ((scoresTerm_congr e.W e.p e.D e.xs).trans (scoresS_agree h))
theorem scoresL_same : scoresL V = scoresLOf m c :=
  (scoresL_term V).trans ((scoresTerm_congr e.W e.p e.D e.xl).trans (scoresL_agree h))
theorem prob_same : Cert.ReferenceIdeal.Value.prob V = probOf m c :=
  (prob_term V).trans ((probTerm_congr e.W e.p e.D e.Wv e.bv e.Wu e.bu e.w e.s e.xs e.xl).trans (prob_agree h))
theorem label_same : label V = labels (probOf m c) := by
  rw [← prob_same h e]
  rfl
end Reference

end Cert.Value
end
-- ==== Proof.lean ====
/-
  The proof of the certificate's claim: it puts together the kernel's run, the reference's run and the equation.
-/
module

public import proofs.«01_k».proof.Defs
public import proofs.«01_k».proof.Proof.Kernel.Launch
public import proofs.«01_k».proof.Proof.KernelIdeal.Launch
public import proofs.«01_k».proof.Proof.ReferenceIdeal.Run
public import proofs.«01_k».proof.Proof.Value.Agree
public import Idealize.ShloMosaic.Init

@[expose] public section

noncomputable section

namespace Cert.Proof

open Idealize.ShloMosaic Idealize.SL.Sem

/-- On regular inputs the kernel's results are the reference's. -/
theorem algebraic : Cert.algebraic_KernelIdeal_ReferenceIdeal_pre_regular (hKernelIdeal := Cert.KernelIdeal.Gen.facts)
    (hReferenceIdeal := Cert.ReferenceIdeal.Gen.facts) (hPre_regular := Cert.Value.regular_facts) := by
  intro m g m' g' hpre hargs
  have hr : ∀ c, Cert.Value.RegularAt m c := fun c =>
    let _ := Cert.Value.regular_facts
    have h := Cert.Value.regular_iff (hpre c)
    ⟨h.1, h.2.1, h.2.2⟩
  have he : ∀ c, Cert.Value.SameArgs m c (StableHlo.launchContents m' c) := fun c =>
    have h := hargs c
    ⟨h.1, h.2.2.1, h.2.2.2.2.1, h.2.2.2.2.2.1, h.2.2.2.2.2.2.1, h.2.2.2.2.2.2.2.1, h.2.2.2.2.2.2.2.2.1, h.2.2.2.2.2.2.2.2.2.1,
      h.2.2.2.2.2.2.2.2.2.2.1, h.2.2.2.2.2.2.2.2.2.2.2.1, h.2.2.2.2.2.2.2.2.2.2.2.2⟩
  refine ⟨fun c => Cert.Value.probOf m c, fun c => Cert.Value.labels (Cert.Value.probOf m c), fun c => Cert.Value.scoresSOf m c,
    fun c => Cert.Value.scoresLOf m c, ?_, ?_⟩
  · exact (θ_run Cert.KernelIdeal.defs _ _).mono
      (fun _ h c => ⟨(h.1 c).1, (h.1 c).2.1, (h.1 c).2.2.1, (h.1 c).2.2.2, h.2.1 c⟩)
      (θ_run_and (Cert.Value.kernel_run m g) (Cert.KernelIdeal.Gen.quiescent m g))
  · exact (θ_run Cert.ReferenceIdeal.defs _ _).mono
      (fun _ h c => ⟨(h.1 c).1.trans (Cert.Value.prob_same (hr c) (he c)), (h.1 c).2.1.trans (Cert.Value.label_same (hr c) (he c)),
        (h.1 c).2.2.1.trans (Cert.Value.scoresS_same (hr c) (he c)), (h.1 c).2.2.2.1.trans (Cert.Value.scoresL_same (hr c) (he c)),
        (h.1 c).2.2.2.2⟩) (Cert.ReferenceIdeal.Value.run m' g')

/-- Every claim of the certificate. -/
theorem claim : Cert.Claim :=
  ⟨Cert.Kernel.Gen.facts, Cert.KernelIdeal.Gen.facts, Cert.ReferenceIdeal.Gen.facts, Cert.Value.regular_facts,
    fun m g _ => Cert.Kernel.Gen.quiescent m g,
    fun m g _ => Cert.KernelIdeal.Gen.quiescent m g,
    fun m g _ => Cert.KernelIdeal.Gen.quiescent m g,
    fun m g _ => (θ_run Cert.ReferenceIdeal.defs _ _).mono
      (fun _ h => ⟨fun c => (h.1 c).2.2.2.2, h.2⟩) (Cert.ReferenceIdeal.Value.run m g),
    fun m g _ => (θ_run Cert.ReferenceIdeal.defs _ _).mono
      (fun _ h => ⟨fun c => (h.1 c).2.2.2.2, h.2⟩) (Cert.ReferenceIdeal.Value.run m g),
    IdealRules.named_const.statement Cert.KernelIdeal.κ "eps_sq" .f32 0x179ABE15#32 _ rfl, algebraic⟩

end Cert.Proof

end
